-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Reference [hPre_experts_exist : Cert.Pre_experts_exist.Facts] (m : (ℓ : Loc Cert.Reference.nD Cert.Reference.τ Cert.Reference.sig) → Buf (Elt Bits) ℓ) : Prop :=
  ∀ c : Dev Cert.Reference.nD,
    (Cert.Pre_experts_exist.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5))) = (fun _ => 1#1)

def Pre_Kernel2 [hPre_experts_exist2 : Cert.Pre_experts_exist2.Facts] (m : (ℓ : Loc Cert.Kernel2.nD Cert.Kernel2.τ Cert.Kernel2.sig) → Buf (Elt Bits) ℓ) : Prop :=
  ∀ c : Dev Cert.Kernel2.nD,
    (Cert.Pre_experts_exist2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_exist2 : Cert.Pre_experts_exist2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_exist2 [hPre_experts_exist2 : Cert.Pre_experts_exist2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Reference [hReference : Cert.Reference.Facts] [hPre_experts_exist : Cert.Pre_experts_exist.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] [hPre_experts_exist2 : Cert.Pre_experts_exist2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_exist2 : Cert.Pre_experts_exist2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_exist2 [hReference2Ideal : Cert.Reference2Ideal.Facts] [hPre_experts_exist2 : Cert.Pre_experts_exist2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_exist2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def bitexact_Kernel_Reference [hKernel : Cert.Kernel.Facts] [hReference : Cert.Reference.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def preserves_Kernel2_Kernel2Ideal : Prop :=
  IdealRules.bf16_pair.Statement Cert.Kernel2Ideal.S2048x512 Cert.Kernel2Ideal.S1024x512
  ∧ IdealRules.bf16_pair.PackStatement Cert.Kernel2Ideal.S1024x512

def algebraic_Kernel2Ideal_Reference2Ideal [hKernel2Ideal : Cert.Kernel2Ideal.Facts] [hReference2Ideal : Cert.Reference2Ideal.Facts] [hPre_experts_exist2 : Cert.Pre_experts_exist2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v141) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.bf16_pair.Statement Cert.Kernel4Ideal.S2048x512 Cert.Kernel4Ideal.S1024x512

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v28_0)) (v1 : (c : Dev Cert.Kernel5Ideal.nD) → Buf (Elt Ideal) ((c.tc : Thread Cert.Kernel5Ideal.nD Cert.Kernel5Ideal.τ).loc Cert.Kernel5Ideal.main_v28_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28_0) = v0 c
          ∧ r.2.mem ((c.tc : Thread Cert.Kernel5Ideal.nD Cert.Kernel5Ideal.τ).loc Cert.Kernel5Ideal.main_v28_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_v63) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_experts_exist : Cert.Pre_experts_exist.Facts) (hPre_experts_exist2 : Cert.Pre_experts_exist2.Facts),
    quiescent_Kernel (hKernel := hKernel) (hPre_experts_exist := hPre_experts_exist)
    ∧ quiescent_Reference (hReference := hReference) (hPre_experts_exist := hPre_experts_exist)
    ∧ quiescent_Kernel2 (hKernel2 := hKernel2) (hPre_experts_exist2 := hPre_experts_exist2)
    ∧ quiescent_Kernel2Ideal (hKernel2Ideal := hKernel2Ideal) (hPre_experts_exist2 := hPre_experts_exist2)
    ∧ quiescent_Reference2Ideal (hReference2Ideal := hReference2Ideal)
    ∧ quiescent_Reference2Ideal_pre_experts_exist2 (hReference2Ideal := hReference2Ideal) (hPre_experts_exist2 := hPre_experts_exist2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ bitexact_Kernel_Reference (hKernel := hKernel) (hReference := hReference) (hPre_experts_exist := hPre_experts_exist)
    ∧ preserves_Kernel2_Kernel2Ideal
    ∧ algebraic_Kernel2Ideal_Reference2Ideal (hKernel2Ideal := hKernel2Ideal) (hReference2Ideal := hReference2Ideal) (hPre_experts_exist2 := hPre_experts_exist2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts_exist.lean ====
abbrev S40960x512 : Shape := ⟨2, ![40960, 512]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S40960x512 .f32) (main_arg1 : IVec S40 32) (main_arg2 : IVec S1 32) (main_arg3 : FVec F S8x1024x3584 .f32) (main_arg4 : FVec F S8x1024x3584 .f32) (main_arg5 : FVec F S8x3584x1024 .f32) : IVec S40 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  main_v4
-- ==== Pre_experts_exist2.lean ====
abbrev S81920x512 : Shape := ⟨2, ![81920, 512]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S81920x512 .bf16) (main_arg1 : IVec S40 32) (main_arg2 : IVec S1 32) (main_arg3 : FVec F S8x1024x3584 .f32) (main_arg4 : FVec F S8x1024x3584 .f32) (main_arg5 : FVec F S8x3584x1024 .f32) : IVec S40 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  main_v4
-- ==== Kernel.lean ====
abbrev S40960x512 : Shape := ⟨2, ![40960, 512]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S1024x512 : Shape := ⟨2, ![1024, 512]⟩
abbrev S1x1024x512 : Shape := ⟨3, ![1, 1024, 512]⟩
abbrev S1x512x1024 : Shape := ⟨3, ![1, 512, 1024]⟩
abbrev S1024x1024 : Shape := ⟨2, ![1024, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 5
  | .vmem => 12
  | .smem => 2
  | _ => 0

abbrev bufTy : (tb : Table) → Fin (tcTables nBuf tb) → BufTy
  | .hbm, ⟨0, _⟩ => ⟨S40960x512, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S40960x512, .f32⟩
  | .local _ .vmem, ⟨0, _⟩ => ⟨S1024x512, .f32⟩
  | .local _ .vmem, ⟨1, _⟩ => ⟨S1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x512, .f32⟩
  | .local _ .vmem, ⟨9, _⟩ => ⟨S1024x512, .f32⟩
  | .local _ .vmem, ⟨10, _⟩ => ⟨S1024x1024, .f32⟩
  | .local _ .vmem, ⟨11, _⟩ => ⟨S1024x1024, .bf16⟩
  | .local _ .smem, ⟨0, _⟩ => ⟨S40, .i32⟩
  | .local _ .smem, ⟨1, _⟩ => ⟨S1, .i32⟩
  | _, _ => ⟨S40960x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![40, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c6_i32_39 : BitVec 32 := 6#32
  let v63 : BitVec 1 := Scalar.cmpi .eq arg1 c6_i32_39
  let v64 : BitVec 32 := Scalar.extui v63
  let c0_i32_40 : BitVec 32 := 0#32
  let v65 : BitVec 1 := Scalar.cmpi .ne v64 c0_i32_40
  v65

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c6_i32 : BitVec 32 := 6#32
  let v5 : BitVec 1 := Scalar.cmpi .eq arg1 c6_i32
  let v6 : BitVec 1 := Scalar.andi v4 v5
  let v7 : BitVec 32 := Scalar.extui v6
  let c0_i32_0 : BitVec 32 := 0#32
  let v8 : BitVec 1 := Scalar.cmpi .ne v7 c0_i32_0
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference.lean ====
abbrev S40960x512 : Shape := ⟨2, ![40960, 512]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S1024x512 : Shape := ⟨2, ![1024, 512]⟩
abbrev S1024x1024 : Shape := ⟨2, ![1024, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 7
  | .vmem => 5
  | .smem => 2
  | _ => 0

abbrev bufTy : (tb : Table) → Fin (tcTables nBuf tb) → BufTy
  | .hbm, ⟨0, _⟩ => ⟨S40960x512, .f32⟩
  | .hbm, ⟨1, _⟩ => ⟨S40, .i32⟩
  | .hbm, ⟨2, _⟩ => ⟨S1, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S40960x512, .f32⟩
  | .local _ .vmem, ⟨0, _⟩ => ⟨S40960x512, .f32⟩
  | .local _ .vmem, ⟨1, _⟩ => ⟨S8x1024x3584, .f32⟩
  | .local _ .vmem, ⟨2, _⟩ => ⟨S8x1024x3584, .f32⟩
  | .local _ .vmem, ⟨3, _⟩ => ⟨S8x3584x1024, .f32⟩
  | .local _ .vmem, ⟨4, _⟩ => ⟨S40960x512, .f32⟩
  | .local _ .smem, ⟨0, _⟩ => ⟨S40, .i32⟩
  | .local _ .smem, ⟨1, _⟩ => ⟨S1, .i32⟩
  | _, _ => ⟨S40960x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c40_i32 : BitVec 32 := 40#32
  let v0 : BitVec 32 := Scalar.addi c0_i32 c40_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.muli arg7 c1024_i32
  v1
def k0_off1 (k0_t1 : Fin k0_t1_loop.trips) : Fin 1 → Nat :=
  let c0_i32 : BitVec 32 := 0#32
  let c1_i32 : BitVec 32 := 1#32
  let arg7 : BitVec 32 := Scf.iv c0_i32 c1_i32 k0_t1
  let v3 : Index := Scalar.indexCast arg7
  ![v3.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.muli arg7 c1024_i32
  let v2 : BitVec 32 := v1
  let v5 : Index := Scalar.indexCast v2
  let c0 : Index := 0#32
  ![v5.toNat, 0]
@[reducible] def k0_t2_loop : Scf.Loop 32 :=
  let c0_i32_1 : BitVec 32 := 0#32
  let c14_i32 : BitVec 32 := 14#32
  let v13 : BitVec 32 := Scalar.addi c0_i32_1 c14_i32
  let c1_i32_2 : BitVec 32 := 1#32
  ⟨c0_i32_1, v13, c1_i32_2⟩
def k0_mult2 (k0_t2 : Fin k0_t2_loop.trips) : BitVec 32 :=
  let c0_i32_1 : BitVec 32 := 0#32
  let c1_i32_2 : BitVec 32 := 1#32
  let arg8 : BitVec 32 := Scf.iv c0_i32_1 c1_i32_2 k0_t2
  let c256_i32 : BitVec 32 := 256#32
  let v25 : BitVec 32 := Scalar.muli arg8 c256_i32
  v25
def k0_off3 (v4 : BitVec 32) (k0_t2 : Fin k0_t2_loop.trips) : Fin 3 → Nat :=
  let v27 : Index := Scalar.indexCast v4
  let c0_7 : Index := 0#32
  let c0_i32_1 : BitVec 32 := 0#32
  let c1_i32_2 : BitVec 32 := 1#32
  let arg8 : BitVec 32 := Scf.iv c0_i32_1 c1_i32_2 k0_t2
  let c256_i32 : BitVec 32 := 256#32
  let v25 : BitVec 32 := Scalar.muli arg8 c256_i32
  let v26 : BitVec 32 := v25
  let v28 : Index := Scalar.indexCast v26
  ![v27.toNat, 0, v28.toNat]

def k0_off4 (v4 : BitVec 32) (k0_t2 : Fin k0_t2_loop.trips) : Fin 3 → Nat :=
  let v47 : Index := Scalar.indexCast v4
  let c0_i32_1 : BitVec 32 := 0#32
  let c1_i32_2 : BitVec 32 := 1#32
  let arg8 : BitVec 32 := Scf.iv c0_i32_1 c1_i32_2 k0_t2
  let c256_i32 : BitVec 32 := 256#32
  let v25 : BitVec 32 := Scalar.muli arg8 c256_i32
  let v26 : BitVec 32 := v25
  let v48 : Index := Scalar.indexCast v26
  let c0_13 : Index := 0#32
  ![v47.toNat, v48.toNat, 0]

def k0_chk1 (v4 : BitVec 32) : Prop :=
  (∀ k0_t2 : Fin k0_t2_loop.trips, ∀ a, (k0_off3 v4 k0_t2) a + S1x1024x256.size a ≤ S8x1024x3584.size a) ∧
  (∀ k0_t2 : Fin k0_t2_loop.trips, ∀ a, (k0_off4 v4 k0_t2) a + S1x256x1024.size a ≤ S8x3584x1024.size a)
theorem k0_off3_inb : ∀ (v4 : BitVec 32) (k0_hw1 : k0_chk1 v4) (k0_t2 : Fin k0_t2_loop.trips), ∀ a, (k0_off3 v4 k0_t2) a + S1x1024x256.size a ≤ S8x1024x3584.size a := fun v4 k0_hw1 k0_t2 => k0_hw1.1 k0_t2
theorem k0_off4_inb : ∀ (v4 : BitVec 32) (k0_hw1 : k0_chk1 v4) (k0_t2 : Fin k0_t2_loop.trips), ∀ a, (k0_off4 v4 k0_t2) a + S1x256x1024.size a ≤ S8x3584x1024.size a := fun v4 k0_hw1 k0_t2 => k0_hw1.2 k0_t2

def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.muli arg7 c1024_i32
  let v2 : BitVec 32 := v1
  let v23 : Index := Scalar.indexCast v2
  let c0_6 : Index := 0#32
  ![v23.toNat, 0]
abbrev stage0_0 : Fin 1 → Memref sig .tc .smem S40 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40960x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x3584x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40960x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel2.lean ====
abbrev S81920x512 : Shape := ⟨2, ![81920, 512]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S2048x512 : Shape := ⟨2, ![2048, 512]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 5
  | .vmem => 12
  | .smem => 2
  | _ => 0

abbrev bufTy : (tb : Table) → Fin (tcTables nBuf tb) → BufTy
  | .hbm, ⟨0, _⟩ => ⟨S81920x512, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S81920x512, .bf16⟩
  | .local _ .vmem, ⟨0, _⟩ => ⟨S2048x512, .bf16⟩
  | .local _ .vmem, ⟨1, _⟩ => ⟨S2048x512, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S2048x512, .bf16⟩
  | .local _ .vmem, ⟨9, _⟩ => ⟨S2048x512, .bf16⟩
  | .local _ .vmem, ⟨10, _⟩ => ⟨S1024x1024, .f32⟩
  | .local _ .vmem, ⟨11, _⟩ => ⟨S1024x1024, .bf16⟩
  | .local _ .smem, ⟨0, _⟩ => ⟨S40, .i32⟩
  | .local _ .smem, ⟨1, _⟩ => ⟨S1, .i32⟩
  | _, _ => ⟨S81920x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![40, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c6_i32_39 : BitVec 32 := 6#32
  let v63 : BitVec 1 := Scalar.cmpi .eq arg1 c6_i32_39
  let v64 : BitVec 32 := Scalar.extui v63
  let c0_i32_40 : BitVec 32 := 0#32
  let v65 : BitVec 1 := Scalar.cmpi .ne v64 c0_i32_40
  v65

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c6_i32 : BitVec 32 := 6#32
  let v5 : BitVec 1 := Scalar.cmpi .eq arg1 c6_i32
  let v6 : BitVec 1 := Scalar.andi v4 v5
  let v7 : BitVec 32 := Scalar.extui v6
  let c0_i32_0 : BitVec 32 := 0#32
  let v8 : BitVec 1 := Scalar.cmpi .ne v7 c0_i32_0
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Kernel2Ideal.lean ====
variable {F : FTy → Type} [FloatOps F]
-- ==== Reference2Ideal.lean ====
abbrev S81920x512 : Shape := ⟨2, ![81920, 512]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S40960x1024 : Shape := ⟨2, ![40960, 1024]⟩
abbrev S40x1 : Shape := ⟨2, ![40, 1]⟩
abbrev S40x1024 : Shape := ⟨2, ![40, 1024]⟩
abbrev S40960x1 : Shape := ⟨2, ![40960, 1]⟩
abbrev S_ : Shape := ⟨0, ![]⟩
abbrev S1x1024x3584 : Shape := ⟨3, ![1, 1024, 3584]⟩
abbrev S1024x3584 : Shape := ⟨2, ![1024, 3584]⟩
abbrev S40960x3584 : Shape := ⟨2, ![40960, 3584]⟩
abbrev S1x3584x1024 : Shape := ⟨3, ![1, 3584, 1024]⟩
abbrev S3584x1024 : Shape := ⟨2, ![3584, 1024]⟩

abbrev nBuf : Space → Nat
  | .hbm => 253
  | .vmem => 0
  | .smem => 0
  | _ => 0

abbrev hbmTy0_0 (i : Nat) : BufTy := match i % 128 with
  | 0 => ⟨S81920x512, .bf16⟩
  | 1 => ⟨S40, .i32⟩
  | 2 => ⟨S1, .i32⟩
  | 3 => ⟨S8x1024x3584, .f32⟩
  | 4 => ⟨S8x1024x3584, .f32⟩
  | 5 => ⟨S8x3584x1024, .f32⟩
  | 6 => ⟨S81920x512, .f32⟩
  | 7 => ⟨S40960x1024, .f32⟩
  | 8 => ⟨S40x1, .i32⟩
  | 9 => ⟨S40x1024, .i32⟩
  | 10 => ⟨S40960x1, .i32⟩
  | 11 => ⟨S40, .i32⟩
  | 12 => ⟨S40, .i32⟩
  | 13 => ⟨S40, .i1⟩
  | 14 => ⟨S40x1, .i1⟩
  | 15 => ⟨S40x1024, .i1⟩
  | 16 => ⟨S40960x1, .i1⟩
  | 17 => ⟨S_, .f32⟩
  | 18 => ⟨S40960x1024, .f32⟩
  | 19 => ⟨S1x1024x3584, .f32⟩
  | 20 => ⟨S1024x3584, .f32⟩
  | 21 => ⟨S40960x3584, .f32⟩
  | 22 => ⟨S40960x3584, .f32⟩
  | 23 => ⟨S40960x3584, .f32⟩
  | 24 => ⟨S_, .f32⟩
  | 25 => ⟨S40960x3584, .f32⟩
  | 26 => ⟨S40960x3584, .f32⟩
  | 27 => ⟨S_, .f32⟩
  | 28 => ⟨S40960x3584, .f32⟩
  | 29 => ⟨S40960x3584, .f32⟩
  | 30 => ⟨S40960x3584, .f32⟩
  | 31 => ⟨S1x1024x3584, .f32⟩
  | 32 => ⟨S1024x3584, .f32⟩
  | 33 => ⟨S40960x3584, .f32⟩
  | 34 => ⟨S40960x3584, .f32⟩
  | 35 => ⟨S1x3584x1024, .f32⟩
  | 36 => ⟨S3584x1024, .f32⟩
  | 37 => ⟨S40960x1024, .f32⟩
  | 38 => ⟨S_, .i32⟩
  | 39 => ⟨S40960x1, .i32⟩
  | 40 => ⟨S40960x1, .i1⟩
  | 41 => ⟨S40960x1, .i1⟩
  | 42 => ⟨S_, .f32⟩
  | 43 => ⟨S_, .f32⟩
  | 44 => ⟨S40960x1024, .i1⟩
  | 45 => ⟨S40960x1024, .f32⟩
  | 46 => ⟨S40960x1024, .f32⟩
  | 47 => ⟨S40960x1024, .f32⟩
  | 48 => ⟨S1x1024x3584, .f32⟩
  | 49 => ⟨S1024x3584, .f32⟩
  | 50 => ⟨S40960x3584, .f32⟩
  | 51 => ⟨S40960x3584, .f32⟩
  | 52 => ⟨S40960x3584, .f32⟩
  | 53 => ⟨S_, .f32⟩
  | 54 => ⟨S40960x3584, .f32⟩
  | 55 => ⟨S40960x3584, .f32⟩
  | 56 => ⟨S_, .f32⟩
  | 57 => ⟨S40960x3584, .f32⟩
  | 58 => ⟨S40960x3584, .f32⟩
  | 59 => ⟨S40960x3584, .f32⟩
  | 60 => ⟨S1x1024x3584, .f32⟩
  | 61 => ⟨S1024x3584, .f32⟩
  | 62 => ⟨S40960x3584, .f32⟩
  | 63 => ⟨S40960x3584, .f32⟩
  | 64 => ⟨S1x3584x1024, .f32⟩
  | 65 => ⟨S3584x1024, .f32⟩
  | 66 => ⟨S40960x1024, .f32⟩
  | 67 => ⟨S_, .i32⟩
  | 68 => ⟨S40960x1, .i32⟩
  | 69 => ⟨S40960x1, .i1⟩
  | 70 => ⟨S40960x1, .i1⟩
  | 71 => ⟨S_, .f32⟩
  | 72 => ⟨S_, .f32⟩
  | 73 => ⟨S40960x1024, .i1⟩
  | 74 => ⟨S40960x1024, .f32⟩
  | 75 => ⟨S40960x1024, .f32⟩
  | 76 => ⟨S40960x1024, .f32⟩
  | 77 => ⟨S1x1024x3584, .f32⟩
  | 78 => ⟨S1024x3584, .f32⟩
  | 79 => ⟨S40960x3584, .f32⟩
  | 80 => ⟨S40960x3584, .f32⟩
  | 81 => ⟨S40960x3584, .f32⟩
  | 82 => ⟨S_, .f32⟩
  | 83 => ⟨S40960x3584, .f32⟩
  | 84 => ⟨S40960x3584, .f32⟩
  | 85 => ⟨S_, .f32⟩
  | 86 => ⟨S40960x3584, .f32⟩
  | 87 => ⟨S40960x3584, .f32⟩
  | 88 => ⟨S40960x3584, .f32⟩
  | 89 => ⟨S1x1024x3584, .f32⟩
  | 90 => ⟨S1024x3584, .f32⟩
  | 91 => ⟨S40960x3584, .f32⟩
  | 92 => ⟨S40960x3584, .f32⟩
  | 93 => ⟨S1x3584x1024, .f32⟩
  | 94 => ⟨S3584x1024, .f32⟩
  | 95 => ⟨S40960x1024, .f32⟩
  | 96 => ⟨S_, .i32⟩
  | 97 => ⟨S40960x1, .i32⟩
  | 98 => ⟨S40960x1, .i1⟩
  | 99 => ⟨S40960x1, .i1⟩
  | 100 => ⟨S_, .f32⟩
  | 101 => ⟨S_, .f32⟩
  | 102 => ⟨S40960x1024, .i1⟩
  | 103 => ⟨S40960x1024, .f32⟩
  | 104 => ⟨S40960x1024, .f32⟩
  | 105 => ⟨S40960x1024, .f32⟩
  | 106 => ⟨S1x1024x3584, .f32⟩
  | 107 => ⟨S1024x3584, .f32⟩
  | 108 => ⟨S40960x3584, .f32⟩
  | 109 => ⟨S40960x3584, .f32⟩
  | 110 => ⟨S40960x3584, .f32⟩
  | 111 => ⟨S_, .f32⟩
  | 112 => ⟨S40960x3584, .f32⟩
  | 113 => ⟨S40960x3584, .f32⟩
  | 114 => ⟨S_, .f32⟩
  | 115 => ⟨S40960x3584, .f32⟩
  | 116 => ⟨S40960x3584, .f32⟩
  | 117 => ⟨S40960x3584, .f32⟩
  | 118 => ⟨S1x1024x3584, .f32⟩
  | 119 => ⟨S1024x3584, .f32⟩
  | 120 => ⟨S40960x3584, .f32⟩
  | 121 => ⟨S40960x3584, .f32⟩
  | 122 => ⟨S1x3584x1024, .f32⟩
  | 123 => ⟨S3584x1024, .f32⟩
  | 124 => ⟨S40960x1024, .f32⟩
  | 125 => ⟨S_, .i32⟩
  | 126 => ⟨S40960x1, .i32⟩
  | 127 => ⟨S40960x1, .i1⟩
  | _ => ⟨S81920x512, .bf16⟩

abbrev hbmTy0_1 (i : Nat) : BufTy := match i % 128 with
  | 0 => ⟨S40960x1, .i1⟩
  | 1 => ⟨S_, .f32⟩
  | 2 => ⟨S_, .f32⟩
  | 3 => ⟨S40960x1024, .i1⟩
  | 4 => ⟨S40960x1024, .f32⟩
  | 5 => ⟨S40960x1024, .f32⟩
  | 6 => ⟨S40960x1024, .f32⟩
  | 7 => ⟨S1x1024x3584, .f32⟩
  | 8 => ⟨S1024x3584, .f32⟩
  | 9 => ⟨S40960x3584, .f32⟩
  | 10 => ⟨S40960x3584, .f32⟩
  | 11 => ⟨S40960x3584, .f32⟩
  | 12 => ⟨S_, .f32⟩
  | 13 => ⟨S40960x3584, .f32⟩
  | 14 => ⟨S40960x3584, .f32⟩
  | 15 => ⟨S_, .f32⟩
  | 16 => ⟨S40960x3584, .f32⟩
  | 17 => ⟨S40960x3584, .f32⟩
  | 18 => ⟨S40960x3584, .f32⟩
  | 19 => ⟨S1x1024x3584, .f32⟩
  | 20 => ⟨S1024x3584, .f32⟩
  | 21 => ⟨S40960x3584, .f32⟩
  | 22 => ⟨S40960x3584, .f32⟩
  | 23 => ⟨S1x3584x1024, .f32⟩
  | 24 => ⟨S3584x1024, .f32⟩
  | 25 => ⟨S40960x1024, .f32⟩
  | 26 => ⟨S_, .i32⟩
  | 27 => ⟨S40960x1, .i32⟩
  | 28 => ⟨S40960x1, .i1⟩
  | 29 => ⟨S40960x1, .i1⟩
  | 30 => ⟨S_, .f32⟩
  | 31 => ⟨S_, .f32⟩
  | 32 => ⟨S40960x1024, .i1⟩
  | 33 => ⟨S40960x1024, .f32⟩
  | 34 => ⟨S40960x1024, .f32⟩
  | 35 => ⟨S40960x1024, .f32⟩
  | 36 => ⟨S1x1024x3584, .f32⟩
  | 37 => ⟨S1024x3584, .f32⟩
  | 38 => ⟨S40960x3584, .f32⟩
  | 39 => ⟨S40960x3584, .f32⟩
  | 40 => ⟨S40960x3584, .f32⟩
  | 41 => ⟨S_, .f32⟩
  | 42 => ⟨S40960x3584, .f32⟩
  | 43 => ⟨S40960x3584, .f32⟩
  | 44 => ⟨S_, .f32⟩
  | 45 => ⟨S40960x3584, .f32⟩
  | 46 => ⟨S40960x3584, .f32⟩
  | 47 => ⟨S40960x3584, .f32⟩
  | 48 => ⟨S1x1024x3584, .f32⟩
  | 49 => ⟨S1024x3584, .f32⟩
  | 50 => ⟨S40960x3584, .f32⟩
  | 51 => ⟨S40960x3584, .f32⟩
  | 52 => ⟨S1x3584x1024, .f32⟩
  | 53 => ⟨S3584x1024, .f32⟩
  | 54 => ⟨S40960x1024, .f32⟩
  | 55 => ⟨S_, .i32⟩
  | 56 => ⟨S40960x1, .i32⟩
  | 57 => ⟨S40960x1, .i1⟩
  | 58 => ⟨S40960x1, .i1⟩
  | 59 => ⟨S_, .f32⟩
  | 60 => ⟨S_, .f32⟩
  | 61 => ⟨S40960x1024, .i1⟩
  | 62 => ⟨S40960x1024, .f32⟩
  | 63 => ⟨S40960x1024, .f32⟩
  | 64 => ⟨S40960x1024, .f32⟩
  | 65 => ⟨S1x1024x3584, .f32⟩
  | 66 => ⟨S1024x3584, .f32⟩
  | 67 => ⟨S40960x3584, .f32⟩
  | 68 => ⟨S40960x3584, .f32⟩
  | 69 => ⟨S40960x3584, .f32⟩
  | 70 => ⟨S_, .f32⟩
  | 71 => ⟨S40960x3584, .f32⟩
  | 72 => ⟨S40960x3584, .f32⟩
  | 73 => ⟨S_, .f32⟩
  | 74 => ⟨S40960x3584, .f32⟩
  | 75 => ⟨S40960x3584, .f32⟩
  | 76 => ⟨S40960x3584, .f32⟩
  | 77 => ⟨S1x1024x3584, .f32⟩
  | 78 => ⟨S1024x3584, .f32⟩
  | 79 => ⟨S40960x3584, .f32⟩
  | 80 => ⟨S40960x3584, .f32⟩
  | 81 => ⟨S1x3584x1024, .f32⟩
  | 82 => ⟨S3584x1024, .f32⟩
  | 83 => ⟨S40960x1024, .f32⟩
  | 84 => ⟨S_, .i32⟩
  | 85 => ⟨S40960x1, .i32⟩
  | 86 => ⟨S40960x1, .i1⟩
  | 87 => ⟨S40960x1, .i1⟩
  | 88 => ⟨S_, .f32⟩
  | 89 => ⟨S_, .f32⟩
  | 90 => ⟨S40960x1024, .i1⟩
  | 91 => ⟨S40960x1024, .f32⟩
  | 92 => ⟨S40960x1024, .f32⟩
  | 93 => ⟨S40960x1024, .f32⟩
  | 94 => ⟨S1x1024x3584, .f32⟩
  | 95 => ⟨S1024x3584, .f32⟩
  | 96 => ⟨S40960x3584, .f32⟩
  | 97 => ⟨S40960x3584, .f32⟩
  | 98 => ⟨S40960x3584, .f32⟩
  | 99 => ⟨S_, .f32⟩
  | 100 => ⟨S40960x3584, .f32⟩
  | 101 => ⟨S40960x3584, .f32⟩
  | 102 => ⟨S_, .f32⟩
  | 103 => ⟨S40960x3584, .f32⟩
  | 104 => ⟨S40960x3584, .f32⟩
  | 105 => ⟨S40960x3584, .f32⟩
  | 106 => ⟨S1x1024x3584, .f32⟩
  | 107 => ⟨S1024x3584, .f32⟩
  | 108 => ⟨S40960x3584, .f32⟩
  | 109 => ⟨S40960x3584, .f32⟩
  | 110 => ⟨S1x3584x1024, .f32⟩
  | 111 => ⟨S3584x1024, .f32⟩
  | 112 => ⟨S40960x1024, .f32⟩
  | 113 => ⟨S_, .i32⟩
  | 114 => ⟨S40960x1, .i32⟩
  | 115 => ⟨S40960x1, .i1⟩
  | 116 => ⟨S40960x1, .i1⟩
  | 117 => ⟨S_, .f32⟩
  | 118 => ⟨S_, .f32⟩
  | 119 => ⟨S40960x1024, .i1⟩
  | 120 => ⟨S40960x1024, .f32⟩
  | 121 => ⟨S40960x1024, .f32⟩
  | 122 => ⟨S40960x1024, .f32⟩
  | 123 => ⟨S81920x512, .f32⟩
  | 124 => ⟨S81920x512, .bf16⟩
  | _ => ⟨S81920x512, .bf16⟩

abbrev hbmTy (i : Nat) : BufTy := match i / 128 with
  | 0 => hbmTy0_0 i
  | 1 => hbmTy0_1 i
  | _ => ⟨S81920x512, .bf16⟩

abbrev bufTy : (tb : Table) → Fin (tcTables nBuf tb) → BufTy
  | .hbm, ⟨i, _⟩ => hbmTy i
  | _, _ => ⟨S81920x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_1 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_2 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call4_v0 : Ref sig .tc := ⟨.hbm, 80, rfl⟩
abbrev main_call4_v1 : Ref sig .tc := ⟨.hbm, 81, rfl⟩
abbrev main_call4_cst : Ref sig .tc := ⟨.hbm, 82, rfl⟩
abbrev main_call4_v2 : Ref sig .tc := ⟨.hbm, 83, rfl⟩
abbrev main_call4_v3 : Ref sig .tc := ⟨.hbm, 84, rfl⟩
abbrev main_call4_cst_0 : Ref sig .tc := ⟨.hbm, 85, rfl⟩
abbrev main_call4_v4 : Ref sig .tc := ⟨.hbm, 86, rfl⟩
abbrev main_call4_v5 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_3 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_4 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_call6_v0 : Ref sig .tc := ⟨.hbm, 109, rfl⟩
abbrev main_call6_v1 : Ref sig .tc := ⟨.hbm, 110, rfl⟩
abbrev main_call6_cst : Ref sig .tc := ⟨.hbm, 111, rfl⟩
abbrev main_call6_v2 : Ref sig .tc := ⟨.hbm, 112, rfl⟩
abbrev main_call6_v3 : Ref sig .tc := ⟨.hbm, 113, rfl⟩
abbrev main_call6_cst_0 : Ref sig .tc := ⟨.hbm, 114, rfl⟩
abbrev main_call6_v4 : Ref sig .tc := ⟨.hbm, 115, rfl⟩
abbrev main_call6_v5 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_c_5 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_6 : Ref sig .tc := ⟨.hbm, 129, rfl⟩
abbrev main_call7_v0 : Ref sig .tc := ⟨.hbm, 130, rfl⟩
abbrev main_call7_v1 : Ref sig .tc := ⟨.hbm, 131, rfl⟩
abbrev main_call7_v2 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_call8_v0 : Ref sig .tc := ⟨.hbm, 138, rfl⟩
abbrev main_call8_v1 : Ref sig .tc := ⟨.hbm, 139, rfl⟩
abbrev main_call8_cst : Ref sig .tc := ⟨.hbm, 140, rfl⟩
abbrev main_call8_v2 : Ref sig .tc := ⟨.hbm, 141, rfl⟩
abbrev main_call8_v3 : Ref sig .tc := ⟨.hbm, 142, rfl⟩
abbrev main_call8_cst_0 : Ref sig .tc := ⟨.hbm, 143, rfl⟩
abbrev main_call8_v4 : Ref sig .tc := ⟨.hbm, 144, rfl⟩
abbrev main_call8_v5 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_c_7 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_cst_8 : Ref sig .tc := ⟨.hbm, 158, rfl⟩
abbrev main_call9_v0 : Ref sig .tc := ⟨.hbm, 159, rfl⟩
abbrev main_call9_v1 : Ref sig .tc := ⟨.hbm, 160, rfl⟩
abbrev main_call9_v2 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_call10_v0 : Ref sig .tc := ⟨.hbm, 167, rfl⟩
abbrev main_call10_v1 : Ref sig .tc := ⟨.hbm, 168, rfl⟩
abbrev main_call10_cst : Ref sig .tc := ⟨.hbm, 169, rfl⟩
abbrev main_call10_v2 : Ref sig .tc := ⟨.hbm, 170, rfl⟩
abbrev main_call10_v3 : Ref sig .tc := ⟨.hbm, 171, rfl⟩
abbrev main_call10_cst_0 : Ref sig .tc := ⟨.hbm, 172, rfl⟩
abbrev main_call10_v4 : Ref sig .tc := ⟨.hbm, 173, rfl⟩
abbrev main_call10_v5 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_c_9 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_cst_10 : Ref sig .tc := ⟨.hbm, 187, rfl⟩
abbrev main_call11_v0 : Ref sig .tc := ⟨.hbm, 188, rfl⟩
abbrev main_call11_v1 : Ref sig .tc := ⟨.hbm, 189, rfl⟩
abbrev main_call11_v2 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_call12_v0 : Ref sig .tc := ⟨.hbm, 196, rfl⟩
abbrev main_call12_v1 : Ref sig .tc := ⟨.hbm, 197, rfl⟩
abbrev main_call12_cst : Ref sig .tc := ⟨.hbm, 198, rfl⟩
abbrev main_call12_v2 : Ref sig .tc := ⟨.hbm, 199, rfl⟩
abbrev main_call12_v3 : Ref sig .tc := ⟨.hbm, 200, rfl⟩
abbrev main_call12_cst_0 : Ref sig .tc := ⟨.hbm, 201, rfl⟩
abbrev main_call12_v4 : Ref sig .tc := ⟨.hbm, 202, rfl⟩
abbrev main_call12_v5 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_c_11 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_cst_12 : Ref sig .tc := ⟨.hbm, 216, rfl⟩
abbrev main_call13_v0 : Ref sig .tc := ⟨.hbm, 217, rfl⟩
abbrev main_call13_v1 : Ref sig .tc := ⟨.hbm, 218, rfl⟩
abbrev main_call13_v2 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_call14_v0 : Ref sig .tc := ⟨.hbm, 225, rfl⟩
abbrev main_call14_v1 : Ref sig .tc := ⟨.hbm, 226, rfl⟩
abbrev main_call14_cst : Ref sig .tc := ⟨.hbm, 227, rfl⟩
abbrev main_call14_v2 : Ref sig .tc := ⟨.hbm, 228, rfl⟩
abbrev main_call14_v3 : Ref sig .tc := ⟨.hbm, 229, rfl⟩
abbrev main_call14_cst_0 : Ref sig .tc := ⟨.hbm, 230, rfl⟩
abbrev main_call14_v4 : Ref sig .tc := ⟨.hbm, 231, rfl⟩
abbrev main_call14_v5 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_c_13 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_cst_14 : Ref sig .tc := ⟨.hbm, 245, rfl⟩
abbrev main_call15_v0 : Ref sig .tc := ⟨.hbm, 246, rfl⟩
abbrev main_call15_v1 : Ref sig .tc := ⟨.hbm, 247, rfl⟩
abbrev main_call15_v2 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S16384x2048 : Shape := ⟨2, ![16384, 2048]⟩
abbrev S8x6x1024 : Shape := ⟨3, ![8, 6, 1024]⟩
abbrev S128 : Shape := ⟨1, ![128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x128 : Shape := ⟨2, ![1, 128]⟩
abbrev S1x1024 : Shape := ⟨2, ![1, 1024]⟩
abbrev S512x1024 : Shape := ⟨2, ![512, 1024]⟩
abbrev S512x512 : Shape := ⟨2, ![512, 512]⟩
abbrev S1x6x1024 : Shape := ⟨3, ![1, 6, 1024]⟩
abbrev S6x1024 : Shape := ⟨2, ![6, 1024]⟩
abbrev S512x128 : Shape := ⟨2, ![512, 128]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 19
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x2048, .bf16⟩
  | .hbm, ⟨4, _⟩ => ⟨S16384x512, .bf16⟩
  | .hbm, ⟨5, _⟩ => ⟨S8x6x1024, .f32⟩
  | .hbm, ⟨6, _⟩ => ⟨S128, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1x128, .f32⟩
  | .hbm, ⟨13, _⟩ => ⟨S1024x1024, .bf16⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x6x1024, .f32⟩
  | .local _ .vmem, ⟨11, _⟩ => ⟨S1x6x1024, .f32⟩
  | .local _ .vmem, ⟨12, _⟩ => ⟨S1x128, .f32⟩
  | .local _ .vmem, ⟨13, _⟩ => ⟨S1024x1024, .bf16⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x1024 : Shape := ⟨2, ![16384, 1024]⟩
abbrev S16384x512 : Shape := ⟨2, ![16384, 512]⟩
abbrev S16384x2048 : Shape := ⟨2, ![16384, 2048]⟩
abbrev S8x6x1024 : Shape := ⟨3, ![8, 6, 1024]⟩
abbrev S128 : Shape := ⟨1, ![128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x1x1024 : Shape := ⟨3, ![8, 1, 1024]⟩
abbrev S8x1024 : Shape := ⟨2, ![8, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x2048, .bf16⟩
  | .hbm, ⟨4, _⟩ => ⟨S16384x512, .bf16⟩
  | .hbm, ⟨5, _⟩ => ⟨S8x6x1024, .f32⟩
  | .hbm, ⟨6, _⟩ => ⟨S128, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S8x1x1024, .f32⟩
  | .hbm, ⟨13, _⟩ => ⟨S8x1024, .f32⟩
  | .hbm, ⟨14, _⟩ => ⟨S2x1024, .f32⟩
  | .hbm, ⟨15, _⟩ => ⟨S2x1x1024, .f32⟩
  | .hbm, ⟨16, _⟩ => ⟨S2x8192x1024, .f32⟩
  | .hbm, ⟨17, _⟩ => ⟨S16384x1024, .f32⟩
  | .hbm, ⟨18, _⟩ => ⟨S8x1x1024, .f32⟩
  | .hbm, ⟨19, _⟩ => ⟨S8x1024, .f32⟩
  | .hbm, ⟨20, _⟩ => ⟨S2x1024, .f32⟩
  | .hbm, ⟨21, _⟩ => ⟨S2x1x1024, .f32⟩
  | .hbm, ⟨22, _⟩ => ⟨S2x8192x1024, .f32⟩
  | .hbm, ⟨23, _⟩ => ⟨S16384x1024, .f32⟩
  | .hbm, ⟨24, _⟩ => ⟨S8x1x1024, .f32⟩
  | .hbm, ⟨25, _⟩ => ⟨S8x1024, .f32⟩
  | .hbm, ⟨26, _⟩ => ⟨S2x1024, .f32⟩
  | .hbm, ⟨27, _⟩ => ⟨S2x1x1024, .f32⟩
  | .hbm, ⟨28, _⟩ => ⟨S2x8192x1024, .f32⟩
  | .hbm, ⟨29, _⟩ => ⟨S16384x1024, .f32⟩
  | .hbm, ⟨30, _⟩ => ⟨S8x1x1024, .f32⟩
  | .hbm, ⟨31, _⟩ => ⟨S8x1024, .f32⟩
  | .hbm, ⟨32, _⟩ => ⟨S2x1024, .f32⟩
  | .hbm, ⟨33, _⟩ => ⟨S2x1x1024, .f32⟩
  | .hbm, ⟨34, _⟩ => ⟨S2x8192x1024, .f32⟩
  | .hbm, ⟨35, _⟩ => ⟨S16384x1024, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x4x128, .f32⟩
  | .hbm, ⟨40, _⟩ => ⟨S16384x512, .bf16⟩
  | .hbm, ⟨41, _⟩ => ⟨S16384x512, .f32⟩
  | .hbm, ⟨42, _⟩ => ⟨S16384x4x128, .f32⟩
  | .hbm, ⟨43, _⟩ => ⟨S_, .f32⟩
  | .hbm, ⟨44, _⟩ => ⟨S16384x4, .f32⟩
  | .hbm, ⟨45, _⟩ => ⟨S16384x4x1, .f32⟩
  | .hbm, ⟨46, _⟩ => ⟨S_, .f32⟩
  | .hbm, ⟨47, _⟩ => ⟨S16384x4x1, .f32⟩
  | .hbm, ⟨48, _⟩ => ⟨S16384x4x1, .f32⟩
  | .hbm, ⟨49, _⟩ => ⟨S_, .f32⟩
  | .hbm, ⟨50, _⟩ => ⟨S16384x4x1, .f32⟩
  | .hbm, ⟨51, _⟩ => ⟨S16384x4x1, .f32⟩
  | .hbm, ⟨52, _⟩ => ⟨S16384x4x1, .f32⟩
  | .hbm, ⟨53, _⟩ => ⟨S16384x4x128, .f32⟩
  | .hbm, ⟨54, _⟩ => ⟨S16384x4x128, .f32⟩
  | .hbm, ⟨55, _⟩ => ⟨S1x1x128, .f32⟩
  | .hbm, ⟨56, _⟩ => ⟨S16384x4x128, .f32⟩
  | .hbm, ⟨57, _⟩ => ⟨S16384x4x128, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S_, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x2816, .f32⟩
  | .hbm, ⟨96, _⟩ => ⟨S16384x2816, .f32⟩
  | .hbm, ⟨97, _⟩ => ⟨S16384x2816, .f32⟩
  | .hbm, ⟨98, _⟩ => ⟨S_, .f32⟩
  | .hbm, ⟨99, _⟩ => ⟨S16384x2816, .f32⟩
  | .hbm, ⟨100, _⟩ => ⟨S16384x2816, .f32⟩
  | .hbm, ⟨101, _⟩ => ⟨S_, .f32⟩
  | .hbm, ⟨102, _⟩ => ⟨S16384x2816, .f32⟩
  | .hbm, ⟨103, _⟩ => ⟨S16384x2816, .f32⟩
  | .hbm, ⟨104, _⟩ => ⟨S16384x2816, .f32⟩
  | .hbm, ⟨105, _⟩ => ⟨S16384x2816, .f32⟩
  | .hbm, ⟨106, _⟩ => ⟨S16384x2816, .f32⟩
  | .hbm, ⟨107, _⟩ => ⟨S16384x1024, .f32⟩
  | .hbm, ⟨108, _⟩ => ⟨S16384x1024, .f32⟩
  | .hbm, ⟨109, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_2 : Ref sig .tc := ⟨.hbm, 75, rfl⟩
abbrev main_v52 : Ref sig .tc := ⟨.hbm, 76, rfl⟩
abbrev main_v53 : Ref sig .tc := ⟨.hbm, 77, rfl⟩
abbrev main_cst_3 : Ref sig .tc := ⟨.hbm, 78, rfl⟩
abbrev main_v54 : Ref sig .tc := ⟨.hbm, 79, rfl⟩
abbrev main_v55 : Ref sig .tc := ⟨.hbm, 80, rfl⟩
abbrev main_cst_4 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩

abbrev nD : Nat := 1
abbrev τ : Topo := Topo.v7x

variable {F : FTy → Type} [FloatOps F]
-- ==== Kernel4.lean ====
abbrev S16384x1024 : Shape := ⟨2, ![16384, 1024]⟩
abbrev S65536x512 : Shape := ⟨2, ![65536, 512]⟩
abbrev S16384x128 : Shape := ⟨2, ![16384, 128]⟩
abbrev S8x6x1024 : Shape := ⟨3, ![8, 6, 1024]⟩
abbrev S1024 : Shape := ⟨1, ![1024]⟩
abbrev S1x1024 : Shape := ⟨2, ![1, 1024]⟩
abbrev S1024x1024 : Shape := ⟨2, ![1024, 1024]⟩
abbrev S2048x512 : Shape := ⟨2, ![2048, 512]⟩
abbrev S1024x128 : Shape := ⟨2, ![1024, 128]⟩
abbrev S1x6x1024 : Shape := ⟨3, ![1, 6, 1024]⟩
abbrev S1024x1 : Shape := ⟨2, ![1024, 1]⟩
abbrev S1024x512 : Shape := ⟨2, ![1024, 512]⟩
abbrev S6x1024 : Shape := ⟨2, ![6, 1024]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S65536x512, .bf16⟩
  | .hbm, ⟨2, _⟩ => ⟨S16384x128, .f32⟩
  | .hbm, ⟨3, _⟩ => ⟨S8x6x1024, .f32⟩
  | .hbm, ⟨4, _⟩ => ⟨S1024, .f32⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x128, .f32⟩
  | .local _ .vmem, ⟨7, _⟩ => ⟨S1024x128, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel4Ideal.lean ====
variable {F : FTy → Type} [FloatOps F]
-- ==== Reference4Ideal.lean ====
abbrev S16384x1024 : Shape := ⟨2, ![16384, 1024]⟩
abbrev S65536x512 : Shape := ⟨2, ![65536, 512]⟩
abbrev S16384x128 : Shape := ⟨2, ![16384, 128]⟩
abbrev S8x6x1024 : Shape := ⟨3, ![8, 6, 1024]⟩
abbrev S1024 : Shape := ⟨1, ![1024]⟩
abbrev S2x1x1024 : Shape := ⟨3, ![2, 1, 1024]⟩
abbrev S2x1024 : Shape := ⟨2, ![2, 1024]⟩
abbrev S2x8192x1024 : Shape := ⟨3, ![2, 8192, 1024]⟩
abbrev S2x16384x1024 : Shape := ⟨3, ![2, 16384, 1024]⟩
abbrev S16384x1 : Shape := ⟨2, ![16384, 1]⟩
abbrev S1x16384x1024 : Shape := ⟨3, ![1, 16384, 1024]⟩
abbrev S_ : Shape := ⟨0, ![]⟩
abbrev S16384 : Shape := ⟨1, ![16384]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S65536x512, .bf16⟩
  | .hbm, ⟨2, _⟩ => ⟨S16384x128, .f32⟩
  | .hbm, ⟨3, _⟩ => ⟨S8x6x1024, .f32⟩
  | .hbm, ⟨4, _⟩ => ⟨S1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x8192x1024, .f32⟩
  | .hbm, ⟨9, _⟩ => ⟨S16384x1024, .f32⟩
  | .hbm, ⟨10, _⟩ => ⟨S65536x512, .f32⟩
  | .hbm, ⟨11, _⟩ => ⟨S2x16384x1024, .f32⟩
  | .hbm, ⟨12, _⟩ => ⟨S16384x1, .f32⟩
  | .hbm, ⟨13, _⟩ => ⟨S1x16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1, .f32⟩
  | .hbm, ⟨18, _⟩ => ⟨S1x16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel5.lean ====
abbrev S16384x1024 : Shape := ⟨2, ![16384, 1024]⟩
abbrev S8x6x1024 : Shape := ⟨3, ![8, 6, 1024]⟩
abbrev S1024 : Shape := ⟨1, ![1024]⟩
abbrev S1024x2016 : Shape := ⟨2, ![1024, 2016]⟩
abbrev S2x16x256 : Shape := ⟨3, ![2, 16, 256]⟩
abbrev S2x256 : Shape := ⟨2, ![2, 256]⟩
abbrev S1x1024 : Shape := ⟨2, ![1, 1024]⟩
abbrev S1024x256 : Shape := ⟨2, ![1024, 256]⟩
abbrev S1024x512 : Shape := ⟨2, ![1024, 512]⟩
abbrev S1024x128 : Shape := ⟨2, ![1024, 128]⟩
abbrev S1024x64 : Shape := ⟨2, ![1024, 64]⟩
abbrev S1024x16 : Shape := ⟨2, ![1024, 16]⟩
abbrev S_ : Shape := ⟨0, ![]⟩
abbrev S1024x32 : Shape := ⟨2, ![1024, 32]⟩
abbrev S1024x2048 : Shape := ⟨2, ![1024, 2048]⟩
abbrev S128x256 : Shape := ⟨2, ![128, 256]⟩
abbrev S1x16x256 : Shape := ⟨3, ![1, 16, 256]⟩
abbrev S16x256 : Shape := ⟨2, ![16, 256]⟩
abbrev S1 : Shape := ⟨1, ![1]⟩
abbrev S1x128x256 : Shape := ⟨3, ![1, 128, 256]⟩
abbrev S2x128x256 : Shape := ⟨3, ![2, 128, 256]⟩
abbrev S2x1x256 : Shape := ⟨3, ![2, 1, 256]⟩
abbrev S16384x2048 : Shape := ⟨2, ![16384, 2048]⟩
abbrev S64x8x128 : Shape := ⟨3, ![64, 8, 128]⟩
abbrev S1024x1024 : Shape := ⟨2, ![1024, 1024]⟩
abbrev S1x6x1024 : Shape := ⟨3, ![1, 6, 1024]⟩
abbrev S4x8x128 : Shape := ⟨3, ![4, 8, 128]⟩
abbrev S6x1024 : Shape := ⟨2, ![6, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S512x256 : Shape := ⟨2, ![512, 256]⟩
abbrev S1x1x256 : Shape := ⟨3, ![1, 1, 256]⟩
abbrev S1x256 : Shape := ⟨2, ![1, 256]⟩
abbrev S256x256 : Shape := ⟨2, ![256, 256]⟩
abbrev S256 : Shape := ⟨1, ![256]⟩
abbrev S1x1 : Shape := ⟨2, ![1, 1]⟩
abbrev S1x8x128 : Shape := ⟨3, ![1, 8, 128]⟩

abbrev nBuf : Space → Nat
  | .hbm => 41
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x2016, .f32⟩
  | .hbm, ⟨4, _⟩ => ⟨S2x16x256, .f32⟩
  | .hbm, ⟨5, _⟩ => ⟨S2x256, .f32⟩
  | .hbm, ⟨6, _⟩ => ⟨S1x1024, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x512, .f32⟩
  | .hbm, ⟨11, _⟩ => ⟨S1024x256, .f32⟩
  | .hbm, ⟨12, _⟩ => ⟨S1024x128, .f32⟩
  | .hbm, ⟨13, _⟩ => ⟨S1024x64, .f32⟩
  | .hbm, ⟨14, _⟩ => ⟨S1024x16, .f32⟩
  | .hbm, ⟨15, _⟩ => ⟨S1024x16, .f32⟩
  | .hbm, ⟨16, _⟩ => ⟨S_, .f32⟩
  | .hbm, ⟨17, _⟩ => ⟨S1024x32, .f32⟩
  | .hbm, ⟨18, _⟩ => ⟨S1024x2048, .f32⟩
  | .hbm, ⟨19, _⟩ => ⟨S1024x2048, .bf16⟩
  | .hbm, ⟨20, _⟩ => ⟨S_, .f32⟩
  | .hbm, ⟨21, _⟩ => ⟨S128x256, .f32⟩
  | .hbm, ⟨22, _⟩ => ⟨S1x16x256, .f32⟩
  | .hbm, ⟨23, _⟩ => ⟨S16x256, .f32⟩
  | .hbm, ⟨24, _⟩ => ⟨S_, .i32⟩
  | .hbm, ⟨25, _⟩ => ⟨S1, .i32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S1x16x256, .f32⟩
  | .hbm, ⟨30, _⟩ => ⟨S16x256, .f32⟩
  | .hbm, ⟨31, _⟩ => ⟨S_, .i32⟩
  | .hbm, ⟨32, _⟩ => ⟨S1, .i32⟩
  | .hbm, ⟨33, _⟩ => ⟨S128x256, .f32⟩
  | .hbm, ⟨34, _⟩ => ⟨S1x128x256, .f32⟩
  | .hbm, ⟨35, _⟩ => ⟨S1x128x256, .f32⟩
  | .hbm, ⟨36, _⟩ => ⟨S2x128x256, .f32⟩
  | .hbm, ⟨37, _⟩ => ⟨S2x128x256, .bf16⟩
  | .hbm, ⟨38, _⟩ => ⟨S2x1x256, .f32⟩
  | .hbm, ⟨39, _⟩ => ⟨S16384x2048, .bf16⟩
  | .hbm, ⟨40, _⟩ => ⟨S64x8x128, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S2x128x256, .bf16⟩
  | .local _ .vmem, ⟨7, _⟩ => ⟨S2x1x256, .f32⟩
  | .local _ .vmem, ⟨8, _⟩ => ⟨S1024x2048, .bf16⟩
  | .local _ .vmem, ⟨9, _⟩ => ⟨S1024x2048, .bf16⟩
  | .local _ .vmem, ⟨10, _⟩ => ⟨S4x8x128, .f32⟩
  | .local _ .vmem, ⟨11, _⟩ => ⟨S4x8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S8x6x1024 : Shape := ⟨3, ![8, 6, 1024]⟩
abbrev S1024 : Shape := ⟨1, ![1024]⟩
abbrev S1024x2016 : Shape := ⟨2, ![1024, 2016]⟩
abbrev S2x16x256 : Shape := ⟨3, ![2, 16, 256]⟩
abbrev S2x256 : Shape := ⟨2, ![2, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2x1x1024 : Shape := ⟨3, ![2, 1, 1024]⟩
abbrev S2x1024 : Shape := ⟨2, ![2, 1024]⟩
abbrev S2x8192x1024 : Shape := ⟨3, ![2, 8192, 1024]⟩
abbrev S16384x2016 : Shape := ⟨2, ![16384, 2016]⟩
abbrev S16384x16 : Shape := ⟨2, ![16384, 16]⟩
abbrev S16384x960 : Shape := ⟨2, ![16384, 960]⟩
abbrev S16384x32 : Shape := ⟨2, ![16384, 32]⟩
abbrev S16384x2048 : Shape := ⟨2, ![16384, 2048]⟩
abbrev S1x16x256 : Shape := ⟨3, ![1, 16, 256]⟩
abbrev S16x256 : Shape := ⟨2, ![16, 256]⟩
abbrev S16384x256 : Shape := ⟨2, ![16384, 256]⟩
abbrev S1x256 : Shape := ⟨2, ![1, 256]⟩
abbrev S256 : Shape := ⟨1, ![256]⟩
abbrev S64x256x256 : Shape := ⟨3, ![64, 256, 256]⟩
abbrev S64 : Shape := ⟨1, ![64]⟩
abbrev S64x1 : Shape := ⟨2, ![64, 1]⟩
abbrev S64x2 : Shape := ⟨2, ![64, 2]⟩
abbrev S64x6 : Shape := ⟨2, ![64, 6]⟩
abbrev S64x8 : Shape := ⟨2, ![64, 8]⟩
abbrev S64x8x1 : Shape := ⟨3, ![64, 8, 1]⟩
abbrev S64x8x128 : Shape := ⟨3, ![64, 8, 128]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x2016, .f32⟩
  | .hbm, ⟨4, _⟩ => ⟨S2x16x256, .f32⟩
  | .hbm, ⟨5, _⟩ => ⟨S2x256, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S2x1x1024, .f32⟩
  | .hbm, ⟨23, _⟩ => ⟨S2x1024, .f32⟩
  | .hbm, ⟨24, _⟩ => ⟨S2x1x1024, .f32⟩
  | .hbm, ⟨25, _⟩ => ⟨S2x8192x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S2x1x1024, .f32⟩
  | .hbm, ⟨32, _⟩ => ⟨S2x1024, .f32⟩
  | .hbm, ⟨33, _⟩ => ⟨S2x1x1024, .f32⟩
  | .hbm, ⟨34, _⟩ => ⟨S2x8192x1024, .f32⟩
  | .hbm, ⟨35, _⟩ => ⟨S16384x1024, .f32⟩
  | .hbm, ⟨36, _⟩ => ⟨S16384x1024, .f32⟩
  | .hbm, ⟨37, _⟩ => ⟨S16384x2016, .f32⟩
  | .hbm, ⟨38, _⟩ => ⟨S16384x1024, .f32⟩
  | .hbm, ⟨39, _⟩ => ⟨S16384x16, .f32⟩
  | .hbm, ⟨40, _⟩ => ⟨S16384x16, .f32⟩
  | .hbm, ⟨41, _⟩ => ⟨S16384x960, .f32⟩
  | .hbm, ⟨42, _⟩ => ⟨S_, .f32⟩
  | .hbm, ⟨43, _⟩ => ⟨S16384x32, .f32⟩
  | .hbm, ⟨44, _⟩ => ⟨S16384x2048, .f32⟩
  | .hbm, ⟨45, _⟩ => ⟨S1x16x256, .f32⟩
  | .hbm, ⟨46, _⟩ => ⟨S16x256, .f32⟩
  | .hbm, ⟨47, _⟩ => ⟨S16384x256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S16384x256, .f32⟩
  | .hbm, ⟨52, _⟩ => ⟨S16384x256, .f32⟩
  | .hbm, ⟨53, _⟩ => ⟨S16384x256, .f32⟩
  | .hbm, ⟨54, _⟩ => ⟨S64x256x256, .f32⟩
  | .hbm, ⟨55, _⟩ => ⟨S_, .f32⟩
  | .hbm, ⟨56, _⟩ => ⟨S64, .f32⟩
  | .hbm, ⟨57, _⟩ => ⟨S1x16x256, .f32⟩
  | .hbm, ⟨58, _⟩ => ⟨S16x256, .f32⟩
  | .hbm, ⟨59, _⟩ => ⟨S16384x256, .f32⟩
  | .hbm, ⟨60, _⟩ => ⟨S1x256, .f32⟩
  | .hbm, ⟨61, _⟩ => ⟨S256, .f32⟩
  | .hbm, ⟨62, _⟩ => ⟨S1x256, .f32⟩
  | .hbm, ⟨63, _⟩ => ⟨S16384x256, .f32⟩
  | .hbm, ⟨64, _⟩ => ⟨S16384x256, .f32⟩
  | .hbm, ⟨65, _⟩ => ⟨S16384x256, .f32⟩
  | .hbm, ⟨66, _⟩ => ⟨S64x256x256, .f32⟩
  | .hbm, ⟨67, _⟩ => ⟨S_, .f32⟩
  | .hbm, ⟨68, _⟩ => ⟨S64, .f32⟩
  | .hbm, ⟨69, _⟩ => ⟨S64x1, .f32⟩
  | .hbm, ⟨70, _⟩ => ⟨S64x1, .f32⟩
  | .hbm, ⟨71, _⟩ => ⟨S64x2, .f32⟩
  | .hbm, ⟨72, _⟩ => ⟨S_, .f32⟩
  | .hbm, ⟨73, _⟩ => ⟨S64x6, .f32⟩
  | .hbm, ⟨74, _⟩ => ⟨S64x8, .f32⟩
  | .hbm, ⟨75, _⟩ => ⟨S16384x2048, .bf16⟩
  | .hbm, ⟨76, _⟩ => ⟨S64x8x1, .f32⟩
  | .hbm, ⟨77, _⟩ => ⟨S64x8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Proof.Experts.lean ====
/- THE PRECONDITION, word by word: a word at least zero and below eight, both signed, is below eight. -/
module

public import proofs.«01_k».proof.Proof.Gen.Pre_experts_exist
public import proofs.«01_k».proof.Proof.Gen.Pre_experts_exist2

@[expose] public section

namespace Cert.Experts

open Idealize.ShloMosaic

theorem word_lt (w : BitVec 32) (h : Scalar.andi (Scalar.cmpi .sge w 0#32) (Scalar.cmpi .slt w 8#32) = 1#1) : w.toNat < 8 := by
  have hs : ∀ a b : BitVec 1, Scalar.andi a b = 1#1 → a = 1#1 ∧ b = 1#1 := by decide
  obtain ⟨h1, h2⟩ := hs _ _ h
  have hb : ∀ b : Bool, BitVec.ofBool b = 1#1 → b = true := by decide
  have g1 : (0#32).sle w = true := hb _ h1
  have g2 : w.slt 8#32 = true := hb _ h2
  rw [BitVec.sle_iff_toInt_le] at g1
  rw [BitVec.slt_iff_toInt_lt] at g2
  have e0 : (0#32).toInt = 0 := by decide
  have e8 : (8#32).toInt = 8 := by decide
  rw [e0] at g1
  rw [e8] at g2
  rw [BitVec.toInt_eq_toNat_cond] at g1 g2
  have := w.isLt
  split at g1 <;> split at g2 <;> omega

theorem exist {F : FTy → Type} [FloatOps F] (x0 : FVec F Cert.Pre_experts_exist.S40960x512 .f32) (x1 : IVec Cert.Pre_experts_exist.S40 32)
    (x2 : IVec Cert.Pre_experts_exist.S1 32) (x3 x4 : FVec F Cert.Pre_experts_exist.S8x1024x3584 .f32) (x5 : FVec F Cert.Pre_experts_exist.S8x3584x1024 .f32)
    (h : Cert.Pre_experts_exist.fn (F := F) x0 x1 x2 x3 x4 x5 = fun _ => 1#1) (i : Cert.Pre_experts_exist.S40.Idx) : (x1 i).toNat < 8 :=
  word_lt (x1 i) (congrFun h i)

theorem exist2 {F : FTy → Type} [FloatOps F] (x0 : FVec F Cert.Pre_experts_exist2.S81920x512 .bf16) (x1 : IVec Cert.Pre_experts_exist2.S40 32)
    (x2 : IVec Cert.Pre_experts_exist2.S1 32) (x3 x4 : FVec F Cert.Pre_experts_exist2.S8x1024x3584 .f32) (x5 : FVec F Cert.Pre_experts_exist2.S8x3584x1024 .f32)
    (h : Cert.Pre_experts_exist2.fn (F := F) x0 x1 x2 x3 x4 x5 = fun _ => 1#1) (i : Cert.Pre_experts_exist2.S40.Idx) : (x1 i).toNat < 8 :=
  word_lt (x1 i) (congrFun h i)

end Cert.Experts

end
-- ==== Proof.KernelBody.lean ====
/- THE KERNEL'S BODY at one grid point, by the point's control path: what it leaves in the accumulator, in the
   unpacked rows and in the output block, as values. -/
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.TableIdle
public import Idealize.ShloMosaic.Lib.VecWindow

@[expose] public section

set_option maxRecDepth 16384
set_option Elab.async false

noncomputable section

namespace Cert.Kernel.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-! ## The body's own memory -/

/-- The table of each tile's expert, and the number of tiles in use. -/
abbrev expertTable : Memref sig .tc .smem S40 .i32 := Memref.whole main_arg1
abbrev usedTable : Memref sig .tc .smem S1 .i32 := Memref.whole main_arg2
/-- The accumulator, and the tile's rows unpacked to bf16. -/
abbrev accRef : Memref sig .tc .vmem S1024x1024 .f32 := Memref.whole cc0_scratch0
abbrev rowsRef : Memref sig .tc .vmem S1024x1024 .bf16 := Memref.whole cc0_scratch1

/-! ## The values -/

/-- One 256-column half of a 512-column block of a gate or up weight, and of a down weight's rows. -/
abbrev firstCols (x : Vec F S1x1024x512 .f32) : Vec F S1x1024x256 .f32 :=
  VecWindow.window x ![0, 0, 0] S1x1024x256.size inb_S1x1024x512_S1x1024x256_0_0_0
abbrev lastCols (x : Vec F S1x1024x512 .f32) : Vec F S1x1024x256 .f32 :=
  VecWindow.window x ![0, 0, 256] S1x1024x256.size inb_S1x1024x512_S1x1024x256_0_0_256
abbrev firstRows (x : Vec F S1x512x1024 .f32) : Vec F S1x256x1024 .f32 :=
  VecWindow.window x ![0, 0, 0] S1x256x1024.size inb_S1x512x1024_S1x256x1024_0_0_0
abbrev lastRows (x : Vec F S1x512x1024 .f32) : Vec F S1x256x1024 .f32 :=
  VecWindow.window x ![0, 256, 0] S1x256x1024.size inb_S1x512x1024_S1x256x1024_0_256_0

/-- The accumulator after one grid point: the products of the point's two 256-column halves added, one after the other. -/
def step (h : Vec F S1024x1024 .bf16) (x1 x2 : Vec F S1x1024x512 .f32) (x3 : Vec F S1x512x1024 .f32) (a : Vec F S1024x1024 .f32) :
    Vec F S1024x1024 .f32 :=
  k0_pay1 h (k0_pay7 (lastCols x1)) (constant S1024x256 .f32 0x00000000#32) (lastCols x2)
    (k0_pay6 h (firstCols x1) (firstCols x2) a (firstRows x3)) (lastRows x3)

/-- The number of tiles in use, as the body reads it. -/
abbrev usedWord (T1 : S1.Idx → Elt F .i32) : BitVec 32 :=
  View.readAt (Elt F) usedTable.view (Rect.unit (s := S1) ![0] S1.size inb_S1_S1_0).toLoadRect T1 (Shape.Idx.first (numel1_S1.symm ▸ Nat.one_pos))

/-- The test of a point's being its tile's first. -/
abbrev firstTest (i : grid0.Coords) : Prop :=
  (Scalar.cmpi .ne (Scalar.extui (Scalar.cmpi .eq (BitVec.ofNat 32 (i 1).val) 0#32)) 0#32) = 1#1

/-- What the body holds: the four input blocks, the tables, the output block, and its two scratch arrays. -/
def Held (c : Dev nD) (arg4 : Memref sig .tc .vmem S1024x512 .f32) (arg5 : Memref sig .tc .vmem S1x1024x512 .f32)
    (arg6 : Memref sig .tc .vmem S1x1024x512 .f32) (arg7 : Memref sig .tc .vmem S1x512x1024 .f32) (arg8 : Memref sig .tc .vmem S1024x512 .f32)
    (T0 : S40.Idx → Elt F .i32) (T1 : S1.Idx → Elt F .i32) (x0 : S1024x512.Idx → Elt F .f32) (x1 : S1x1024x512.Idx → Elt F .f32)
    (x2 : S1x1024x512.Idx → Elt F .f32) (x3 : S1x512x1024.Idx → Elt F .f32) (y : S1024x512.Idx → Elt F .f32)
    (a : S1024x1024.Idx → Elt F .f32) (h : S1024x1024.Idx → Elt F .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (expertTable.view.loc (c : Thread nD τ) ↦{fullShare.right} T0)
    ∗ (usedTable.view.loc (c : Thread nD τ) ↦{fullShare.right} T1)
    ∗ owns (c : Thread nD τ) arg8 fullShare y
    ∗ (∃ f, ⌜f = a⌝ ∗ (accRef.view.loc (c : Thread nD τ) ↦{fullShare} f))
    ∗ (∃ f, ⌜f = h⌝ ∗ (rowsRef.view.loc (c : Thread nD τ) ↦{fullShare} f)))

/-- Reading a scratch array whole is its contents. -/
theorem read_acc (f : S1024x1024.Idx → Elt F .f32) : View.read (Elt F) accRef.view f = f := rfl
theorem read_rows (f : S1024x1024.Idx → Elt F .bf16) : View.read (Elt F) rowsRef.view f = f := rfl

variable (c : Dev nD) (i : grid0.Coords) (arg4 : Memref sig .tc .vmem S1024x512 .f32) (harg4 : arg4.IsWhole)
  (arg5 : Memref sig .tc .vmem S1x1024x512 .f32) (harg5 : arg5.IsWhole) (arg6 : Memref sig .tc .vmem S1x1024x512 .f32) (harg6 : arg6.IsWhole)
  (arg7 : Memref sig .tc .vmem S1x512x1024 .f32) (harg7 : arg7.IsWhole) (arg8 : Memref sig .tc .vmem S1024x512 .f32) (harg8 : arg8.IsWhole)
  (T0 : S40.Idx → Elt F .i32) (T1 : S1.Idx → Elt F .i32) (x0 : S1024x512.Idx → Elt F .f32) (x1 : S1x1024x512.Idx → Elt F .f32)
  (x2 : S1x1024x512.Idx → Elt F .f32) (x3 : S1x512x1024.Idx → Elt F .f32) (y : S1024x512.Idx → Elt F .f32)
  (a : S1024x1024.Idx → Elt F .f32) (h : S1024x1024.Idx → Elt F .bf16)

/-- The body at a point, on its staging memrefs. -/
abbrev bodyAt : Prog (TpuEff nD τ sig (Elt F) Λ₀ .tc) PUnit :=
  cc0_moe_ffn i expertTable (Memref.isWhole_whole _) usedTable (Memref.isWhole_whole _) arg4 harg4 arg5 harg5 arg6 harg6 arg7 harg7 arg8 harg8
    accRef (Memref.isWhole_whole _) rowsRef (Memref.isWhole_whole _)

set_option backward.proofsInPublic true in
set_option maxHeartbeats 8000000 in
/-- A tile in use, at its first point: the rows unpacked, and one step of the accumulator from zero. -/
theorem body_first (K : PUnit → sProp 𝕄) (h1 : k0_cond1 i (usedWord T1) = 1#1) (h2 : firstTest i) (h3 : ¬(k0_cond3 i = 1#1)) (h4 : ¬(k0_cond4 i (usedWord T1) = 1#1)) :
    iprop(Held c arg4 arg5 arg6 arg7 arg8 T0 T1 x0 x1 x2 x3 y a h
        ∗ (Held c arg4 arg5 arg6 arg7 arg8 T0 T1 x0 x1 x2 x3 y (step (k0_pay5 x0) x1 x2 x3 k0_pay4) (k0_pay5 x0) -∗ K ⟨⟩))
      ⊢ wp frame (wpE (defs₀ (F := F)) Variants.none c none) Set.univ
          (bodyAt i arg4 harg4 arg5 harg5 arg6 harg6 arg7 harg7 arg8 harg8) K := by
  unfold Held owns
  unfold bodyAt
  rw [cc0_moe_ffn_eq_skeleton]; unfold cc0_moe_ffn_skel
  iintro ⟨⟨H0, H1, H2, H3, HT0, HT1, ⟨%f4, %hf4, HO4⟩, ⟨%fa, %hfa, HS0⟩, ⟨%fh, %hfh, HS1⟩⟩, Hk⟩
  obtain rfl := harg8.eq_unread hf4
  subst hfa hfh
  have hS0 : accRef.IsWhole := Memref.isWhole_whole _
  have hS1 : rowsRef.IsWhole := Memref.isWhole_whole _
  have hT0 : expertTable.IsWhole := Memref.isWhole_whole _
  have hT1 : usedTable.IsWhole := Memref.isWhole_whole _
  sl_exec! (disch := first | (guard_target = k0_cond1 _ _ = _; exact h1) | (guard_target = Scalar.cmpi = _; exact h2) | (guard_target = ¬(k0_cond3 _ = _); exact h3) | (guard_target = ¬(k0_cond4 _ _ = _); exact h4))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap; · iexact HO4
    ipureintro
    exact harg8.read_unread _
  isplitl [HS0]
  · iexists _; isplitr; swap; · iexact HS0
    ipureintro
    sl_unfold_words
    rw [← read_acc (accRef.view.writes _ _ _)]
    rw [View.read_writes_full]
    rw [View.readCov_full, View.readCov_full, View.readCov_full, View.readAt_rep_full]
    rw [View.readAt_rep_unit arg5.view x1 _ rfl inb_S1x1024x512_S1x1024x256_0_0_0, View.readAt_rep_unit arg5.view x1 _ rfl inb_S1x1024x512_S1x1024x256_0_0_256,
      View.readAt_rep_unit arg6.view x2 _ rfl inb_S1x1024x512_S1x1024x256_0_0_0, View.readAt_rep_unit arg6.view x2 _ rfl inb_S1x1024x512_S1x1024x256_0_0_256,
      View.readAt_rep_unit arg7.view x3 _ rfl inb_S1x512x1024_S1x256x1024_0_0_0, View.readAt_rep_unit arg7.view x3 _ rfl inb_S1x512x1024_S1x256x1024_0_256_0]
    unfold step
    with_reducible rfl
  iexists _; isplitr; swap; · iexact HS1
  ipureintro
  sl_unfold_words
  rw [← read_rows (rowsRef.view.writes _ _ _)]
  rw [View.read_writes_full, View.readAt_rep_full]

set_option backward.proofsInPublic true in
set_option maxHeartbeats 8000000 in
/-- A tile in use, at a point neither its first nor its last: one step of the accumulator. -/
theorem body_middle (K : PUnit → sProp 𝕄) (h1 : k0_cond1 i (usedWord T1) = 1#1) (h2 : ¬firstTest i) (h3 : ¬(k0_cond3 i = 1#1)) (h4 : ¬(k0_cond4 i (usedWord T1) = 1#1)) :
    iprop(Held c arg4 arg5 arg6 arg7 arg8 T0 T1 x0 x1 x2 x3 y a h
        ∗ (Held c arg4 arg5 arg6 arg7 arg8 T0 T1 x0 x1 x2 x3 y (step h x1 x2 x3 a) h -∗ K ⟨⟩))
      ⊢ wp frame (wpE (defs₀ (F := F)) Variants.none c none) Set.univ
          (bodyAt i arg4 harg4 arg5 harg5 arg6 harg6 arg7 harg7 arg8 harg8) K := by
  unfold Held owns
  unfold bodyAt
  rw [cc0_moe_ffn_eq_skeleton]; unfold cc0_moe_ffn_skel
  iintro ⟨⟨H0, H1, H2, H3, HT0, HT1, ⟨%f4, %hf4, HO4⟩, ⟨%fa, %hfa, HS0⟩, ⟨%fh, %hfh, HS1⟩⟩, Hk⟩
  obtain rfl := harg8.eq_unread hf4
  subst hfa hfh
  have hS0 : accRef.IsWhole := Memref.isWhole_whole _
  have hS1 : rowsRef.IsWhole := Memref.isWhole_whole _
  have hT0 : expertTable.IsWhole := Memref.isWhole_whole _
  have hT1 : usedTable.IsWhole := Memref.isWhole_whole _
  sl_exec! (disch := first | (guard_target = k0_cond1 _ _ = _; exact h1) | (guard_target = ¬(Scalar.cmpi = _); exact h2) | (guard_target = ¬(k0_cond3 _ = _); exact h3) | (guard_target = ¬(k0_cond4 _ _ = _); exact h4))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap; · iexact HO4
    ipureintro
    exact harg8.read_unread _
  isplitl [HS0]
  · iexists _; isplitr; swap; · iexact HS0
    ipureintro
    sl_unfold_words
    rw [← read_acc (accRef.view.writes _ _ _)]
    rw [View.read_writes_full]
    rw [View.readCov_full, View.readAt_full, View.readAt_full, read_acc, read_rows]
    rw [View.readAt_rep_unit arg5.view x1 _ rfl inb_S1x1024x512_S1x1024x256_0_0_0, View.readAt_rep_unit arg5.view x1 _ rfl inb_S1x1024x512_S1x1024x256_0_0_256,
      View.readAt_rep_unit arg6.view x2 _ rfl inb_S1x1024x512_S1x1024x256_0_0_0, View.readAt_rep_unit arg6.view x2 _ rfl inb_S1x1024x512_S1x1024x256_0_0_256,
      View.readAt_rep_unit arg7.view x3 _ rfl inb_S1x512x1024_S1x256x1024_0_0_0, View.readAt_rep_unit arg7.view x3 _ rfl inb_S1x512x1024_S1x256x1024_0_256_0]
    unfold step
    with_reducible rfl
  iexists _; isplitr; swap; · iexact HS1
  ipureintro
  rfl

set_option backward.proofsInPublic true in
set_option maxHeartbeats 8000000 in
/-- A tile in use, at its last point: one step of the accumulator, packed into the output block. -/
theorem body_last (K : PUnit → sProp 𝕄) (h1 : k0_cond1 i (usedWord T1) = 1#1) (h2 : ¬firstTest i) (h3 : k0_cond3 i = 1#1) (h4 : ¬(k0_cond4 i (usedWord T1) = 1#1)) :
    iprop(Held c arg4 arg5 arg6 arg7 arg8 T0 T1 x0 x1 x2 x3 y a h
        ∗ (Held c arg4 arg5 arg6 arg7 arg8 T0 T1 x0 x1 x2 x3 (k0_pay2 (step h x1 x2 x3 a)) (step h x1 x2 x3 a) h -∗ K ⟨⟩))
      ⊢ wp frame (wpE (defs₀ (F := F)) Variants.none c none) Set.univ
          (bodyAt i arg4 harg4 arg5 harg5 arg6 harg6 arg7 harg7 arg8 harg8) K := by
  unfold Held owns
  unfold bodyAt
  rw [cc0_moe_ffn_eq_skeleton]; unfold cc0_moe_ffn_skel
  iintro ⟨⟨H0, H1, H2, H3, HT0, HT1, ⟨%f4, %hf4, HO4⟩, ⟨%fa, %hfa, HS0⟩, ⟨%fh, %hfh, HS1⟩⟩, Hk⟩
  obtain rfl := harg8.eq_unread hf4
  subst hfa hfh
  have hS0 : accRef.IsWhole := Memref.isWhole_whole _
  have hS1 : rowsRef.IsWhole := Memref.isWhole_whole _
  have hT0 : expertTable.IsWhole := Memref.isWhole_whole _
  have hT1 : usedTable.IsWhole := Memref.isWhole_whole _
  sl_exec! (disch := first | (guard_target = k0_cond1 _ _ = _; exact h1) | (guard_target = ¬(Scalar.cmpi = _); exact h2) | (guard_target = k0_cond3 _ = _; exact h3) | (guard_target = ¬(k0_cond4 _ _ = _); exact h4))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap; · iexact HO4
    ipureintro
    sl_unfold_words
    rw [View.read_writes_full]
    rw [View.readCov_full, View.readCov_full, View.readAt_full, View.readAt_full, read_acc, read_rows]
    rw [View.readAt_rep_unit arg5.view x1 _ rfl inb_S1x1024x512_S1x1024x256_0_0_0, View.readAt_rep_unit arg5.view x1 _ rfl inb_S1x1024x512_S1x1024x256_0_0_256,
      View.readAt_rep_unit arg6.view x2 _ rfl inb_S1x1024x512_S1x1024x256_0_0_0, View.readAt_rep_unit arg6.view x2 _ rfl inb_S1x1024x512_S1x1024x256_0_0_256,
      View.readAt_rep_unit arg7.view x3 _ rfl inb_S1x512x1024_S1x256x1024_0_0_0, View.readAt_rep_unit arg7.view x3 _ rfl inb_S1x512x1024_S1x256x1024_0_256_0]
    unfold step
    with_reducible rfl
  isplitl [HS0]
  · iexists _; isplitr; swap; · iexact HS0
    ipureintro
    sl_unfold_words
    rw [← read_acc (accRef.view.writes _ _ _)]
    rw [View.read_writes_full]
    rw [View.readCov_full, View.readAt_full, View.readAt_full, read_acc, read_rows]
    rw [View.readAt_rep_unit arg5.view x1 _ rfl inb_S1x1024x512_S1x1024x256_0_0_0, View.readAt_rep_unit arg5.view x1 _ rfl inb_S1x1024x512_S1x1024x256_0_0_256,
      View.readAt_rep_unit arg6.view x2 _ rfl inb_S1x1024x512_S1x1024x256_0_0_0, View.readAt_rep_unit arg6.view x2 _ rfl inb_S1x1024x512_S1x1024x256_0_0_256,
      View.readAt_rep_unit arg7.view x3 _ rfl inb_S1x512x1024_S1x256x1024_0_0_0, View.readAt_rep_unit arg7.view x3 _ rfl inb_S1x512x1024_S1x256x1024_0_256_0]
    unfold step
    with_reducible rfl
  iexists _; isplitr; swap; · iexact HS1
  ipureintro
  rfl

set_option backward.proofsInPublic true in
set_option maxHeartbeats 8000000 in
/-- A tile not in use, before its last point: nothing changes. -/
theorem body_idle (K : PUnit → sProp 𝕄) (h1 : ¬(k0_cond1 i (usedWord T1) = 1#1)) (h4 : ¬(k0_cond4 i (usedWord T1) = 1#1)) :
    iprop(Held c arg4 arg5 arg6 arg7 arg8 T0 T1 x0 x1 x2 x3 y a h
        ∗ (Held c arg4 arg5 arg6 arg7 arg8 T0 T1 x0 x1 x2 x3 y a h -∗ K ⟨⟩))
      ⊢ wp frame (wpE (defs₀ (F := F)) Variants.none c none) Set.univ
          (bodyAt i arg4 harg4 arg5 harg5 arg6 harg6 arg7 harg7 arg8 harg8) K := by
  unfold Held owns
  unfold bodyAt
  rw [cc0_moe_ffn_eq_skeleton]; unfold cc0_moe_ffn_skel
  iintro ⟨⟨H0, H1, H2, H3, HT0, HT1, ⟨%f4, %hf4, HO4⟩, ⟨%fa, %hfa, HS0⟩, ⟨%fh, %hfh, HS1⟩⟩, Hk⟩
  obtain rfl := harg8.eq_unread hf4
  subst hfa hfh
  have hS0 : accRef.IsWhole := Memref.isWhole_whole _
  have hS1 : rowsRef.IsWhole := Memref.isWhole_whole _
  have hT0 : expertTable.IsWhole := Memref.isWhole_whole _
  have hT1 : usedTable.IsWhole := Memref.isWhole_whole _
  sl_exec! (disch := first | (guard_target = ¬(k0_cond1 _ _ = _); exact h1) | (guard_target = ¬(k0_cond4 _ _ = _); exact h4))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap; · iexact HO4
    ipureintro
    exact harg8.read_unread _
  isplitl [HS0]
  · iexists _; isplitr; swap; · iexact HS0
    ipureintro
    rfl
  iexists _; isplitr; swap; · iexact HS1
  ipureintro
  rfl

set_option backward.proofsInPublic true in
set_option maxHeartbeats 8000000 in
/-- A tile not in use, at its last point: zeros in the output block. -/
theorem body_zero (K : PUnit → sProp 𝕄) (h1 : ¬(k0_cond1 i (usedWord T1) = 1#1)) (h4 : k0_cond4 i (usedWord T1) = 1#1) :
    iprop(Held c arg4 arg5 arg6 arg7 arg8 T0 T1 x0 x1 x2 x3 y a h
        ∗ (Held c arg4 arg5 arg6 arg7 arg8 T0 T1 x0 x1 x2 x3 k0_pay3 a h -∗ K ⟨⟩))
      ⊢ wp frame (wpE (defs₀ (F := F)) Variants.none c none) Set.univ
          (bodyAt i arg4 harg4 arg5 harg5 arg6 harg6 arg7 harg7 arg8 harg8) K := by
  unfold Held owns
  unfold bodyAt
  rw [cc0_moe_ffn_eq_skeleton]; unfold cc0_moe_ffn_skel
  iintro ⟨⟨H0, H1, H2, H3, HT0, HT1, ⟨%f4, %hf4, HO4⟩, ⟨%fa, %hfa, HS0⟩, ⟨%fh, %hfh, HS1⟩⟩, Hk⟩
  obtain rfl := harg8.eq_unread hf4
  subst hfa hfh
  have hS0 : accRef.IsWhole := Memref.isWhole_whole _
  have hS1 : rowsRef.IsWhole := Memref.isWhole_whole _
  have hT0 : expertTable.IsWhole := Memref.isWhole_whole _
  have hT1 : usedTable.IsWhole := Memref.isWhole_whole _
  sl_exec! (disch := first | (guard_target = ¬(k0_cond1 _ _ = _); exact h1) | (guard_target = k0_cond4 _ _ = _; exact h4))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap; · iexact HO4
    ipureintro
    sl_unfold_words
    rw [View.read_writes_full]
  isplitl [HS0]
  · iexists _; isplitr; swap; · iexact HS0
    ipureintro
    rfl
  iexists _; isplitr; swap; · iexact HS1
  ipureintro
  rfl

end Cert.Kernel.Run

end
-- ==== Proof.KernelData.lean ====
/- THE KERNEL'S PIPELINE at any tables whose experts exist: its points and conditions, the blocks its windows hold, and the
   values its accumulator and its output block take. -/
module

public import proofs.«01_k».proof.Proof.KernelBody
public import proofs.«01_k».proof.Proof.Gen.Kernel.Launch

@[expose] public section

set_option maxRecDepth 16384
set_option Elab.async false

noncomputable section

namespace Cert.Kernel.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [BitOps F]

local notation "𝕄" => MT nD τ sig Unit (Elt F) ℕ (UR sig nD τ) ℕ

/-! ## Points and conditions -/

/-- Point `t` is step `t % 7` of tile `t / 7`. -/
theorem coords_eq : ∀ t : Fin grid0.N, (grid0.coords t 0).val = t.val / 7 ∧ (grid0.coords t 1).val = t.val % 7 := by decide +kernel

/-- The output block is written back at a tile's last step: there alone the next point's tile is another. -/
theorem lastStep : ∀ t : Fin grid0.N,
    (true && (t.val + 1 = grid0.N || decide (∃ h : t.val + 1 < grid0.N, ∃ a, cc0_transform_4 (grid0.coords ⟨t.val + 1, h⟩) a ≠ cc0_transform_4 (grid0.coords t) a)))
      = decide (t.val % 7 = 6) := by decide +kernel

/-- Tile `n` is in use: its number is below the word. -/
abbrev InUse (w : BitVec 32) (n : ℕ) : Prop := Scalar.cmpi .slt (BitVec.ofNat 32 n) w = 1#1

theorem cond1_iff (i : grid0.Coords) (w : BitVec 32) : k0_cond1 i w = 1#1 ↔ InUse w (i 0).val := by
  have h : ∀ b : BitVec 1, (Scalar.cmpi .ne (Scalar.extui b : BitVec 32) 0#32) = 1#1 ↔ b = 1#1 := by decide
  exact h _

theorem firstTest_iff (i : grid0.Coords) : firstTest i ↔ (i 1).val = 0 := by
  have h : ∀ k : Fin 7, (Scalar.cmpi .ne (Scalar.extui (Scalar.cmpi .eq (BitVec.ofNat 32 k.val) 0#32) : BitVec 32) 0#32) = 1#1 ↔ k.val = 0 := by decide
  exact h (i 1)

theorem cond3_iff (i : grid0.Coords) : k0_cond3 i = 1#1 ↔ (i 1).val = 6 := by
  have h : ∀ k : Fin 7, (Scalar.cmpi .ne (Scalar.extui (Scalar.cmpi .eq (BitVec.ofNat 32 k.val) 6#32) : BitVec 32) 0#32) = 1#1 ↔ k.val = 6 := by decide
  exact h (i 1)

theorem cond4_iff (i : grid0.Coords) (w : BitVec 32) : k0_cond4 i w = 1#1 ↔ ¬InUse w (i 0).val ∧ (i 1).val = 6 := by
  have h : ∀ k : Fin 7, ∀ b : BitVec 1, (Scalar.cmpi .ne (Scalar.extui (Scalar.andi (Scalar.xori b 1#1) (Scalar.cmpi .eq (BitVec.ofNat 32 k.val) 6#32)) : BitVec 32) 0#32) = 1#1
      ↔ ¬(b = 1#1) ∧ k.val = 6 := by decide
  exact h (i 1) _

variable (m : (ℓ : Loc nD τ sig) → Buf (Elt F) ℓ)

/-! ## The tables -/

/-- The one core. -/
abbrev core : Dev nD := 0

/-- Each tile's expert, and the word of the tiles in use, as launched. -/
abbrev expertOf : S40.Idx → BitVec 32 := m ((core : Thread nD τ).loc main_arg1)
abbrev usedTab : S1.Idx → BitVec 32 := m ((core : Thread nD τ).loc main_arg2)
abbrev used : BitVec 32 := usedTab m (Shape.Idx.first (numel1_S1.symm ▸ Nat.one_pos))

/-- Every tile's expert exists. -/
def Exist : Prop := ∀ x, (expertOf m x).toNat < 8

/-- The tables' contents as launched. -/
def tabs : pre0.Contents (Elt F) := fun j => m ((core : Thread nD τ).loc (pre0.ref j))

theorem usedWord_eq : usedWord (F := F) (usedTab m) = used m := by
  show usedTab m _ = usedTab m _
  exact congrArg _ (funext fun a => Fin.ext (by match a with | ⟨0, _⟩ => rfl))

theorem atD_eq : (tabs m).atD 1 ![0] = used m := by
  unfold Pipeline.Prefetch.Contents.atD
  split
  · show usedTab m _ = usedTab m _
    exact congrArg _ (funext fun a => Fin.ext (by match a with | ⟨0, _⟩ => rfl))
  · rename_i h
    exact absurd (fun a => by match a with | ⟨0, _⟩ => exact Nat.le_refl 1) h

theorem step_lt (i : grid0.Coords) : (BitVec.ofNat 32 (i 1).val).toNat + 1 ≤ 7 := by
  have : ∀ k : Fin 7, (BitVec.ofNat 32 k.val).toNat + 1 ≤ 7 := by decide
  exact this (i 1)

variable {m}

/-- With every tile's expert existing, every weight block lies in its array. -/
theorem tabs_ok (hE : Exist m) : ok0 (tabs m) := by
  refine ⟨fun i => ⟨fun a => ?_, .inl rfl⟩, fun i => ⟨fun a => ?_, .inl rfl⟩, fun i => ⟨fun a => ?_, .inl rfl⟩⟩
  · have h := step_lt i
    match a with
    | ⟨0, _⟩ => have h := hE ((Rect.unit (s := S40) (k0_off1 i) S1.size (k0_off1_inb i)).emb (Shape.Idx.first (numel1_S1.symm ▸ Nat.one_pos))); show (_ + 1) * 1 ≤ 8; rw [Nat.mul_one]; exact h
    | ⟨1, _⟩ => show (0 + 1) * 1024 ≤ 1024; omega
    | ⟨2, _⟩ => show ((BitVec.ofNat 32 (i 1).val).toNat + 1) * 512 ≤ 3584; omega
  · have h := step_lt i
    match a with
    | ⟨0, _⟩ => have h := hE ((Rect.unit (s := S40) (k0_off1 i) S1.size (k0_off1_inb i)).emb (Shape.Idx.first (numel1_S1.symm ▸ Nat.one_pos))); show (_ + 1) * 1 ≤ 8; rw [Nat.mul_one]; exact h
    | ⟨1, _⟩ => show (0 + 1) * 1024 ≤ 1024; omega
    | ⟨2, _⟩ => show ((BitVec.ofNat 32 (i 1).val).toNat + 1) * 512 ≤ 3584; omega
  · have h := step_lt i
    match a with
    | ⟨0, _⟩ => have h := hE ((Rect.unit (s := S40) (k0_off1 i) S1.size (k0_off1_inb i)).emb (Shape.Idx.first (numel1_S1.symm ▸ Nat.one_pos))); show (_ + 1) * 1 ≤ 8; rw [Nat.mul_one]; exact h
    | ⟨1, _⟩ => show ((BitVec.ofNat 32 (i 1).val).toNat + 1) * 512 ≤ 3584; omega
    | ⟨2, _⟩ => show (0 + 1) * 1024 ≤ 1024; omega

variable (hE : Exist m)

/-! ## The pipeline -/

/-- The pipeline at the tables as launched. -/
def adm : (pcfg0 (F := F)).Adm := ⟨tabs m, tabs_ok hE⟩
abbrev cfgA : Pipeline.Cfg sig Λ₀ := cfg0 (F := F) (adm hE)
abbrev pcs : Fin 1 → Pipeline.Cfg sig Λ₀ := Pipeline.pin (pcfgs (F := F)) fun _ => adm hE

abbrev crd (t : Fin (cfgA hE).N) : (cfgA hE).grid.Coords := (cfgA hE).grid.coords t

theorem flush_out (t : Fin (cfgA hE).N) : ((cfgA hE).win (4 : Fin 5)).flush t = decide (t.val % 7 = 6) :=
  (Pipeline.Window.flush_eq_flushF _ t).trans (lastStep t)

theorem tile_eq (t : Fin (cfgA hE).N) : (crd hE t 0).val = t.val / 7 := (coords_eq t).1
theorem step_eq (t : Fin (cfgA hE).N) : (crd hE t 1).val = t.val % 7 := (coords_eq t).2

theorem idle_out (t : Fin (cfgA hE).N) : (cfgA hE).idle (4 : Fin 5) (crd hE t) = decide (t.val % 7 ≠ 6) := by
  show (!(k0_cond1 (crd hE t) ((tabs m).atD 1 ![0]) == 1#1 && k0_cond3 (crd hE t) == 1#1) && !(k0_cond4 (crd hE t) ((tabs m).atD 1 ![0]) == 1#1)) = _
  rw [atD_eq, Bool.eq_iff_iff]
  have h1 := cond1_iff (crd hE t) (used m)
  have h3 := cond3_iff (crd hE t)
  have h4 := cond4_iff (crd hE t) (used m)
  rw [step_eq] at h3 h4
  simp only [Bool.and_eq_true, Bool.not_eq_true', Bool.and_eq_false_iff, beq_eq_false_iff_ne, ne_eq, decide_eq_true_eq, h1, h3, h4]
  tauto

/-- Each window's current staging memref at point `t`, and its wholeness. -/
abbrev ms0_0 (t : Fin (cfgA hE).N) : Memref sig .tc .vmem S1024x512 .f32 := spec0_0.stage ((cfgA hE).slots t (0 : Fin 5))
abbrev hs0_0 (t : Fin (cfgA hE).N) : (ms0_0 hE t).IsWhole := hstage0_0 (((cfgA hE).slots t (0 : Fin 5)).cast nbuf0_0)
abbrev ms0_1 (t : Fin (cfgA hE).N) : Memref sig .tc .vmem S1x1024x512 .f32 := spec0_1.stage ((cfgA hE).slots t (1 : Fin 5))
abbrev hs0_1 (t : Fin (cfgA hE).N) : (ms0_1 hE t).IsWhole := hstage0_1 (((cfgA hE).slots t (1 : Fin 5)).cast nbuf0_1)
abbrev ms0_2 (t : Fin (cfgA hE).N) : Memref sig .tc .vmem S1x1024x512 .f32 := spec0_2.stage ((cfgA hE).slots t (2 : Fin 5))
abbrev hs0_2 (t : Fin (cfgA hE).N) : (ms0_2 hE t).IsWhole := hstage0_2 (((cfgA hE).slots t (2 : Fin 5)).cast nbuf0_2)
abbrev ms0_3 (t : Fin (cfgA hE).N) : Memref sig .tc .vmem S1x512x1024 .f32 := spec0_3.stage ((cfgA hE).slots t (3 : Fin 5))
abbrev hs0_3 (t : Fin (cfgA hE).N) : (ms0_3 hE t).IsWhole := hstage0_3 (((cfgA hE).slots t (3 : Fin 5)).cast nbuf0_3)
abbrev ms0_4 (t : Fin (cfgA hE).N) : Memref sig .tc .vmem S1024x512 .f32 := spec0_4.stage ((cfgA hE).slots t (4 : Fin 5))
abbrev hs0_4 (t : Fin (cfgA hE).N) : (ms0_4 hE t).IsWhole := hstage0_4 (((cfgA hE).slots t (4 : Fin 5)).cast nbuf0_4)

/-- Window `w`'s block at point `t`, read off its array at launch. -/
def iblk (c : Dev nD) (w : Fin (cfgA hE).W) (t : Fin (cfgA hE).N) : (((cfgA hE).win w).xblock (crd hE t)).Idx → Elt F ((cfgA hE).win w).elt :=
  (((cfgA hE).win w).blk t).view.read (Elt F) (m (((cfgA hE).win w).arr.view.loc (c : Thread nD τ)))

/-! ## The values -/

/-- Step `f` of tile `n`, as a point. -/
def pt (n f : ℕ) : Fin (cfgA hE).N := ⟨(7 * n + f) % 280, by have : (cfgA hE).N = 280 := N_0; rw [this]; exact Nat.mod_lt _ (by decide)⟩

theorem pt_eq (t : Fin (cfgA hE).N) : pt hE (t.val / 7) (t.val % 7) = t := by
  have h : t.val < 280 := lt_of_lt_of_eq t.isLt N_0
  exact Fin.ext (show (7 * (t.val / 7) + t.val % 7) % 280 = t.val by omega)

/-- Tile `n`'s rows, unpacked at its first step. -/
def rowsOf (c : Dev nD) (n : ℕ) : Vec F S1024x1024 .bf16 := k0_pay5 (iblk hE c (0 : Fin 5) (pt hE n 0))

/-- Tile `n`'s accumulator before its step `f`. -/
def accOf (c : Dev nD) (n : ℕ) : ℕ → Vec F S1024x1024 .f32
  | 0 => k0_pay4
  | f + 1 => step (rowsOf hE c n) (iblk hE c (1 : Fin 5) (pt hE n f)) (iblk hE c (2 : Fin 5) (pt hE n f)) (iblk hE c (3 : Fin 5) (pt hE n f)) (accOf c n f)

/-- What tile `n` leaves in its output block. -/
def outOf (c : Dev nD) (n : ℕ) : Vec F S1024x512 .f32 := if InUse (used m) n then k0_pay2 (accOf hE c n 7) else k0_pay3

/-- The invariant before point `t`: within a tile in use, the accumulator and the rows are the tile's. -/
def Phi (c : Dev nD) (t : ℕ) : sProp 𝕄 :=
  iprop(∃ a, ∃ h, ⌜t % 7 ≠ 0 → InUse (used m) (t / 7) → a = accOf hE c (t / 7) (t % 7) ∧ h = rowsOf hE c (t / 7)⌝
    ∗ (accRef.view.loc (c : Thread nD τ) ↦{fullShare} a) ∗ (rowsRef.view.loc (c : Thread nD τ) ↦{fullShare} h)
    ∗ (expertTable.view.loc (c : Thread nD τ) ↦{fullShare.right} expertOf m) ∗ (usedTable.view.loc (c : Thread nD τ) ↦{fullShare.right} usedTab m))

/-- The proof data of the pipeline on core `c`. -/
def dats (_ : Fin 1) (c : Dev nD) : Dat τ (Elt F) Unit ℕ (UR sig nD τ) ℕ (cfgA hE) c where
  A w := m (((cfgA hE).win w).arr.view.loc (c : Thread nD τ))
  after w t := match w with
    | ⟨0, _⟩ => iblk hE c (0 : Fin 5) t
    | ⟨1, _⟩ => iblk hE c (1 : Fin 5) t
    | ⟨2, _⟩ => iblk hE c (2 : Fin 5) t
    | ⟨3, _⟩ => iblk hE c (3 : Fin 5) t
    | ⟨4, _⟩ => outOf hE c (t.val / 7)
  Φ t := Phi hE c t.val
  q _ := fullShare
  owed _ := 0

theorem after0_0 (c : Dev nD) (t : Fin (cfgA hE).N) : (dats hE 0 c).after (0 : Fin 5) t = iblk hE c (0 : Fin 5) t := rfl
theorem after0_1 (c : Dev nD) (t : Fin (cfgA hE).N) : (dats hE 0 c).after (1 : Fin 5) t = iblk hE c (1 : Fin 5) t := rfl
theorem after0_2 (c : Dev nD) (t : Fin (cfgA hE).N) : (dats hE 0 c).after (2 : Fin 5) t = iblk hE c (2 : Fin 5) t := rfl
theorem after0_3 (c : Dev nD) (t : Fin (cfgA hE).N) : (dats hE 0 c).after (3 : Fin 5) t = iblk hE c (3 : Fin 5) t := rfl
theorem after0_4 (c : Dev nD) (t : Fin (cfgA hE).N) : (dats hE 0 c).after (4 : Fin 5) t = outOf hE c (t.val / 7) := rfl

/-- An input's buffer holds the point's block when the body runs. -/
theorem before0_0 (c : Dev nD) (t : Fin (cfgA hE).N) (d) : (dats hE 0 c).before (0 : Fin 5) t d = iblk hE c (0 : Fin 5) t :=
  ((dats hE 0 c).before_in_eq_fetched (0 : Fin 5) rfl (fun _ => rfl) (fun _ _ _ => rfl)
    (fun t => by rw [after0_0]; unfold Dat.blockOf iblk; rfl) t d).trans (by unfold Dat.fetched Dat.blockOf iblk; rfl)
theorem before0_1 (c : Dev nD) (t : Fin (cfgA hE).N) (d) : (dats hE 0 c).before (1 : Fin 5) t d = iblk hE c (1 : Fin 5) t :=
  ((dats hE 0 c).before_in_eq_fetched (1 : Fin 5) rfl (fun _ => rfl) (fun _ _ _ => rfl)
    (fun t => by rw [after0_1]; unfold Dat.blockOf iblk; rfl) t d).trans (by unfold Dat.fetched Dat.blockOf iblk; rfl)
theorem before0_2 (c : Dev nD) (t : Fin (cfgA hE).N) (d) : (dats hE 0 c).before (2 : Fin 5) t d = iblk hE c (2 : Fin 5) t :=
  ((dats hE 0 c).before_in_eq_fetched (2 : Fin 5) rfl (fun _ => rfl) (fun _ _ _ => rfl)
    (fun t => by rw [after0_2]; unfold Dat.blockOf iblk; rfl) t d).trans (by unfold Dat.fetched Dat.blockOf iblk; rfl)
theorem before0_3 (c : Dev nD) (t : Fin (cfgA hE).N) (d) : (dats hE 0 c).before (3 : Fin 5) t d = iblk hE c (3 : Fin 5) t :=
  ((dats hE 0 c).before_in_eq_fetched (3 : Fin 5) rfl (fun _ => rfl) (fun _ _ _ => rfl)
    (fun t => by rw [after0_3]; unfold Dat.blockOf iblk; rfl) t d).trans (by unfold Dat.fetched Dat.blockOf iblk; rfl)

end Cert.Kernel.Run

end
-- ==== Proof.KernelRun.lean ====
/- THE KERNEL'S RUN: the body's obligation at every point, the launch, and what the arguments and the result hold at the end. -/
module

public import proofs.«01_k».proof.Proof.KernelData
public import Idealize.ShloMosaic.Lib.Pipeline.Quiescent
public import Idealize.ShloMosaic.Lib.Claim
public import Idealize.ShloMosaic.Lib.Pipeline.FrameBody
public import Idealize.ShloMosaic.Adequacy
public import Idealize.ShloMosaic.Init

@[expose] public section

set_option maxRecDepth 16384
set_option Elab.async false

noncomputable section

namespace Cert.Kernel.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [BitOps F]

local notation "𝕄" => MT nD τ sig Unit (Elt F) ℕ (UR sig nD τ) ℕ

abbrev EP : Emb (UR sig nD τ) 𝕄 := emb₁

variable {m : (ℓ : Loc nD τ sig) → Buf (Elt F) ℓ} (hE : Exist m)

/-! ## The values from point to point -/

theorem next_point {t : ℕ} (h : (t + 1) % 7 ≠ 0) : (t + 1) / 7 = t / 7 ∧ (t + 1) % 7 = t % 7 + 1 := by omega

theorem acc_next (c : Dev nD) (t : Fin (cfgA hE).N) :
    accOf hE c (t.val / 7) (t.val % 7 + 1)
      = step (rowsOf hE c (t.val / 7)) (iblk hE c (1 : Fin 5) t) (iblk hE c (2 : Fin 5) t) (iblk hE c (3 : Fin 5) t) (accOf hE c (t.val / 7) (t.val % 7)) := by
  show step _ (iblk hE c (1 : Fin 5) (pt hE (t.val / 7) (t.val % 7))) (iblk hE c (2 : Fin 5) (pt hE (t.val / 7) (t.val % 7)))
    (iblk hE c (3 : Fin 5) (pt hE (t.val / 7) (t.val % 7))) _ = _
  rw [pt_eq]

theorem rows_first (c : Dev nD) (t : Fin (cfgA hE).N) (h : t.val % 7 = 0) : rowsOf hE c (t.val / 7) = k0_pay5 (iblk hE c (0 : Fin 5) t) := by
  have e := pt_eq hE t
  rw [h] at e
  unfold rowsOf
  rw [e]

/-! ## The body's obligation -/

abbrev bodyAt0 (t : Fin (cfgA hE).N) : Prog (TpuEff nD τ sig (Elt F) Λ₀ .tc) PUnit :=
  bodyAt (crd hE t) (ms0_0 hE t) (hs0_0 hE t) (ms0_1 hE t) (hs0_1 hE t) (ms0_2 hE t) (hs0_2 hE t) (ms0_3 hE t) (hs0_3 hE t) (ms0_4 hE t) (hs0_4 hE t)

set_option maxHeartbeats 4000000 in
/-- The body at point `t`, by the point's path. -/
theorem sound_body (c : Dev nD) (t : Fin (cfgA hE).N) :
    iprop((dats hE 0 c).Φ t.castSucc ∗ (dats hE 0 c).owesAt () t.castSucc
        ∗ (∃ d, owns (c : Thread nD τ) (ms0_0 hE t) fullShare ((dats hE 0 c).before (0 : Fin 5) t d))
        ∗ (∃ d, owns (c : Thread nD τ) (ms0_1 hE t) fullShare ((dats hE 0 c).before (1 : Fin 5) t d))
        ∗ (∃ d, owns (c : Thread nD τ) (ms0_2 hE t) fullShare ((dats hE 0 c).before (2 : Fin 5) t d))
        ∗ (∃ d, owns (c : Thread nD τ) (ms0_3 hE t) fullShare ((dats hE 0 c).before (3 : Fin 5) t d))
        ∗ (∃ d, owns (c : Thread nD τ) (ms0_4 hE t) fullShare ((dats hE 0 c).before (4 : Fin 5) t d)))
      ⊢ wp frame (wpE (defs₀ (F := F)) Variants.none c none) Set.univ (bodyAt0 hE t) fun _ =>
          iprop((dats hE 0 c).Φ t.succ ∗ (dats hE 0 c).owesAt () t.succ
            ∗ bigSep Finset.univ fun w : Fin (cfgA hE).W =>
                match (cfgA hE).idle w ((cfgA hE).grid.coords t) with
                | true =>
                  match ((cfgA hE).win w).flush t with
                  | false => iprop(∃ d, owns (c : Thread nD τ) (((cfgA hE).win w).stage ((cfgA hE).slots t w)) fullShare ((dats hE 0 c).before w t d))
                  | true => owns (c : Thread nD τ) (((cfgA hE).win w).stage ((cfgA hE).slots t w)) fullShare ((dats hE 0 c).after w t)
                | false => owns (c : Thread nD τ) (((cfgA hE).win w).stage ((cfgA hE).slots t w)) fullShare ((dats hE 0 c).after w t)) := by
  rw [bigSep_W0]
  have hc0 : (crd hE t 0).val = t.val / 7 := tile_eq hE t
  have hc1 : (crd hE t 1).val = t.val % 7 := step_eq hE t
  have e1 := cond1_iff (crd hE t) (used m)
  have e2 := firstTest_iff (crd hE t)
  have e3 := cond3_iff (crd hE t)
  have e4 := cond4_iff (crd hE t) (used m)
  have hw := usedWord_eq m
  rw [hc0] at e1 e4
  rw [hc1] at e2 e3 e4
  rw [← hw] at e1 e4
  rewrite [show (dats hE 0 c).Φ t.succ = Phi hE c (t.val + 1) from rfl, show (dats hE 0 c).Φ t.castSucc = Phi hE c t.val from rfl,
    show (dats hE 0 c).owesAt () t.succ = (dats hE 0 c).owesAt () t.castSucc from rfl]
  by_cases hu : InUse (used m) (t.val / 7)
  · have hu' : k0_cond1 (crd hE t) (usedWord (F := F) (usedTab m)) = 1#1 := e1.2 (hw.symm ▸ hu)
    have h4 : ¬(k0_cond4 (crd hE t) (usedWord (F := F) (usedTab m)) = 1#1) := fun h => (e4.1 h).1 (hw.symm ▸ hu)
    by_cases h0 : t.val % 7 = 0
    · have hf : t.val % 7 ≠ 6 := by omega
      have i4 : (cfgA hE).idle (4 : Fin 5) ((cfgA hE).grid.coords t) = true := (idle_out hE t).trans (decide_eq_true hf)
      have f4 : ((cfgA hE).win (4 : Fin 5)).flush t = false := (flush_out hE t).trans (decide_eq_false hf)
      rewrite [i4]
      simp only [before0_0, before0_1, before0_2, before0_3, after0_0, after0_1, after0_2, after0_3, after0_4, f4]
      unfold Phi
      iintro ⟨⟨%a, %h, %hah, HS0, HS1, HT0, HT1⟩, Ho, ⟨%d0, H0⟩, ⟨%d1, H1⟩, ⟨%d2, H2⟩, ⟨%d3, H3⟩, ⟨%d4, H4⟩⟩
      iapply (body_first c (crd hE t) (ms0_0 hE t) (hs0_0 hE t) (ms0_1 hE t) (hs0_1 hE t) (ms0_2 hE t) (hs0_2 hE t) (ms0_3 hE t) (hs0_3 hE t) (ms0_4 hE t) (hs0_4 hE t) (expertOf m) (usedTab m) (iblk hE c (0 : Fin 5) t) (iblk hE c (1 : Fin 5) t) (iblk hE c (2 : Fin 5) t) (iblk hE c (3 : Fin 5) t) ((dats hE 0 c).before (4 : Fin 5) t d4) _ _ _ hu' (e2.2 h0) (fun h => hf (e3.1 h)) h4)
      unfold Held
      isplitl [H0 H1 H2 H3 HT0 HT1 H4 HS0 HS1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]
        · iexists _; isplitr; swap; · iexact HS0
          ipureintro; rfl
        iexists _; isplitr; swap; · iexact HS1
        ipureintro; rfl
      iintro ⟨H0, H1, H2, H3, HT0, HT1, H4, ⟨%fa, %hfa, HS0⟩, ⟨%fh, %hfh, HS1⟩⟩
      subst hfa hfh
      isplitl [HS0 HS1 HT0 HT1]
      · iexists _, _; isplitr; swap
        · isplitl [HS0]; · iexact HS0
          isplitl [HS1]; · iexact HS1
          isplitl [HT0]; · iexact HT0
          iexact HT1
        · ipureintro; intro hn hu'
          obtain ⟨q1, q2⟩ := next_point hn
          rw [q1] at hu'
          rw [q1, q2, acc_next hE c t, rows_first hE c t h0, h0]
          exact ⟨rfl, rfl⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
    · by_cases hf : t.val % 7 = 6
      · have i4 : (cfgA hE).idle (4 : Fin 5) ((cfgA hE).grid.coords t) = false := (idle_out hE t).trans (decide_eq_false (not_not_intro hf))
        have f4 : ((cfgA hE).win (4 : Fin 5)).flush t = true := (flush_out hE t).trans (decide_eq_true hf)
        rewrite [i4]
        simp only [before0_0, before0_1, before0_2, before0_3, after0_0, after0_1, after0_2, after0_3, after0_4, f4]
        unfold Phi
        iintro ⟨⟨%a, %h, %hah, HS0, HS1, HT0, HT1⟩, Ho, ⟨%d0, H0⟩, ⟨%d1, H1⟩, ⟨%d2, H2⟩, ⟨%d3, H3⟩, ⟨%d4, H4⟩⟩
        obtain ⟨rfl, rfl⟩ := hah (by omega) hu
        iapply (body_last c (crd hE t) (ms0_0 hE t) (hs0_0 hE t) (ms0_1 hE t) (hs0_1 hE t) (ms0_2 hE t) (hs0_2 hE t) (ms0_3 hE t) (hs0_3 hE t) (ms0_4 hE t) (hs0_4 hE t) (expertOf m) (usedTab m) (iblk hE c (0 : Fin 5) t) (iblk hE c (1 : Fin 5) t) (iblk hE c (2 : Fin 5) t) (iblk hE c (3 : Fin 5) t) ((dats hE 0 c).before (4 : Fin 5) t d4) _ _ _ hu' (fun h => h0 (e2.1 h)) (e3.2 hf) h4)
        unfold Held
        isplitl [H0 H1 H2 H3 HT0 HT1 H4 HS0 HS1]
        · isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [HT1]; · iexact HT1
          isplitl [H4]; · iexact H4
          isplitl [HS0]
          · iexists _; isplitr; swap; · iexact HS0
            ipureintro; rfl
          iexists _; isplitr; swap; · iexact HS1
          ipureintro; rfl
        iintro ⟨H0, H1, H2, H3, HT0, HT1, H4, ⟨%fa, %hfa, HS0⟩, ⟨%fh, %hfh, HS1⟩⟩
        subst hfa hfh
        isplitl [HS0 HS1 HT0 HT1]
        · iexists _, _; isplitr; swap
          · isplitl [HS0]; · iexact HS0
            isplitl [HS1]; · iexact HS1
            isplitl [HT0]; · iexact HT0
            iexact HT1
          · ipureintro; intro hn hu'
            obtain ⟨q1, q2⟩ := next_point hn
            rw [q1] at hu'
            exact absurd hn (by omega)
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        have ho : outOf hE c (t.val / 7) = k0_pay2 (accOf hE c (t.val / 7) 7) := if_pos hu
        rw [ho]
        have ha := acc_next hE c t
        rw [hf] at ha
        rw [ha]
        rw [hf]
        iexact H4
      · have i4 : (cfgA hE).idle (4 : Fin 5) ((cfgA hE).grid.coords t) = true := (idle_out hE t).trans (decide_eq_true hf)
        have f4 : ((cfgA hE).win (4 : Fin 5)).flush t = false := (flush_out hE t).trans (decide_eq_false hf)
        rewrite [i4]
        simp only [before0_0, before0_1, before0_2, before0_3, after0_0, after0_1, after0_2, after0_3, after0_4, f4]
        unfold Phi
        iintro ⟨⟨%a, %h, %hah, HS0, HS1, HT0, HT1⟩, Ho, ⟨%d0, H0⟩, ⟨%d1, H1⟩, ⟨%d2, H2⟩, ⟨%d3, H3⟩, ⟨%d4, H4⟩⟩
        obtain ⟨rfl, rfl⟩ := hah (by omega) hu
        iapply (body_middle c (crd hE t) (ms0_0 hE t) (hs0_0 hE t) (ms0_1 hE t) (hs0_1 hE t) (ms0_2 hE t) (hs0_2 hE t) (ms0_3 hE t) (hs0_3 hE t) (ms0_4 hE t) (hs0_4 hE t) (expertOf m) (usedTab m) (iblk hE c (0 : Fin 5) t) (iblk hE c (1 : Fin 5) t) (iblk hE c (2 : Fin 5) t) (iblk hE c (3 : Fin 5) t) ((dats hE 0 c).before (4 : Fin 5) t d4) _ _ _ hu' (fun h => h0 (e2.1 h)) (fun h => hf (e3.1 h)) h4)
        unfold Held
        isplitl [H0 H1 H2 H3 HT0 HT1 H4 HS0 HS1]
        · isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [HT1]; · iexact HT1
          isplitl [H4]; · iexact H4
          isplitl [HS0]
          · iexists _; isplitr; swap; · iexact HS0
            ipureintro; rfl
          iexists _; isplitr; swap; · iexact HS1
          ipureintro; rfl
        iintro ⟨H0, H1, H2, H3, HT0, HT1, H4, ⟨%fa, %hfa, HS0⟩, ⟨%fh, %hfh, HS1⟩⟩
        subst hfa hfh
        isplitl [HS0 HS1 HT0 HT1]
        · iexists _, _; isplitr; swap
          · isplitl [HS0]; · iexact HS0
            isplitl [HS1]; · iexact HS1
            isplitl [HT0]; · iexact HT0
            iexact HT1
          · ipureintro; intro hn hu'
            obtain ⟨q1, q2⟩ := next_point hn
            rw [q1] at hu'
            rw [q1, q2, acc_next hE c t]
            exact ⟨rfl, rfl⟩
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        iexists d4; iexact H4
  · have hu1 : ¬(k0_cond1 (crd hE t) (usedWord (F := F) (usedTab m)) = 1#1) := fun h => hu (hw ▸ e1.1 h)
    by_cases hf : t.val % 7 = 6
    · have i4 : (cfgA hE).idle (4 : Fin 5) ((cfgA hE).grid.coords t) = false := (idle_out hE t).trans (decide_eq_false (not_not_intro hf))
      have f4 : ((cfgA hE).win (4 : Fin 5)).flush t = true := (flush_out hE t).trans (decide_eq_true hf)
      rewrite [i4]
      simp only [before0_0, before0_1, before0_2, before0_3, after0_0, after0_1, after0_2, after0_3, after0_4, f4]
      unfold Phi
      iintro ⟨⟨%a, %h, %hah, HS0, HS1, HT0, HT1⟩, Ho, ⟨%d0, H0⟩, ⟨%d1, H1⟩, ⟨%d2, H2⟩, ⟨%d3, H3⟩, ⟨%d4, H4⟩⟩
      iapply (body_zero c (crd hE t) (ms0_0 hE t) (hs0_0 hE t) (ms0_1 hE t) (hs0_1 hE t) (ms0_2 hE t) (hs0_2 hE t) (ms0_3 hE t) (hs0_3 hE t) (ms0_4 hE t) (hs0_4 hE t) (expertOf m) (usedTab m) (iblk hE c (0 : Fin 5) t) (iblk hE c (1 : Fin 5) t) (iblk hE c (2 : Fin 5) t) (iblk hE c (3 : Fin 5) t) ((dats hE 0 c).before (4 : Fin 5) t d4) _ _ _ hu1 (e4.2 ⟨fun h => hu (hw ▸ h), hf⟩))
      unfold Held
      isplitl [H0 H1 H2 H3 HT0 HT1 H4 HS0 HS1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]
        · iexists _; isplitr; swap; · iexact HS0
          ipureintro; rfl
        iexists _; isplitr; swap; · iexact HS1
        ipureintro; rfl
      iintro ⟨H0, H1, H2, H3, HT0, HT1, H4, ⟨%fa, %hfa, HS0⟩, ⟨%fh, %hfh, HS1⟩⟩
      subst hfa hfh
      isplitl [HS0 HS1 HT0 HT1]
      · iexists _, _; isplitr; swap
        · isplitl [HS0]; · iexact HS0
          isplitl [HS1]; · iexact HS1
          isplitl [HT0]; · iexact HT0
          iexact HT1
        · ipureintro; intro hn hu'
          obtain ⟨q1, q2⟩ := next_point hn
          rw [q1] at hu'
          exact absurd hu' hu
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      have ho : outOf hE c (t.val / 7) = k0_pay3 := if_neg hu
      rw [ho]
      iexact H4
    · have i4 : (cfgA hE).idle (4 : Fin 5) ((cfgA hE).grid.coords t) = true := (idle_out hE t).trans (decide_eq_true hf)
      have f4 : ((cfgA hE).win (4 : Fin 5)).flush t = false := (flush_out hE t).trans (decide_eq_false hf)
      rewrite [i4]
      simp only [before0_0, before0_1, before0_2, before0_3, after0_0, after0_1, after0_2, after0_3, after0_4, f4]
      unfold Phi
      iintro ⟨⟨%a, %h, %hah, HS0, HS1, HT0, HT1⟩, Ho, ⟨%d0, H0⟩, ⟨%d1, H1⟩, ⟨%d2, H2⟩, ⟨%d3, H3⟩, ⟨%d4, H4⟩⟩
      iapply (body_idle c (crd hE t) (ms0_0 hE t) (hs0_0 hE t) (ms0_1 hE t) (hs0_1 hE t) (ms0_2 hE t) (hs0_2 hE t) (ms0_3 hE t) (hs0_3 hE t) (ms0_4 hE t) (hs0_4 hE t) (expertOf m) (usedTab m) (iblk hE c (0 : Fin 5) t) (iblk hE c (1 : Fin 5) t) (iblk hE c (2 : Fin 5) t) (iblk hE c (3 : Fin 5) t) ((dats hE 0 c).before (4 : Fin 5) t d4) _ _ _ hu1 (fun h => hf (e4.1 h).2))
      unfold Held
      isplitl [H0 H1 H2 H3 HT0 HT1 H4 HS0 HS1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]
        · iexists _; isplitr; swap; · iexact HS0
          ipureintro; rfl
        iexists _; isplitr; swap; · iexact HS1
        ipureintro; rfl
      iintro ⟨H0, H1, H2, H3, HT0, HT1, H4, ⟨%fa, %hfa, HS0⟩, ⟨%fh, %hfh, HS1⟩⟩
      subst hfa hfh
      isplitl [HS0 HS1 HT0 HT1]
      · iexists _, _; isplitr; swap
        · isplitl [HS0]; · iexact HS0
          isplitl [HS1]; · iexact HS1
          isplitl [HT0]; · iexact HT0
          iexact HT1
        · ipureintro; intro hn hu'
          obtain ⟨q1, q2⟩ := next_point hn
          rw [q1] at hu'
          exact absurd hu' hu
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4

/-- The pipeline's obligation, at every point. -/
theorem body_obligation (c : Dev nD) : BodyObligation (dats hE 0 c) (defs₀ (F := F)) Variants.none () Set.univ := fun t => by
  rw [bigSep_W0]
  exact sound_body hE c t

/-! ## The launch -/

/-- The launch's ghost element. -/
def u₀ : UR sig nD τ :=
  initOf (Pipeline.cells (pcs hE) ((launch0 (F := F)).cellOf_inj fun _ => adm hE))
    (Pipeline.launchToks (pcs hE) ((launch0 (F := F)).cellOf_inj fun _ => adm hE))

theorem share_eq (c : Dev nD) (w : Fin (cfgA hE).W) : (dats hE 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point: the scratch arrays at anything. -/
theorem phi_first (c : Dev nD) :
    iprop(BI.emp ∗ Pipeline.prefHeld pre0 c (fun _ => fullShare.right) (adm hE).1 ∗ Pipeline.scopedRest spec0 c) ⊢ (dats hE 0 c).Φ 0 := by
  rw [prefHeld_eq, scopedRest0_eq, show (dats hE 0 c).Φ 0 = Phi hE c 0 from rfl]
  unfold Phi
  iintro ⟨-, ⟨HT0, HT1⟩, ⟨%a0, HS0⟩, ⟨%a1, HS1⟩⟩
  iexists a0, a1; isplitr; swap
  · isplitl [HS0]; · iexact HS0
    isplitl [HS1]; · iexact HS1
    isplitl [HT0]; · iexact HT0
    iexact HT1
  · ipureintro; intro h; exact absurd rfl h

/-- The scratch arrays handed back at the end. -/
theorem phi_last (c : Dev nD) : (dats hE 0 c).Φ (Fin.last (cfgA hE).N) ⊢ iprop(BI.emp ∗ Pipeline.scopedRest spec0 c) := by
  rw [scopedRest0_eq, show (dats hE 0 c).Φ (Fin.last (cfgA hE).N) = Phi hE c (cfgA hE).N from rfl]
  unfold Phi
  iintro ⟨%a0, %a1, -, HS0, HS1, -, -⟩
  isplitr; · iempintro
  isplitl [HS0]
  · iexists a0; iexact HS0
  iexists a1; iexact HS1

variable (ρ : Dev nD → PrngReg)

/-- At the end: every array at the pipeline's contents, every table as launched. -/
def QC : PUnit × MemSt nD τ sig (Elt F) → Prop := fun r =>
  ∀ c : Dev nD, (∀ w : Fin (cfgA hE).W, r.2.mem (((cfgA hE).win w).arr.view.loc (c : Thread nD τ)) = (dats hE 0 c).arrAt w (cfgA hE).N)
    ∧ ∀ j, r.2.mem ((c : Thread nD τ).loc (pre0.ref j)) = (adm hE).1 j

theorem tabs_at (c : Dev nD) (j : Fin 2) : m ((c : Thread nD τ).loc (pre0.ref j)) = (adm hE).1 j := by
  obtain rfl : c = core := Subsingleton.elim _ _
  rfl

set_option backward.isDefEq.respectTransparency.types false in
set_option maxHeartbeats 4000000 in
/-- Every weakly fair execution ends, with every array at the pipeline's contents and every counter at zero. -/
theorem run_main : θ_run (defs (F := F)) (onTc (τ := τ) (main (F := F))) ⟨m, fun _ => 0, ρ⟩ (fun r => QC hE r ∧ r.2.sem = fun _ => 0) :=
  Pipeline.θ_run_region_noSem_pf_quiescent pcfgs (fun _ => adm hE) (dats hE) () ((launch0 (F := F)).cellOf_inj fun _ => adm hE) (0 : Fin 1)
    (launch0 (F := F)).win.to₀ (launch0 (F := F)).pre EP defs₀ Variants.none m ρ main
    (hbody := fun c => (body_obligation hE c).loose) (hne := (launch0 (F := F)).block_pos)
    (harr := (launch0 (F := F)).arr_whole) (hstage := (launch0 (F := F)).stage_whole) (howed := fun _ _ => rfl)
    (u₀ := u₀ hE) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hE) (dats hE) 0 (launch0 (F := F)).win.arr_inj c (launch0 (F := F)).arr_whole
      (share_eq hE c) _ _ fun _ => rfl)
    (hpf := tabs_at hE)
    (X := fun _ => iprop(emp)) (Y := fun _ => iprop(emp)) (Z := fun _ => iprop(emp))
    (hX := fun c => by rw [unscopedRestP0_eq]; iintro -; isplitr <;> iempintro)
    (hin := phi_first hE)
    (hout := phi_last hE)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-! ## The result and the arguments -/

/-- The result: each tile's rows at what the tile leaves. -/
def result (c : Dev nD) : S40960x512.Idx → Elt F .f32 := fun i =>
  outOf hE c ((i 0).val / 1024) (fun a => match a with
    | ⟨0, _⟩ => ⟨(i 0).val % 1024, Nat.mod_lt _ (by decide)⟩
    | ⟨1, _⟩ => ⟨(i 1).val, (i 1).isLt⟩)

theorem out_index (t : Fin (cfgA hE).N) : ((cfgA hE).win (4 : Fin 5)).index t = ![t.val / 7, 0] := by
  have h : ∀ t : Fin grid0.N, cc0_transform_4 (grid0.coords t) = ![t.val / 7, 0] := by decide +kernel
  exact h t

/-- A point's output block is its tile's rows of the result. -/
theorem out_block (c : Dev nD) (t : Fin (cfgA hE).N) :
    (dats hE 0 c).flushed (4 : Fin 5) t = (((cfgA hE).win (4 : Fin 5)).blk t).view.read (Elt F) (result hE c) := by
  show ((cfgA hE).win (4 : Fin 5)).cut (crd hE t) ((dats hE 0 c).after (4 : Fin 5) t) = _
  rw [after0_4]
  have hi := out_index hE t
  funext j
  rw [View.read_apply]
  show outOf hE c (t.val / 7) _ = outOf hE c (_ / 1024) _
  have hj0 : (j 0).val < 1024 := (j 0).isLt
  have e0 : ((((cfgA hE).win (4 : Fin 5)).blk t).view.emb j 0).val = 1024 * (t.val / 7) + (j 0).val := by
    show ((cfgA hE).win (4 : Fin 5)).index t 0 * 1024 + 1 * (j 0).val = _
    rw [hi]; show t.val / 7 * 1024 + _ = _; omega
  have e1 : ((((cfgA hE).win (4 : Fin 5)).blk t).view.emb j 1).val = (j 1).val := by
    show ((cfgA hE).win (4 : Fin 5)).index t 1 * 512 + 1 * (j 1).val = _
    rw [hi]; show 0 * 512 + _ = _; omega
  have hn : ((((cfgA hE).win (4 : Fin 5)).blk t).view.emb j 0).val / 1024 = t.val / 7 := by rw [e0]; omega
  have hm : ((((cfgA hE).win (4 : Fin 5)).blk t).view.emb j 0).val % 1024 = (j 0).val := by rw [e0]; omega
  refine congr (congrArg _ hn.symm) (funext fun a => Fin.ext ?_)
  match a with
  | ⟨0, _⟩ => exact hm.symm
  | ⟨1, _⟩ => exact e1.symm

/-- The result array ends at the result: the tiles' last steps cover it. -/
theorem final_out (c : Dev nD) : (dats hE 0 c).arrAt (4 : Fin 5) (cfgA hE).N = result hE c := by
  refine (dats hE 0 c).arrAt_eq_of_cover (4 : Fin 5) (result hE c) (fun t _ => out_block hE c t) fun i => ?_
  have h0 : (i 0 : Nat) < 40960 := (i 0).isLt
  have h1 : (i 1 : Nat) < 512 := (i 1).isLt
  have hN : (cfgA hE).N = 280 := N_0
  have hv : (pt hE ((i 0 : Nat) / 1024) 6).val = 7 * ((i 0 : Nat) / 1024) + 6 := Nat.mod_eq_of_lt (by omega)
  refine ⟨pt hE ((i 0 : Nat) / 1024) 6, (flush_out hE _).trans (decide_eq_true (by rw [hv]; omega)), ?_⟩
  show (show ((View.whole main_v0).slice (((cfgA hE).win 4).rect (pt hE (((show S40960x512.Idx from i) 0).val / 1024) 6))).ty.Idx from i) ∈ ((View.whole main_v0).slice (((cfgA hE).win (4 : Fin 5)).rect (pt hE ((i 0 : Nat) / 1024) 6))).set
  rw [View.set_slice_whole, Rect.mem_set_unit]
  have hi := out_index hE (pt hE ((i 0 : Nat) / 1024) 6)
  have hq : (7 * ((i 0 : Nat) / 1024) + 6) / 7 = (i 0 : Nat) / 1024 := by omega
  rw [hv, hq] at hi
  intro a
  match a with
  | ⟨0, _⟩ =>
    show ((cfgA hE).win (4 : Fin 5)).index _ 0 * 1024 ≤ (i 0 : Nat) ∧ (i 0 : Nat) < ((cfgA hE).win (4 : Fin 5)).index _ 0 * 1024 + 1024
    rw [hi]; show (i 0 : Nat) / 1024 * 1024 ≤ _ ∧ _ < (i 0 : Nat) / 1024 * 1024 + 1024; omega
  | ⟨1, _⟩ =>
    show ((cfgA hE).win (4 : Fin 5)).index _ 1 * 512 ≤ (i 1 : Nat) ∧ (i 1 : Nat) < ((cfgA hE).win (4 : Fin 5)).index _ 1 * 512 + 512
    rw [hi]; show 0 * 512 ≤ _ ∧ _ < 0 * 512 + 512; omega

/-- The whole run: the result at every tile's value, the arguments unchanged, the counters at zero. -/
theorem run : θ_run (defs (F := F)) (onTc (τ := τ) (main (F := F))) ⟨m, fun _ => 0, ρ⟩ (fun r => (∀ c : Dev nD,
      r.2.mem ((c.tc : Thread nD τ).loc main_v0) = result hE c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 (4 : Fin 5)).trans (final_out hE c),
    ((h.1 c).1 (0 : Fin 5)).trans ((dats hE 0 c).arrAt_in (0 : Fin 5) rfl _), ((h.1 c).2 0).trans (tabs_at hE c 0).symm,
    ((h.1 c).2 1).trans (tabs_at hE c 1).symm, ((h.1 c).1 (1 : Fin 5)).trans ((dats hE 0 c).arrAt_in (1 : Fin 5) rfl _),
    ((h.1 c).1 (2 : Fin 5)).trans ((dats hE 0 c).arrAt_in (2 : Fin 5) rfl _), ((h.1 c).1 (3 : Fin 5)).trans ((dats hE 0 c).arrAt_in (3 : Fin 5) rfl _)⟩, h.2⟩)
    (run_main hE ρ)

end Cert.Kernel.Run

end
-- ==== Proof.ReferenceBody.lean ====
/- THE REFERENCE'S BODY: its two counted loops, each by an invariant. The inner loop adds a tile's products, 256
   columns of the expert at a time; the outer one writes the tiles' rows of the result one after the other. -/
module

public import proofs.«01_k».proof.Proof.Gen.Reference.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 16384
set_option Elab.async false

noncomputable section

namespace Cert.Reference.Run

open Cert.Reference Cert.Reference.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-! ## The words -/

theorem trips1 : k0_t1_loop.trips = 40 := by decide
theorem trips2 : k0_t2_loop.trips = 14 := by decide

theorem off1_eq (k : Fin k0_t1_loop.trips) : k0_off1 k = ![k.val] :=
  (by decide +kernel : ∀ k : Fin k0_t1_loop.trips, k0_off1 k = ![k.val]) k
theorem off2_eq (k : Fin k0_t1_loop.trips) : k0_off2 k = ![1024 * k.val, 0] :=
  (by decide +kernel : ∀ k : Fin k0_t1_loop.trips, k0_off2 k = ![1024 * k.val, 0]) k
theorem off5_eq (k : Fin k0_t1_loop.trips) : k0_off5 k = ![1024 * k.val, 0] :=
  (by decide +kernel : ∀ k : Fin k0_t1_loop.trips, k0_off5 k = ![1024 * k.val, 0]) k
theorem chunk_eq (k : Fin k0_t2_loop.trips) : (Scalar.indexCast (Scalar.muli (Scf.iv 0#32 1#32 k) 256#32)).toNat = 256 * k.val :=
  (by decide +kernel : ∀ k : Fin k0_t2_loop.trips, (Scalar.indexCast (Scalar.muli (Scf.iv 0#32 1#32 k) 256#32)).toNat = 256 * k.val) k
theorem off3_eq (e : BitVec 32) (k : Fin k0_t2_loop.trips) : k0_off3 e k = ![e.toNat, 0, 256 * k.val] := by
  rw [← chunk_eq k]; rfl
theorem off4_eq (e : BitVec 32) (k : Fin k0_t2_loop.trips) : k0_off4 e k = ![e.toNat, 256 * k.val, 0] := by
  rw [← chunk_eq k]; rfl

/-- An expert's number below eight is all the body assumes. -/
theorem chk_of_lt (e : BitVec 32) (h : e.toNat < 8) : k0_chk1 e := by
  unfold k0_chk1
  have ht : ∀ k : Fin k0_t2_loop.trips, k.val < 14 := fun k => lt_of_lt_of_eq k.isLt trips2
  refine ⟨fun k => ?_, fun k => ?_⟩
  · rw [off3_eq]; have := ht k
    intro a
    match a with
    | ⟨0, _⟩ => show e.toNat + 1 ≤ 8; omega
    | ⟨1, _⟩ => show 0 + 1024 ≤ 1024; omega
    | ⟨2, _⟩ => show 256 * k.val + 256 ≤ 3584; omega
  · rw [off4_eq]; have := ht k
    intro a
    match a with
    | ⟨0, _⟩ => show e.toNat + 1 ≤ 8; omega
    | ⟨1, _⟩ => show 256 * k.val + 256 ≤ 3584; omega
    | ⟨2, _⟩ => show 0 + 1024 ≤ 1024; omega

/-! ## The values -/

/-- A tile's rows after `k` chunks of its expert's columns. -/
def chunkAcc (x3 x4 : Vec F S8x1024x3584 .f32) (x5 : Vec F S8x3584x1024 .f32) (e : BitVec 32) (he : k0_chk1 e) (v6 : Vec F S1024x512 .f32) :
    ℕ → FVec F S1024x1024 .f32
  | 0 => k0_pay1
  | k + 1 => if h : k < k0_t2_loop.trips then
      k0_pay2 v6 (chunkAcc x3 x4 x5 e he v6 k)
        (VecWindow.window x3 (k0_off3 e ⟨k, h⟩) S1x1024x256.size (k0_off3_inb e he ⟨k, h⟩))
        (VecWindow.window x4 (k0_off3 e ⟨k, h⟩) S1x1024x256.size (k0_off3_inb e he ⟨k, h⟩))
        (VecWindow.window x5 (k0_off4 e ⟨k, h⟩) S1x256x1024.size (k0_off4_inb e he ⟨k, h⟩))
    else chunkAcc x3 x4 x5 e he v6 k

theorem chunkAcc_succ (x3 x4 : Vec F S8x1024x3584 .f32) (x5 : Vec F S8x3584x1024 .f32) (e : BitVec 32) (he : k0_chk1 e) (v6 : Vec F S1024x512 .f32)
    (k : Fin k0_t2_loop.trips) :
    chunkAcc x3 x4 x5 e he v6 (k.val + 1) = k0_pay2 v6 (chunkAcc x3 x4 x5 e he v6 k.val)
        (VecWindow.window x3 (k0_off3 e k) S1x1024x256.size (k0_off3_inb e he k))
        (VecWindow.window x4 (k0_off3 e k) S1x1024x256.size (k0_off3_inb e he k))
        (VecWindow.window x5 (k0_off4 e k) S1x256x1024.size (k0_off4_inb e he k)) := by
  rw [chunkAcc]; exact dif_pos k.isLt

/-- A tile's expert, as the body reads it. -/
abbrev tileExpert (x0 : S40.Idx → Elt F .i32) (k : Fin k0_t1_loop.trips) : BitVec 32 :=
  VecWindow.window (α := Elt F .i32) x0 (k0_off1 k) S1.size (k0_off1_inb k) (Shape.Idx.first (numel1_S1.symm ▸ Nat.one_pos))

theorem chk_tile (x0 : S40.Idx → Elt F .i32) (hx : ∀ i, BitVec.toNat (w := 32) (x0 i) < 8) (k : Fin k0_t1_loop.trips) :
    k0_chk1 (tileExpert (F := F) x0 k) := by
  refine chk_of_lt _ ?_
  unfold tileExpert VecWindow.window
  exact hx _

/-- A tile's rows of the result. -/
def tileOut (x0 : S40.Idx → Elt F .i32) (hx : ∀ i, BitVec.toNat (w := 32) (x0 i) < 8) (x1 : S1.Idx → Elt F .i32) (x2 : Vec F S40960x512 .f32)
    (x3 x4 : Vec F S8x1024x3584 .f32) (x5 : Vec F S8x3584x1024 .f32) (k : Fin k0_t1_loop.trips) : FVec F S1024x512 .f32 :=
  k0_pay3 k (chunkAcc x3 x4 x5 (tileExpert (F := F) x0 k) (chk_tile x0 hx k)
      (VecWindow.window x2 (k0_off2 k) S1024x512.size (k0_off2_inb k)) k0_t2_loop.trips)
    (x1 (Shape.Idx.first (numel1_S1.symm ▸ Nat.one_pos)))

/-- The result, row by row. -/
def refOut (x0 : S40.Idx → Elt F .i32) (hx : ∀ i, BitVec.toNat (w := 32) (x0 i) < 8) (x1 : S1.Idx → Elt F .i32) (x2 : Vec F S40960x512 .f32)
    (x3 x4 : Vec F S8x1024x3584 .f32) (x5 : Vec F S8x3584x1024 .f32) : S40960x512.Idx → Elt F .f32 := fun i =>
  tileOut x0 hx x1 x2 x3 x4 x5 ⟨(i 0).val / 1024, by rw [trips1]; have h : (i 0).val < 40960 := (i 0).isLt; omega⟩ (fun a => match a with
    | ⟨0, _⟩ => ⟨(i 0).val % 1024, Nat.mod_lt _ (by decide)⟩
    | ⟨1, _⟩ => ⟨(i 1).val, (i 1).isLt⟩)

/-- The first `k` tiles' rows are written. -/
def Done (r : S40960x512.Idx → Elt F .f32) (k : ℕ) (y : S40960x512.Idx → Elt F .f32) : Prop := ∀ i, (i 0).val < 1024 * k → y i = r i

/-! ## The loops -/

variable (c : Dev nD) (arg0 : Memref sig .tc .smem S40 .i32) (harg0 : arg0.IsWhole) (arg1 : Memref sig .tc .smem S1 .i32) (harg1 : arg1.IsWhole)
  (arg2 : Memref sig .tc .vmem S40960x512 .f32) (harg2 : arg2.IsWhole) (arg3 : Memref sig .tc .vmem S8x1024x3584 .f32) (harg3 : arg3.IsWhole)
  (arg4 : Memref sig .tc .vmem S8x1024x3584 .f32) (harg4 : arg4.IsWhole) (arg5 : Memref sig .tc .vmem S8x3584x1024 .f32) (harg5 : arg5.IsWhole)
  (arg6 : Memref sig .tc .vmem S40960x512 .f32) (harg6 : arg6.IsWhole)

set_option warn.classDefReducibility false in
set_option backward.proofsInPublic true in
/-- The inner loop: before chunk `k` it carries the products of the chunks before. -/
@[sl_loop] def innerInv (x3 x4 : Vec F S8x1024x3584 .f32) (x5 : Vec F S8x3584x1024 .f32) (e : BitVec 32) (he : k0_chk1 e) (v6 : Vec F S1024x512 .f32) :
    LoopInv (M := 𝕄) Idealize.ShloMosaic.frame (wpE (defs₀ (F := F)) Variants.none (c : Thread nD τ) none) Set.univ
      k0_t2_loop.lb k0_t2_loop.ub k0_t2_loop.st k0_t2_ok (k0_pay1 (F := F))
      (k0_t2_body (F := F) arg0 harg0 arg1 harg1 arg2 harg2 arg3 harg3 arg4 harg4 arg5 harg5 arg6 harg6 e he v6) where
  inv k acc := iprop((arg3.view.loc (c : Thread nD τ) ↦[arg3.view.set]{fullShare} arg3.view.rep x3)
    ∗ (arg4.view.loc (c : Thread nD τ) ↦[arg4.view.set]{fullShare} arg4.view.rep x4)
    ∗ (arg5.view.loc (c : Thread nD τ) ↦[arg5.view.set]{fullShare} arg5.view.rep x5)
    ∗ ⌜acc = chunkAcc x3 x4 x5 e he v6 k⌝)
  step k acc := by
    unfold k0_t2_body
    iintro ⟨H3, H4, H5, %hacc⟩
    subst hacc
    sl_exec!
    sl_step
    isplitl [H3]; · iexact H3
    isplitl [H4]; · iexact H4
    isplitl [H5]; · iexact H5
    ipureintro
    rw [chunkAcc_succ]
    rw [View.readAt_rep_unit arg3.view x3 _ rfl (k0_off3_inb e he k), View.readAt_rep_unit arg4.view x4 _ rfl (k0_off3_inb e he k),
      View.readAt_rep_unit arg5.view x5 _ rfl (k0_off4_inb e he k)]

/-- Another tile's rows written. -/
theorem done_succ (x0 : S40.Idx → Elt F .i32) (hx : ∀ i, BitVec.toNat (w := 32) (x0 i) < 8) (x1 : S1.Idx → Elt F .i32) (x2 : Vec F S40960x512 .f32)
    (x3 x4 : Vec F S8x1024x3584 .f32) (x5 : Vec F S8x3584x1024 .f32) (k : Fin k0_t1_loop.trips) (y : S40960x512.Idx → Elt F .f32)
    (h : Done (refOut x0 hx x1 x2 x3 x4 x5) k.val y) :
    Done (refOut x0 hx x1 x2 x3 x4 x5) (k.val + 1)
      (VecWindow.put y ![1024 * k.val, 0] S1024x512.size (tileOut x0 hx x1 x2 x3 x4 x5 k)) := by
  intro i hi
  unfold VecWindow.put
  by_cases hk : (i 0).val < 1024 * k.val
  · rw [dif_neg]
    · exact h i hk
    · intro ha
      have : 1024 * k.val ≤ (i 0).val := (ha 0).1
      omega
  · have h1 : (i 1).val < 512 := (i 1).isLt
    have ha : ∀ a, (![1024 * k.val, 0] : Fin 2 → ℕ) a ≤ (i a).val ∧ (i a).val < (![1024 * k.val, 0] : Fin 2 → ℕ) a + S1024x512.size a := by
      intro a
      match a with
      | ⟨0, _⟩ => show 1024 * k.val ≤ (i 0).val ∧ (i 0).val < 1024 * k.val + 1024; omega
      | ⟨1, _⟩ => show 0 ≤ (i 1).val ∧ (i 1).val < 0 + 512; omega
    rw [dif_pos ha]
    have hq : (i 0).val / 1024 = k.val := by omega
    have hk' : (⟨(i 0).val / 1024, by rw [trips1]; have h : (i 0).val < 40960 := (i 0).isLt; omega⟩ : Fin k0_t1_loop.trips) = k := Fin.ext hq
    unfold refOut
    rw [hk']
    refine congrArg _ (funext fun a => Fin.ext ?_)
    match a with
    | ⟨0, _⟩ => show (i 0).val - 1024 * k.val = (i 0).val % 1024; omega
    | ⟨1, _⟩ => show (i 1).val - 0 = (i 1).val; omega

/-- What the outer loop holds before tile `k`. -/
def outerState (x0 : S40.Idx → Elt F .i32) (hx : ∀ i, BitVec.toNat (w := 32) (x0 i) < 8) (x1 : S1.Idx → Elt F .i32) (x2 : Vec F S40960x512 .f32)
    (x3 x4 : Vec F S8x1024x3584 .f32) (x5 : Vec F S8x3584x1024 .f32) (k : ℕ) : sProp 𝕄 :=
  iprop((arg0.view.loc (c : Thread nD τ) ↦[arg0.view.set]{fullShare} arg0.view.rep x0)
    ∗ (arg1.view.loc (c : Thread nD τ) ↦[arg1.view.set]{fullShare} arg1.view.rep x1)
    ∗ (arg2.view.loc (c : Thread nD τ) ↦[arg2.view.set]{fullShare} arg2.view.rep x2)
    ∗ (arg3.view.loc (c : Thread nD τ) ↦[arg3.view.set]{fullShare} arg3.view.rep x3)
    ∗ (arg4.view.loc (c : Thread nD τ) ↦[arg4.view.set]{fullShare} arg4.view.rep x4)
    ∗ (arg5.view.loc (c : Thread nD τ) ↦[arg5.view.set]{fullShare} arg5.view.rep x5)
    ∗ (∃ f, ⌜Done (refOut x0 hx x1 x2 x3 x4 x5) k (arg6.view.read (Elt F) f)⌝ ∗ (arg6.view.loc (c : Thread nD τ) ↦[arg6.view.set]{fullShare} f)))

set_option warn.classDefReducibility false in
set_option backward.proofsInPublic true in
set_option maxHeartbeats 4000000 in
/-- The outer loop: before tile `k` the rows of the tiles before are written. -/
@[sl_loop] def outerInv (x0 : S40.Idx → Elt F .i32) (hx : ∀ i, BitVec.toNat (w := 32) (x0 i) < 8) (x1 : S1.Idx → Elt F .i32) (x2 : Vec F S40960x512 .f32)
    (x3 x4 : Vec F S8x1024x3584 .f32) (x5 : Vec F S8x3584x1024 .f32) :
    LoopInv (M := 𝕄) Idealize.ShloMosaic.frame (wpE (defs₀ (F := F)) Variants.none (c : Thread nD τ) none) Set.univ
      k0_t1_loop.lb k0_t1_loop.ub k0_t1_loop.st k0_t1_ok ()
      (k0_t1_body (F := F) arg0 harg0 arg1 harg1 arg2 harg2 arg3 harg3 arg4 harg4 arg5 harg5 arg6 harg6) where
  inv k _ := outerState c arg0 arg1 arg2 arg3 arg4 arg5 arg6 x0 hx x1 x2 x3 x4 x5 k
  step k acc := by
    have e0 : View.readAt (Elt F) arg0.view (Rect.unit (s := S40) (k0_off1 k) S1.size (k0_off1_inb k)).toLoadRect (arg0.view.rep x0)
        = VecWindow.window (α := Elt F .i32) x0 (k0_off1 k) S1.size (k0_off1_inb k) := View.readAt_rep_unit arg0.view x0 _ rfl _
    have e1 : View.readAt (Elt F) arg1.view (Rect.unit (s := S1) ![0] S1.size inb_S1_S1_0).toLoadRect (arg1.view.rep x1) = x1 :=
      View.readAt_rep_full arg1.view x1 _
    have e2 : View.readAt (Elt F) arg2.view (Rect.unit (s := S40960x512) (k0_off2 k) S1024x512.size (k0_off2_inb k)).toLoadRect (arg2.view.rep x2)
        = VecWindow.window x2 (k0_off2 k) S1024x512.size (k0_off2_inb k) := View.readAt_rep_unit arg2.view x2 _ rfl _
    unfold k0_t1_body outerState
    iintro ⟨H0, H1, H2, H3, H4, H5, %f, %hf, H6⟩
    sl_exec! (disch := (guard_target = k0_chk1 _; delta outerInv.sl.r; with_reducible exact chk_tile x0 hx k))
    sl_step
    isplitl [H0]; · iexact H0
    isplitl [H1]; · iexact H1
    isplitl [H2]; · iexact H2
    isplitl [H3]; · iexact H3
    isplitl [H4]; · iexact H4
    isplitl [H5]; · iexact H5
    iexists _; isplitr; swap; · iexact H6
    ipureintro
    rw [View.read_writes_cons_put arg6.view f _ _ [] (off5_eq k), View.writes_nil]
    exact done_succ x0 hx x1 x2 x3 x4 x5 k _ hf

set_option backward.proofsInPublic true in
set_option maxHeartbeats 4000000 in
/-- The body: from the six arrays, the result written. -/
theorem body_run (x0 : S40.Idx → Elt F .i32) (hx : ∀ i, BitVec.toNat (w := 32) (x0 i) < 8) (x1 : S1.Idx → Elt F .i32) (x2 : Vec F S40960x512 .f32)
    (x3 x4 : Vec F S8x1024x3584 .f32) (x5 : Vec F S8x3584x1024 .f32) (y : S40960x512.Idx → Elt F .f32) (K : PUnit → sProp 𝕄) :
    iprop(((arg0.view.loc (c : Thread nD τ) ↦[arg0.view.set]{fullShare} arg0.view.rep x0)
        ∗ (arg1.view.loc (c : Thread nD τ) ↦[arg1.view.set]{fullShare} arg1.view.rep x1)
        ∗ (arg2.view.loc (c : Thread nD τ) ↦[arg2.view.set]{fullShare} arg2.view.rep x2)
        ∗ (arg3.view.loc (c : Thread nD τ) ↦[arg3.view.set]{fullShare} arg3.view.rep x3)
        ∗ (arg4.view.loc (c : Thread nD τ) ↦[arg4.view.set]{fullShare} arg4.view.rep x4)
        ∗ (arg5.view.loc (c : Thread nD τ) ↦[arg5.view.set]{fullShare} arg5.view.rep x5)
        ∗ owns (c : Thread nD τ) arg6 fullShare y)
      ∗ (((arg0.view.loc (c : Thread nD τ) ↦[arg0.view.set]{fullShare} arg0.view.rep x0)
        ∗ (arg1.view.loc (c : Thread nD τ) ↦[arg1.view.set]{fullShare} arg1.view.rep x1)
        ∗ (arg2.view.loc (c : Thread nD τ) ↦[arg2.view.set]{fullShare} arg2.view.rep x2)
        ∗ (arg3.view.loc (c : Thread nD τ) ↦[arg3.view.set]{fullShare} arg3.view.rep x3)
        ∗ (arg4.view.loc (c : Thread nD τ) ↦[arg4.view.set]{fullShare} arg4.view.rep x4)
        ∗ (arg5.view.loc (c : Thread nD τ) ↦[arg5.view.set]{fullShare} arg5.view.rep x5)
        ∗ owns (c : Thread nD τ) arg6 fullShare (refOut x0 hx x1 x2 x3 x4 x5)) -∗ K ⟨⟩))
      ⊢ wp frame (wpE (defs₀ (F := F)) Variants.none (c : Thread nD τ) none) Set.univ
          (cc0_reference_body (F := F) arg0 harg0 arg1 harg1 arg2 harg2 arg3 harg3 arg4 harg4 arg5 harg5 arg6 harg6) K := by
  rw [cc0_reference_body_eq_skeleton]; unfold cc0_reference_body_skel owns
  iintro ⟨⟨H0, H1, H2, H3, H4, H5, %f, %hf, H6⟩, Hk⟩
  iapply (Scf.wp_for_bind (M := 𝕄) Idealize.ShloMosaic.frame (wpE (defs₀ (F := F)) Variants.none (c : Thread nD τ) none) Set.univ
    _ _ _ k0_t1_ok _ _ (fun k _ => outerState c arg0 arg1 arg2 arg3 arg4 arg5 arg6 x0 hx x1 x2 x3 x4 x5 k) (outerInv c arg0 harg0 arg1 harg1 arg2 harg2 arg3 harg3 arg4 harg4 arg5 harg5 arg6 harg6 x0 hx x1 x2 x3 x4 x5).step) $$ [H0 H1 H2 H3 H4 H5 H6]
  · unfold outerState
    isplitl [H0]; · iexact H0
    isplitl [H1]; · iexact H1
    isplitl [H2]; · iexact H2
    isplitl [H3]; · iexact H3
    isplitl [H4]; · iexact H4
    isplitl [H5]; · iexact H5
    iexists f; isplitr; swap; · iexact H6
    ipureintro
    intro i hi
    exact absurd hi (Nat.not_lt_zero _)
  unfold outerState
  iintro %acc ⟨H0, H1, H2, H3, H4, H5, %g, %hg, H6⟩
  sl_step
  iapply Hk
  isplitl [H0]; · iexact H0
  isplitl [H1]; · iexact H1
  isplitl [H2]; · iexact H2
  isplitl [H3]; · iexact H3
  isplitl [H4]; · iexact H4
  isplitl [H5]; · iexact H5
  iexists g; isplitr; swap; · iexact H6
  ipureintro
  funext i
  refine hg i ?_
  have h : (i 0).val < 40960 := (i 0).isLt
  have ht : Scf.trips k0_t1_loop.lb k0_t1_loop.ub k0_t1_loop.st = 40 := trips1
  rw [ht]
  omega

end Cert.Reference.Run

end
-- ==== Proof.ReferenceRun.lean ====
/- THE REFERENCE'S RUN: what the arguments and the result hold at the end. -/
module

public import proofs.«01_k».proof.Proof.ReferenceBody
public import proofs.«01_k».proof.Proof.Gen.Reference.Frame
public import Idealize.ShloMosaic.Lib.Pipeline.Quiescent
public import Idealize.ShloMosaic.Lib.Pipeline.FrameBody
public import Idealize.ShloMosaic.Lib.Claim
public import Idealize.ShloMosaic.Lib.Pipeline.TableIdle

@[expose] public section

set_option maxRecDepth 16384
set_option Elab.async false

noncomputable section

namespace Cert.Reference.Run

open Cert.Reference Cert.Reference.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [BitOps F]

local notation "𝕄" => MT nD τ sig Unit (Elt F) ℕ (UR sig nD τ) ℕ

variable (m : (ℓ : Loc nD τ sig) → Buf (Elt F) ℓ)

/-- The six arguments' contents. -/
abbrev rowsArr (c : Dev nD) : Vec F S40960x512 .f32 := m ((c : Thread nD τ).loc main_arg0)
abbrev expertArr (c : Dev nD) : S40.Idx → Elt F .i32 := m ((c : Thread nD τ).loc main_arg1)
abbrev usedArr (c : Dev nD) : S1.Idx → Elt F .i32 := m ((c : Thread nD τ).loc main_arg2)
abbrev gateArr (c : Dev nD) : Vec F S8x1024x3584 .f32 := m ((c : Thread nD τ).loc main_arg3)
abbrev upArr (c : Dev nD) : Vec F S8x1024x3584 .f32 := m ((c : Thread nD τ).loc main_arg4)
abbrev downArr (c : Dev nD) : Vec F S8x3584x1024 .f32 := m ((c : Thread nD τ).loc main_arg5)

/-- Every tile's expert is one of the eight. -/
def Exist : Prop := ∀ (c : Dev nD) (i : S40.Idx), BitVec.toNat (w := 32) (expertArr m c i) < 8

variable {m} (hE : Exist m)

/-- The result. -/
def result (c : Dev nD) : S40960x512.Idx → Elt F .f32 :=
  refOut (expertArr m c) (hE c) (usedArr m c) (rowsArr m c) (gateArr m c) (upArr m c) (downArr m c)

/-- A window's block is its whole array. -/
theorem iblk_0 (c : Dev nD) (t : Fin cfg0.N) : iblk m c 0 t = expertArr m c := by
  obtain rfl := fin_N0 t
  unfold iblk
  funext j
  rw [View.read_apply]
  refine congrArg (expertArr m c) (funext fun a => Fin.ext ?_)
  match a with
  | ⟨0, _⟩ => show 0 * 40 + 1 * (j 0).val = (j 0).val; omega
theorem iblk_1 (c : Dev nD) (t : Fin cfg0.N) : iblk m c 1 t = usedArr m c := by
  obtain rfl := fin_N0 t
  unfold iblk
  funext j
  rw [View.read_apply]
  refine congrArg (usedArr m c) (funext fun a => Fin.ext ?_)
  match a with
  | ⟨0, _⟩ => show 0 * 1 + 1 * (j 0).val = (j 0).val; omega
theorem iblk_2 (c : Dev nD) (t : Fin cfg0.N) : iblk m c 2 t = rowsArr m c := by
  obtain rfl := fin_N0 t
  unfold iblk
  funext j
  rw [View.read_apply]
  refine congrArg (rowsArr m c) (funext fun a => Fin.ext ?_)
  match a with
  | ⟨0, _⟩ => show 0 * 40960 + 1 * (j 0).val = (j 0).val; omega
  | ⟨1, _⟩ => show 0 * 512 + 1 * (j 1).val = (j 1).val; omega
theorem iblk_3 (c : Dev nD) (t : Fin cfg0.N) : iblk m c 3 t = gateArr m c := by
  obtain rfl := fin_N0 t
  unfold iblk
  funext j
  rw [View.read_apply]
  refine congrArg (gateArr m c) (funext fun a => Fin.ext ?_)
  match a with
  | ⟨0, _⟩ => show 0 * 8 + 1 * (j 0).val = (j 0).val; omega
  | ⟨1, _⟩ => show 0 * 1024 + 1 * (j 1).val = (j 1).val; omega
  | ⟨2, _⟩ => show 0 * 3584 + 1 * (j 2).val = (j 2).val; omega
theorem iblk_4 (c : Dev nD) (t : Fin cfg0.N) : iblk m c 4 t = upArr m c := by
  obtain rfl := fin_N0 t
  unfold iblk
  funext j
  rw [View.read_apply]
  refine congrArg (upArr m c) (funext fun a => Fin.ext ?_)
  match a with
  | ⟨0, _⟩ => show 0 * 8 + 1 * (j 0).val = (j 0).val; omega
  | ⟨1, _⟩ => show 0 * 1024 + 1 * (j 1).val = (j 1).val; omega
  | ⟨2, _⟩ => show 0 * 3584 + 1 * (j 2).val = (j 2).val; omega
theorem iblk_5 (c : Dev nD) (t : Fin cfg0.N) : iblk m c 5 t = downArr m c := by
  obtain rfl := fin_N0 t
  unfold iblk
  funext j
  rw [View.read_apply]
  refine congrArg (downArr m c) (funext fun a => Fin.ext ?_)
  match a with
  | ⟨0, _⟩ => show 0 * 8 + 1 * (j 0).val = (j 0).val; omega
  | ⟨1, _⟩ => show 0 * 3584 + 1 * (j 1).val = (j 1).val; omega
  | ⟨2, _⟩ => show 0 * 1024 + 1 * (j 2).val = (j 2).val; omega

/-! ## The pipeline's data -/

/-- The proof data: each input's block in place, the result in the output's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => result hE c
  Φ _ := Pipeline.ΦA spec0 c
  q _ := fullShare
  owed _ := 0

theorem after0_0 (c : Dev nD) (t : Fin cfg0.N) : (dats hE 0 c).after 0 t = iblk m c 0 t := rfl
theorem after0_1 (c : Dev nD) (t : Fin cfg0.N) : (dats hE 0 c).after 1 t = iblk m c 1 t := rfl
theorem after0_2 (c : Dev nD) (t : Fin cfg0.N) : (dats hE 0 c).after 2 t = iblk m c 2 t := rfl
theorem after0_3 (c : Dev nD) (t : Fin cfg0.N) : (dats hE 0 c).after 3 t = iblk m c 3 t := rfl
theorem after0_4 (c : Dev nD) (t : Fin cfg0.N) : (dats hE 0 c).after 4 t = iblk m c 4 t := rfl
theorem after0_5 (c : Dev nD) (t : Fin cfg0.N) : (dats hE 0 c).after 5 t = iblk m c 5 t := rfl
theorem after0_6 (c : Dev nD) (t : Fin cfg0.N) : (dats hE 0 c).after 6 t = result hE c := rfl

/-- An input's buffer holds its array when the body runs. -/
theorem before0_0 (c : Dev nD) (t : Fin cfg0.N) (d) : (dats hE 0 c).before 0 t d = expertArr m c :=
  (before0_0_of m (dats hE 0 c) rfl (after0_0 hE c) t d).trans (iblk_0 c t)
theorem before0_1 (c : Dev nD) (t : Fin cfg0.N) (d) : (dats hE 0 c).before 1 t d = usedArr m c :=
  (before0_1_of m (dats hE 0 c) rfl (after0_1 hE c) t d).trans (iblk_1 c t)
theorem before0_2 (c : Dev nD) (t : Fin cfg0.N) (d) : (dats hE 0 c).before 2 t d = rowsArr m c :=
  (before0_2_of m (dats hE 0 c) rfl (after0_2 hE c) t d).trans (iblk_2 c t)
theorem before0_3 (c : Dev nD) (t : Fin cfg0.N) (d) : (dats hE 0 c).before 3 t d = gateArr m c :=
  (before0_3_of m (dats hE 0 c) rfl (after0_3 hE c) t d).trans (iblk_3 c t)
theorem before0_4 (c : Dev nD) (t : Fin cfg0.N) (d) : (dats hE 0 c).before 4 t d = upArr m c :=
  (before0_4_of m (dats hE 0 c) rfl (after0_4 hE c) t d).trans (iblk_4 c t)
theorem before0_5 (c : Dev nD) (t : Fin cfg0.N) (d) : (dats hE 0 c).before 5 t d = downArr m c :=
  (before0_5_of m (dats hE 0 c) rfl (after0_5 hE c) t d).trans (iblk_5 c t)

set_option maxHeartbeats 4000000 in
/-- The body at the one point. -/
theorem sound_body (c : Dev nD) (t : Fin cfg0.N) :
    iprop((dats hE 0 c).Φ t.castSucc ∗ (dats hE 0 c).owesAt () t.castSucc
        ∗ (∃ d, owns (c : Thread nD τ) (st0_0 t) fullShare ((dats hE 0 c).before 0 t d))
        ∗ (∃ d, owns (c : Thread nD τ) (st0_1 t) fullShare ((dats hE 0 c).before 1 t d))
        ∗ (∃ d, owns (c : Thread nD τ) (st0_2 t) fullShare ((dats hE 0 c).before 2 t d))
        ∗ (∃ d, owns (c : Thread nD τ) (st0_3 t) fullShare ((dats hE 0 c).before 3 t d))
        ∗ (∃ d, owns (c : Thread nD τ) (st0_4 t) fullShare ((dats hE 0 c).before 4 t d))
        ∗ (∃ d, owns (c : Thread nD τ) (st0_5 t) fullShare ((dats hE 0 c).before 5 t d))
        ∗ (∃ d, owns (c : Thread nD τ) (st0_6 t) fullShare ((dats hE 0 c).before 6 t d)))
      ⊢ wp frame (wpE (defs₀ (F := F)) Variants.none c none) Set.univ (bodyAt0 t) fun _ =>
          iprop((dats hE 0 c).Φ t.succ ∗ (dats hE 0 c).owesAt () t.succ
            ∗ owns (c : Thread nD τ) (st0_0 t) fullShare ((dats hE 0 c).after 0 t)
            ∗ owns (c : Thread nD τ) (st0_1 t) fullShare ((dats hE 0 c).after 1 t)
            ∗ owns (c : Thread nD τ) (st0_2 t) fullShare ((dats hE 0 c).after 2 t)
            ∗ owns (c : Thread nD τ) (st0_3 t) fullShare ((dats hE 0 c).after 3 t)
            ∗ owns (c : Thread nD τ) (st0_4 t) fullShare ((dats hE 0 c).after 4 t)
            ∗ owns (c : Thread nD τ) (st0_5 t) fullShare ((dats hE 0 c).after 5 t)
            ∗ owns (c : Thread nD τ) (st0_6 t) fullShare ((dats hE 0 c).after 6 t)) := by
  rewrite [show (dats hE 0 c).Φ t.succ = (dats hE 0 c).Φ t.castSucc from rfl,
    show (dats hE 0 c).owesAt () t.succ = (dats hE 0 c).owesAt () t.castSucc from rfl]
  simp only [before0_0, before0_1, before0_2, before0_3, before0_4, before0_5, after0_0, after0_1, after0_2, after0_3, after0_4, after0_5, after0_6,
    iblk_0, iblk_1, iblk_2, iblk_3, iblk_4, iblk_5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c (st0_0 t) (hstage0_0 0) (st0_1 t) (hstage0_1 0) (st0_2 t) (hstage0_2 0) (st0_3 t) (hstage0_3 0) (st0_4 t) (hstage0_4 0)
    (st0_5 t) (hstage0_5 0) (st0_6 t) (hstage0_6 0) (expertArr m c) (hE c) (usedArr m c) (rowsArr m c) (gateArr m c) (upArr m c) (downArr m c)
    ((dats hE 0 c).before 6 t d6))
  isplitl [H0 H1 H2 H3 H4 H5 H6]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    iexact H6
  iintro ⟨H0, H1, H2, H3, H4, H5, H6⟩
  isplitl [HΦ]; · iexact HΦ
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  iexact H6

/-- The pipeline's obligation. -/
theorem body_obligation (c : Dev nD) : BodyObligation (dats hE 0 c) (defs₀ (F := F)) Variants.none () Set.univ := fun t => by
  rw [bigSep_W0, bigSep_W0]
  exact sound_body hE c t

theorem share_eq (c : Dev nD) (w : Fin cfg0.W) : (dats hE 0 c).share w = fullShare := by unfold Dat.share; split <;> rfl

variable (ρ : Dev nD → PrngReg)

set_option backward.isDefEq.respectTransparency.types false in
set_option maxHeartbeats 4000000 in
/-- Every weakly fair execution ends, with every array at the pipeline's contents and every counter at zero. -/
theorem run_main : θ_run (defs (F := F)) (onTc (τ := τ) (main (F := F))) (s₀ m ρ)
    (fun r => Pipeline.FramePost cfgs (dats hE) 0 (V m) r ∧ r.2.sem = fun _ => 0) :=
  Pipeline.θ_run_frame cfgs (dats hE) (0 : Fin 1) launch0 defs₀ Variants.none m ρ main
    (fun c => (body_obligation hE c).loose) (share_eq hE) (fun _ _ => rfl) (V m) (hmain m Variants.none) (fun _ _ => rfl) (fun _ _ => rfl)
    (fun r => Pipeline.FramePost cfgs (dats hE) 0 (V m) r ∧ r.2.sem = fun _ => 0) (fun _ h => h)

/-- The result array ends at the result: the one block is the whole array. -/
theorem final_out (c : Dev nD) : (dats hE 0 c).arrAt 6 cfg0.N = result hE c := by
  refine (dats hE 0 c).arrAt_eq_of_cover 6 (result hE c) (fun t _ => ?_) fun i => ⟨t0_0, flush0_6 _, ?_⟩
  · obtain rfl := fin_N0 t
    show (cfg0.win 6).cut (cfg0.grid.coords t0_0) ((dats hE 0 c).after 6 t0_0) = _
    rw [after0_6]
    funext j
    rw [View.read_apply]
    refine congrArg (result hE c) (funext fun a => Fin.ext ?_)
    match a with
    | ⟨0, _⟩ => show (j 0).val = 0 * 40960 + 1 * (j 0).val; omega
    | ⟨1, _⟩ => show (j 1).val = 0 * 512 + 1 * (j 1).val; omega
  · have h0 : (i 0 : Nat) < 40960 := (i 0).isLt
    have h1 : (i 1 : Nat) < 512 := (i 1).isLt
    show (show ((View.whole main_v0).slice ((cfg0.win 6).rect t0_0)).ty.Idx from i) ∈ ((View.whole main_v0).slice ((cfg0.win 6).rect t0_0)).set
    rw [View.set_slice_whole, Rect.mem_set_unit]
    intro a
    match a with
    | ⟨0, _⟩ => show 0 * 40960 ≤ (i 0 : Nat) ∧ (i 0 : Nat) < 0 * 40960 + 40960; omega
    | ⟨1, _⟩ => show 0 * 512 ≤ (i 1 : Nat) ∧ (i 1 : Nat) < 0 * 512 + 512; omega

/-- The whole run: the result, the arguments unchanged, the counters at zero. -/
theorem run : θ_run (defs (F := F)) (onTc (τ := τ) (main (F := F))) ⟨m, fun _ => 0, ρ⟩ (fun r => (∀ c : Dev nD,
      r.2.mem ((c.tc : Thread nD τ).loc main_v0) = result hE c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 6).trans (final_out hE c),
    ((h.1 c).1 2).trans (((dats hE 0 c).arrAt_in 2 rfl _).trans (V_main_arg0 m c)),
    ((h.1 c).1 0).trans (((dats hE 0 c).arrAt_in 0 rfl _).trans (V_main_arg1 m c)),
    ((h.1 c).1 1).trans (((dats hE 0 c).arrAt_in 1 rfl _).trans (V_main_arg2 m c)),
    ((h.1 c).1 3).trans (((dats hE 0 c).arrAt_in 3 rfl _).trans (V_main_arg3 m c)),
    ((h.1 c).1 4).trans (((dats hE 0 c).arrAt_in 4 rfl _).trans (V_main_arg4 m c)),
    ((h.1 c).1 5).trans (((dats hE 0 c).arrAt_in 5 rfl _).trans (V_main_arg5 m c))⟩, h.2⟩) (run_main hE ρ)

end Cert.Reference.Run

end
-- ==== Proof.SameValue.lean ====
/- THE KERNEL'S RESULT IS THE REFERENCE'S. A grid point of the kernel adds two of the reference's chunks of an expert's columns,
   so after a tile's seven points its accumulator is the reference's after fourteen chunks; both then pack it into words. -/
module

public import proofs.«01_k».proof.Proof.KernelRun
public import proofs.«01_k».proof.Proof.ReferenceRun

@[expose] public section

set_option maxRecDepth 16384
set_option Elab.async false

noncomputable section

namespace Cert.Same

open Idealize.ShloMosaic
open Idealize.ShloMosaic.TcCoe

variable {F : FTy → Type} [BitOps F]

abbrev KCore : Dev Cert.Kernel.nD := 0

/-! ## One point is two chunks -/

theorem step_eq (v6 : Vec F Cert.Kernel.S1024x512 .f32) (x1 x2 : Vec F Cert.Kernel.S1x1024x512 .f32) (x3 : Vec F Cert.Kernel.S1x512x1024 .f32)
    (a : Vec F Cert.Kernel.S1024x1024 .f32) :
    Cert.Kernel.Run.step (Cert.Kernel.Gen.k0_pay5 v6) x1 x2 x3 a
      = Cert.Reference.Gen.k0_pay2 v6
          (Cert.Reference.Gen.k0_pay2 v6 a (Cert.Kernel.Run.firstCols x1) (Cert.Kernel.Run.firstCols x2) (Cert.Kernel.Run.firstRows x3))
          (Cert.Kernel.Run.lastCols x1) (Cert.Kernel.Run.lastCols x2) (Cert.Kernel.Run.lastRows x3) := by
  unfold Cert.Kernel.Run.step Cert.Kernel.Gen.k0_pay1 Cert.Kernel.Gen.k0_pay5 Cert.Kernel.Gen.k0_pay6 Cert.Kernel.Gen.k0_pay7 Cert.Reference.Gen.k0_pay2
  simp only [shapeCast_self]
  rfl

theorem start_eq : Cert.Kernel.Gen.k0_pay4 (F := F) = Cert.Reference.Gen.k0_pay1 := by
  unfold Cert.Kernel.Gen.k0_pay4 Cert.Reference.Gen.k0_pay1
  simp only [shapeCast_self]

/-! ## The blocks -/

variable {m : (ℓ : Loc Cert.Kernel.nD Cert.Kernel.τ Cert.Kernel.sig) → Buf (Elt F) ℓ} (hE : Cert.Kernel.Run.Exist m)

/-- The kernel's arguments. -/
abbrev rowsK : Vec F Cert.Kernel.S40960x512 .f32 := m ((KCore : Thread Cert.Kernel.nD Cert.Kernel.τ).loc Cert.Kernel.main_arg0)
abbrev gateK : Vec F Cert.Kernel.S8x1024x3584 .f32 := m ((KCore : Thread Cert.Kernel.nD Cert.Kernel.τ).loc Cert.Kernel.main_arg3)
abbrev upK : Vec F Cert.Kernel.S8x1024x3584 .f32 := m ((KCore : Thread Cert.Kernel.nD Cert.Kernel.τ).loc Cert.Kernel.main_arg4)
abbrev downK : Vec F Cert.Kernel.S8x3584x1024 .f32 := m ((KCore : Thread Cert.Kernel.nD Cert.Kernel.τ).loc Cert.Kernel.main_arg5)

/-- Tile `n`'s expert. -/
abbrev expertAt (x : Cert.Kernel.S40.Idx → BitVec 32) (n : ℕ) (hn : n < 40) : BitVec 32 := x fun a => match a with | ⟨0, _⟩ => ⟨n, hn⟩

theorem tileExpert_eq (x : Cert.Reference.S40.Idx → BitVec 32) (k : Fin Cert.Reference.k0_t1_loop.trips) (hn : k.val < 40) :
    Cert.Reference.Run.tileExpert (F := F) x k = expertAt x k.val hn := by
  unfold Cert.Reference.Run.tileExpert VecWindow.window expertAt
  refine congrArg x (funext fun a => Fin.ext ?_)
  match a with
  | ⟨0, _⟩ =>
    show Cert.Reference.k0_off1 k 0 + 1 * 0 = k.val
    rw [Cert.Reference.Run.off1_eq]; rfl

theorem point_val (n f : ℕ) (hn : n < 40) (hf : f < 7) : (Cert.Kernel.Run.pt hE n f).val = 7 * n + f :=
  Nat.mod_eq_of_lt (by omega)

theorem tabExpert_eq (n f : ℕ) (hn : n < 40) (hf : f < 7) :
    (Cert.Kernel.Run.tabs m).at 0 (Rect.unit (s := Cert.Kernel.S40) ![(Scalar.indexCast (BitVec.ofNat 32 ((Cert.Kernel.Run.crd hE (Cert.Kernel.Run.pt hE n f)) 0).val)).toNat] Cert.Kernel.S1.size
      (Cert.Kernel.Gen.facts.k0_off1_inb (Cert.Kernel.Run.crd hE (Cert.Kernel.Run.pt hE n f)))) Cert.Kernel.Gen.facts.numel1_S1 = expertAt (Cert.Kernel.Run.expertOf m) n hn := by
  show Cert.Kernel.Run.expertOf m _ = Cert.Kernel.Run.expertOf m _
  refine congrArg (Cert.Kernel.Run.expertOf m) (funext fun a => Fin.ext ?_)
  match a with
  | ⟨0, _⟩ =>
    show (BitVec.ofNat 32 ((Cert.Kernel.Run.crd hE (Cert.Kernel.Run.pt hE n f)) 0).val).toNat + 1 * 0 = n
    rw [Cert.Kernel.Run.tile_eq, point_val hE n f hn hf, BitVec.toNat_ofNat]
    omega

theorem index_rows (n f : ℕ) (hn : n < 40) (hf : f < 7) :
    ((Cert.Kernel.Run.cfgA hE).win (0 : Fin 5)).index (Cert.Kernel.Run.pt hE n f) = ![n, 0] := by
  show ![(BitVec.ofNat 32 ((Cert.Kernel.Run.crd hE (Cert.Kernel.Run.pt hE n f)) 0).val).toNat, 0] = _
  rw [Cert.Kernel.Run.tile_eq, point_val hE n f hn hf, BitVec.toNat_ofNat]
  have : (7 * n + f) / 7 % 2 ^ 32 = n := by omega
  rw [this]

theorem step_word (n f : ℕ) (hn : n < 40) (hf : f < 7) : (BitVec.ofNat 32 ((Cert.Kernel.Run.crd hE (Cert.Kernel.Run.pt hE n f)) 1).val).toNat = f := by
  rw [Cert.Kernel.Run.step_eq, point_val hE n f hn hf, BitVec.toNat_ofNat]; omega

theorem index_gate (n f : ℕ) (hn : n < 40) (hf : f < 7) :
    ((Cert.Kernel.Run.cfgA hE).win (1 : Fin 5)).index (Cert.Kernel.Run.pt hE n f) = ![(expertAt (Cert.Kernel.Run.expertOf m) n hn).toNat, 0, f] := by
  have h : ((Cert.Kernel.Run.cfgA hE).win (1 : Fin 5)).index (Cert.Kernel.Run.pt hE n f) = ![((Cert.Kernel.Run.tabs m).at 0 (Rect.unit (s := Cert.Kernel.S40) ![(Scalar.indexCast (BitVec.ofNat 32 ((Cert.Kernel.Run.crd hE (Cert.Kernel.Run.pt hE n f)) 0).val)).toNat] Cert.Kernel.S1.size
      (Cert.Kernel.Gen.facts.k0_off1_inb (Cert.Kernel.Run.crd hE (Cert.Kernel.Run.pt hE n f)))) Cert.Kernel.Gen.facts.numel1_S1).toNat, 0, (BitVec.ofNat 32 ((Cert.Kernel.Run.crd hE (Cert.Kernel.Run.pt hE n f)) 1).val).toNat] := rfl
  rw [h, tabExpert_eq hE n f hn hf, step_word hE n f hn hf]

theorem index_up (n f : ℕ) (hn : n < 40) (hf : f < 7) :
    ((Cert.Kernel.Run.cfgA hE).win (2 : Fin 5)).index (Cert.Kernel.Run.pt hE n f) = ![(expertAt (Cert.Kernel.Run.expertOf m) n hn).toNat, 0, f] := by
  have h : ((Cert.Kernel.Run.cfgA hE).win (2 : Fin 5)).index (Cert.Kernel.Run.pt hE n f) = ![((Cert.Kernel.Run.tabs m).at 0 (Rect.unit (s := Cert.Kernel.S40) ![(Scalar.indexCast (BitVec.ofNat 32 ((Cert.Kernel.Run.crd hE (Cert.Kernel.Run.pt hE n f)) 0).val)).toNat] Cert.Kernel.S1.size
      (Cert.Kernel.Gen.facts.k0_off1_inb (Cert.Kernel.Run.crd hE (Cert.Kernel.Run.pt hE n f)))) Cert.Kernel.Gen.facts.numel1_S1).toNat, 0, (BitVec.ofNat 32 ((Cert.Kernel.Run.crd hE (Cert.Kernel.Run.pt hE n f)) 1).val).toNat] := rfl
  rw [h, tabExpert_eq hE n f hn hf, step_word hE n f hn hf]

theorem index_down (n f : ℕ) (hn : n < 40) (hf : f < 7) :
    ((Cert.Kernel.Run.cfgA hE).win (3 : Fin 5)).index (Cert.Kernel.Run.pt hE n f) = ![(expertAt (Cert.Kernel.Run.expertOf m) n hn).toNat, f, 0] := by
  have h : ((Cert.Kernel.Run.cfgA hE).win (3 : Fin 5)).index (Cert.Kernel.Run.pt hE n f) = ![((Cert.Kernel.Run.tabs m).at 0 (Rect.unit (s := Cert.Kernel.S40) ![(Scalar.indexCast (BitVec.ofNat 32 ((Cert.Kernel.Run.crd hE (Cert.Kernel.Run.pt hE n f)) 0).val)).toNat] Cert.Kernel.S1.size
      (Cert.Kernel.Gen.facts.k0_off1_inb (Cert.Kernel.Run.crd hE (Cert.Kernel.Run.pt hE n f)))) Cert.Kernel.Gen.facts.numel1_S1).toNat, (BitVec.ofNat 32 ((Cert.Kernel.Run.crd hE (Cert.Kernel.Run.pt hE n f)) 1).val).toNat, 0] := rfl
  rw [h, tabExpert_eq hE n f hn hf, step_word hE n f hn hf]

/-- The blocks' entries: the arrays' own, shifted. -/
theorem rows_block (n f : ℕ) (hn : n < 40) (hf : f < 7) (k : Fin Cert.Reference.k0_t1_loop.trips) (hk : k.val = n) :
    Cert.Kernel.Run.iblk hE KCore (0 : Fin 5) (Cert.Kernel.Run.pt hE n f)
      = VecWindow.window (rowsK (m := m)) (Cert.Reference.k0_off2 k) Cert.Reference.S1024x512.size (Cert.Reference.Gen.facts.k0_off2_inb k) := by
  have hi := index_rows hE n f hn hf
  unfold Cert.Kernel.Run.iblk VecWindow.window
  funext j
  rw [View.read_apply]
  refine congrArg (rowsK (m := m)) (funext fun a => Fin.ext ?_)
  match a with
  | ⟨0, _⟩ =>
    show ((Cert.Kernel.Run.cfgA hE).win (0 : Fin 5)).index (Cert.Kernel.Run.pt hE n f) 0 * 1024 + 1 * (j 0).val = Cert.Reference.k0_off2 k 0 + 1 * (j 0).val
    rw [hi, Cert.Reference.Run.off2_eq, hk]; show n * 1024 + 1 * (j 0).val = 1024 * n + 1 * (j 0).val; omega
  | ⟨1, _⟩ =>
    show ((Cert.Kernel.Run.cfgA hE).win (0 : Fin 5)).index (Cert.Kernel.Run.pt hE n f) 1 * 512 + 1 * (j 1).val = Cert.Reference.k0_off2 k 1 + 1 * (j 1).val
    rw [hi, Cert.Reference.Run.off2_eq]; show 0 * 512 + 1 * (j 1).val = 0 + 1 * (j 1).val; omega

theorem gate_first (n f : ℕ) (hn : n < 40) (hf : f < 7) (he : Cert.Reference.k0_chk1 (expertAt (Cert.Kernel.Run.expertOf m) n hn))
    (k : Fin Cert.Reference.k0_t2_loop.trips) (hk : k.val = 2 * f) :
    Cert.Kernel.Run.firstCols (Cert.Kernel.Run.iblk hE KCore (1 : Fin 5) (Cert.Kernel.Run.pt hE n f))
      = VecWindow.window (gateK (m := m)) (Cert.Reference.k0_off3 (expertAt (Cert.Kernel.Run.expertOf m) n hn) k) Cert.Reference.S1x1024x256.size
          (Cert.Reference.k0_off3_inb _ he k) := by
  have hi := index_gate hE n f hn hf
  unfold Cert.Kernel.Run.firstCols Cert.Kernel.Run.iblk VecWindow.window
  funext j
  rw [View.read_apply]
  refine congrArg (gateK (m := m)) (funext fun a => Fin.ext ?_)
  generalize expertAt (Cert.Kernel.Run.expertOf m) n hn = e at hi he ⊢
  match a with
  | ⟨0, _⟩ =>
    show ((Cert.Kernel.Run.cfgA hE).win (1 : Fin 5)).index (Cert.Kernel.Run.pt hE n f) 0 * 1 + 1 * (0 + 1 * (j 0).val)
      = Cert.Reference.k0_off3 e k 0 + 1 * (j 0).val
    rw [hi, Cert.Reference.Run.off3_eq]; show e.toNat * 1 + 1 * (0 + 1 * (j 0).val) = e.toNat + 1 * (j 0).val; omega
  | ⟨1, _⟩ =>
    show ((Cert.Kernel.Run.cfgA hE).win (1 : Fin 5)).index (Cert.Kernel.Run.pt hE n f) 1 * 1024 + 1 * (0 + 1 * (j 1).val)
      = Cert.Reference.k0_off3 e k 1 + 1 * (j 1).val
    rw [hi, Cert.Reference.Run.off3_eq]; show 0 * 1024 + 1 * (0 + 1 * (j 1).val) = 0 + 1 * (j 1).val; omega
  | ⟨2, _⟩ =>
    show ((Cert.Kernel.Run.cfgA hE).win (1 : Fin 5)).index (Cert.Kernel.Run.pt hE n f) 2 * 512 + 1 * (0 + 1 * (j 2).val)
      = Cert.Reference.k0_off3 e k 2 + 1 * (j 2).val
    rw [hi, Cert.Reference.Run.off3_eq]; show f * 512 + 1 * (0 + 1 * (j 2).val) = 256 * k.val + 1 * (j 2).val; omega

theorem gate_last (n f : ℕ) (hn : n < 40) (hf : f < 7) (he : Cert.Reference.k0_chk1 (expertAt (Cert.Kernel.Run.expertOf m) n hn))
    (k : Fin Cert.Reference.k0_t2_loop.trips) (hk : k.val = 2 * f + 1) :
    Cert.Kernel.Run.lastCols (Cert.Kernel.Run.iblk hE KCore (1 : Fin 5) (Cert.Kernel.Run.pt hE n f))
      = VecWindow.window (gateK (m := m)) (Cert.Reference.k0_off3 (expertAt (Cert.Kernel.Run.expertOf m) n hn) k) Cert.Reference.S1x1024x256.size
          (Cert.Reference.k0_off3_inb _ he k) := by
  have hi := index_gate hE n f hn hf
  unfold Cert.Kernel.Run.lastCols Cert.Kernel.Run.iblk VecWindow.window
  funext j
  rw [View.read_apply]
  refine congrArg (gateK (m := m)) (funext fun a => Fin.ext ?_)
  generalize expertAt (Cert.Kernel.Run.expertOf m) n hn = e at hi he ⊢
  match a with
  | ⟨0, _⟩ =>
    show ((Cert.Kernel.Run.cfgA hE).win (1 : Fin 5)).index (Cert.Kernel.Run.pt hE n f) 0 * 1 + 1 * (0 + 1 * (j 0).val)
      = Cert.Reference.k0_off3 e k 0 + 1 * (j 0).val
    rw [hi, Cert.Reference.Run.off3_eq]; show e.toNat * 1 + 1 * (0 + 1 * (j 0).val) = e.toNat + 1 * (j 0).val; omega
  | ⟨1, _⟩ =>
    show ((Cert.Kernel.Run.cfgA hE).win (1 : Fin 5)).index (Cert.Kernel.Run.pt hE n f) 1 * 1024 + 1 * (0 + 1 * (j 1).val)
      = Cert.Reference.k0_off3 e k 1 + 1 * (j 1).val
    rw [hi, Cert.Reference.Run.off3_eq]; show 0 * 1024 + 1 * (0 + 1 * (j 1).val) = 0 + 1 * (j 1).val; omega
  | ⟨2, _⟩ =>
    show ((Cert.Kernel.Run.cfgA hE).win (1 : Fin 5)).index (Cert.Kernel.Run.pt hE n f) 2 * 512 + 1 * (256 + 1 * (j 2).val)
      = Cert.Reference.k0_off3 e k 2 + 1 * (j 2).val
    rw [hi, Cert.Reference.Run.off3_eq]; show f * 512 + 1 * (256 + 1 * (j 2).val) = 256 * k.val + 1 * (j 2).val; omega

theorem up_first (n f : ℕ) (hn : n < 40) (hf : f < 7) (he : Cert.Reference.k0_chk1 (expertAt (Cert.Kernel.Run.expertOf m) n hn))
    (k : Fin Cert.Reference.k0_t2_loop.trips) (hk : k.val = 2 * f) :
    Cert.Kernel.Run.firstCols (Cert.Kernel.Run.iblk hE KCore (2 : Fin 5) (Cert.Kernel.Run.pt hE n f))
      = VecWindow.window (upK (m := m)) (Cert.Reference.k0_off3 (expertAt (Cert.Kernel.Run.expertOf m) n hn) k) Cert.Reference.S1x1024x256.size
          (Cert.Reference.k0_off3_inb _ he k) := by
  have hi := index_up hE n f hn hf
  unfold Cert.Kernel.Run.firstCols Cert.Kernel.Run.iblk VecWindow.window
  funext j
  rw [View.read_apply]
  refine congrArg (upK (m := m)) (funext fun a => Fin.ext ?_)
  generalize expertAt (Cert.Kernel.Run.expertOf m) n hn = e at hi he ⊢
  match a with
  | ⟨0, _⟩ =>
    show ((Cert.Kernel.Run.cfgA hE).win (2 : Fin 5)).index (Cert.Kernel.Run.pt hE n f) 0 * 1 + 1 * (0 + 1 * (j 0).val)
      = Cert.Reference.k0_off3 e k 0 + 1 * (j 0).val
    rw [hi, Cert.Reference.Run.off3_eq]; show e.toNat * 1 + 1 * (0 + 1 * (j 0).val) = e.toNat + 1 * (j 0).val; omega
  | ⟨1, _⟩ =>
    show ((Cert.Kernel.Run.cfgA hE).win (2 : Fin 5)).index (Cert.Kernel.Run.pt hE n f) 1 * 1024 + 1 * (0 + 1 * (j 1).val)
      = Cert.Reference.k0_off3 e k 1 + 1 * (j 1).val
    rw [hi, Cert.Reference.Run.off3_eq]; show 0 * 1024 + 1 * (0 + 1 * (j 1).val) = 0 + 1 * (j 1).val; omega
  | ⟨2, _⟩ =>
    show ((Cert.Kernel.Run.cfgA hE).win (2 : Fin 5)).index (Cert.Kernel.Run.pt hE n f) 2 * 512 + 1 * (0 + 1 * (j 2).val)
      = Cert.Reference.k0_off3 e k 2 + 1 * (j 2).val
    rw [hi, Cert.Reference.Run.off3_eq]; show f * 512 + 1 * (0 + 1 * (j 2).val) = 256 * k.val + 1 * (j 2).val; omega

theorem up_last (n f : ℕ) (hn : n < 40) (hf : f < 7) (he : Cert.Reference.k0_chk1 (expertAt (Cert.Kernel.Run.expertOf m) n hn))
    (k : Fin Cert.Reference.k0_t2_loop.trips) (hk : k.val = 2 * f + 1) :
    Cert.Kernel.Run.lastCols (Cert.Kernel.Run.iblk hE KCore (2 : Fin 5) (Cert.Kernel.Run.pt hE n f))
      = VecWindow.window (upK (m := m)) (Cert.Reference.k0_off3 (expertAt (Cert.Kernel.Run.expertOf m) n hn) k) Cert.Reference.S1x1024x256.size
          (Cert.Reference.k0_off3_inb _ he k) := by
  have hi := index_up hE n f hn hf
  unfold Cert.Kernel.Run.lastCols Cert.Kernel.Run.iblk VecWindow.window
  funext j
  rw [View.read_apply]
  refine congrArg (upK (m := m)) (funext fun a => Fin.ext ?_)
  generalize expertAt (Cert.Kernel.Run.expertOf m) n hn = e at hi he ⊢
  match a with
  | ⟨0, _⟩ =>
    show ((Cert.Kernel.Run.cfgA hE).win (2 : Fin 5)).index (Cert.Kernel.Run.pt hE n f) 0 * 1 + 1 * (0 + 1 * (j 0).val)
      = Cert.Reference.k0_off3 e k 0 + 1 * (j 0).val
    rw [hi, Cert.Reference.Run.off3_eq]; show e.toNat * 1 + 1 * (0 + 1 * (j 0).val) = e.toNat + 1 * (j 0).val; omega
  | ⟨1, _⟩ =>
    show ((Cert.Kernel.Run.cfgA hE).win (2 : Fin 5)).index (Cert.Kernel.Run.pt hE n f) 1 * 1024 + 1 * (0 + 1 * (j 1).val)
      = Cert.Reference.k0_off3 e k 1 + 1 * (j 1).val
    rw [hi, Cert.Reference.Run.off3_eq]; show 0 * 1024 + 1 * (0 + 1 * (j 1).val) = 0 + 1 * (j 1).val; omega
  | ⟨2, _⟩ =>
    show ((Cert.Kernel.Run.cfgA hE).win (2 : Fin 5)).index (Cert.Kernel.Run.pt hE n f) 2 * 512 + 1 * (256 + 1 * (j 2).val)
      = Cert.Reference.k0_off3 e k 2 + 1 * (j 2).val
    rw [hi, Cert.Reference.Run.off3_eq]; show f * 512 + 1 * (256 + 1 * (j 2).val) = 256 * k.val + 1 * (j 2).val; omega

theorem down_first (n f : ℕ) (hn : n < 40) (hf : f < 7) (he : Cert.Reference.k0_chk1 (expertAt (Cert.Kernel.Run.expertOf m) n hn))
    (k : Fin Cert.Reference.k0_t2_loop.trips) (hk : k.val = 2 * f) :
    Cert.Kernel.Run.firstRows (Cert.Kernel.Run.iblk hE KCore (3 : Fin 5) (Cert.Kernel.Run.pt hE n f))
      = VecWindow.window (downK (m := m)) (Cert.Reference.k0_off4 (expertAt (Cert.Kernel.Run.expertOf m) n hn) k) Cert.Reference.S1x256x1024.size
          (Cert.Reference.k0_off4_inb _ he k) := by
  have hi := index_down hE n f hn hf
  unfold Cert.Kernel.Run.firstRows Cert.Kernel.Run.iblk VecWindow.window
  funext j
  rw [View.read_apply]
  refine congrArg (downK (m := m)) (funext fun a => Fin.ext ?_)
  generalize expertAt (Cert.Kernel.Run.expertOf m) n hn = e at hi he ⊢
  match a with
  | ⟨0, _⟩ =>
    show ((Cert.Kernel.Run.cfgA hE).win (3 : Fin 5)).index (Cert.Kernel.Run.pt hE n f) 0 * 1 + 1 * (0 + 1 * (j 0).val)
      = Cert.Reference.k0_off4 e k 0 + 1 * (j 0).val
    rw [hi, Cert.Reference.Run.off4_eq]; show e.toNat * 1 + 1 * (0 + 1 * (j 0).val) = e.toNat + 1 * (j 0).val; omega
  | ⟨1, _⟩ =>
    show ((Cert.Kernel.Run.cfgA hE).win (3 : Fin 5)).index (Cert.Kernel.Run.pt hE n f) 1 * 512 + 1 * (0 + 1 * (j 1).val)
      = Cert.Reference.k0_off4 e k 1 + 1 * (j 1).val
    rw [hi, Cert.Reference.Run.off4_eq]; show f * 512 + 1 * (0 + 1 * (j 1).val) = 256 * k.val + 1 * (j 1).val; omega
  | ⟨2, _⟩ =>
    show ((Cert.Kernel.Run.cfgA hE).win (3 : Fin 5)).index (Cert.Kernel.Run.pt hE n f) 2 * 1024 + 1 * (0 + 1 * (j 2).val)
      = Cert.Reference.k0_off4 e k 2 + 1 * (j 2).val
    rw [hi, Cert.Reference.Run.off4_eq]; show 0 * 1024 + 1 * (0 + 1 * (j 2).val) = 0 + 1 * (j 2).val; omega

theorem down_last (n f : ℕ) (hn : n < 40) (hf : f < 7) (he : Cert.Reference.k0_chk1 (expertAt (Cert.Kernel.Run.expertOf m) n hn))
    (k : Fin Cert.Reference.k0_t2_loop.trips) (hk : k.val = 2 * f + 1) :
    Cert.Kernel.Run.lastRows (Cert.Kernel.Run.iblk hE KCore (3 : Fin 5) (Cert.Kernel.Run.pt hE n f))
      = VecWindow.window (downK (m := m)) (Cert.Reference.k0_off4 (expertAt (Cert.Kernel.Run.expertOf m) n hn) k) Cert.Reference.S1x256x1024.size
          (Cert.Reference.k0_off4_inb _ he k) := by
  have hi := index_down hE n f hn hf
  unfold Cert.Kernel.Run.lastRows Cert.Kernel.Run.iblk VecWindow.window
  funext j
  rw [View.read_apply]
  refine congrArg (downK (m := m)) (funext fun a => Fin.ext ?_)
  generalize expertAt (Cert.Kernel.Run.expertOf m) n hn = e at hi he ⊢
  match a with
  | ⟨0, _⟩ =>
    show ((Cert.Kernel.Run.cfgA hE).win (3 : Fin 5)).index (Cert.Kernel.Run.pt hE n f) 0 * 1 + 1 * (0 + 1 * (j 0).val)
      = Cert.Reference.k0_off4 e k 0 + 1 * (j 0).val
    rw [hi, Cert.Reference.Run.off4_eq]; show e.toNat * 1 + 1 * (0 + 1 * (j 0).val) = e.toNat + 1 * (j 0).val; omega
  | ⟨1, _⟩ =>
    show ((Cert.Kernel.Run.cfgA hE).win (3 : Fin 5)).index (Cert.Kernel.Run.pt hE n f) 1 * 512 + 1 * (256 + 1 * (j 1).val)
      = Cert.Reference.k0_off4 e k 1 + 1 * (j 1).val
    rw [hi, Cert.Reference.Run.off4_eq]; show f * 512 + 1 * (256 + 1 * (j 1).val) = 256 * k.val + 1 * (j 1).val; omega
  | ⟨2, _⟩ =>
    show ((Cert.Kernel.Run.cfgA hE).win (3 : Fin 5)).index (Cert.Kernel.Run.pt hE n f) 2 * 1024 + 1 * (0 + 1 * (j 2).val)
      = Cert.Reference.k0_off4 e k 2 + 1 * (j 2).val
    rw [hi, Cert.Reference.Run.off4_eq]; show 0 * 1024 + 1 * (0 + 1 * (j 2).val) = 0 + 1 * (j 2).val; omega

/-! ## The accumulators and the results -/

/-- After `f` points a tile's accumulator is the reference's after `2f` chunks. -/
theorem acc_eq (n : ℕ) (hn : n < 40) (he : Cert.Reference.k0_chk1 (expertAt (Cert.Kernel.Run.expertOf m) n hn))
    (k : Fin Cert.Reference.k0_t1_loop.trips) (hk : k.val = n) (f : ℕ) (hf : f ≤ 7) :
    Cert.Kernel.Run.accOf hE KCore n f
      = Cert.Reference.Run.chunkAcc (gateK (m := m)) (upK (m := m)) (downK (m := m)) (expertAt (Cert.Kernel.Run.expertOf m) n hn) he
          (VecWindow.window (rowsK (m := m)) (Cert.Reference.k0_off2 k) Cert.Reference.S1024x512.size (Cert.Reference.Gen.facts.k0_off2_inb k)) (2 * f) := by
  induction f with
  | zero => exact start_eq
  | succ f ih =>
    have hf' : f < 7 := hf
    have h1 : 2 * f < Cert.Reference.k0_t2_loop.trips := by rw [Cert.Reference.Run.trips2]; omega
    have h2 : 2 * f + 1 < Cert.Reference.k0_t2_loop.trips := by rw [Cert.Reference.Run.trips2]; omega
    have e1 := Cert.Reference.Run.chunkAcc_succ (gateK (m := m)) (upK (m := m)) (downK (m := m)) (expertAt (Cert.Kernel.Run.expertOf m) n hn) he
          (VecWindow.window (rowsK (m := m)) (Cert.Reference.k0_off2 k) Cert.Reference.S1024x512.size (Cert.Reference.Gen.facts.k0_off2_inb k)) ⟨2 * f, h1⟩
    have e2 := Cert.Reference.Run.chunkAcc_succ (gateK (m := m)) (upK (m := m)) (downK (m := m)) (expertAt (Cert.Kernel.Run.expertOf m) n hn) he
          (VecWindow.window (rowsK (m := m)) (Cert.Reference.k0_off2 k) Cert.Reference.S1024x512.size (Cert.Reference.Gen.facts.k0_off2_inb k)) ⟨2 * f + 1, h2⟩
    rw [show 2 * (f + 1) = (⟨2 * f + 1, h2⟩ : Fin Cert.Reference.k0_t2_loop.trips).val + 1 from rfl, e2]
    rw [show (⟨2 * f + 1, h2⟩ : Fin Cert.Reference.k0_t2_loop.trips).val = (⟨2 * f, h1⟩ : Fin Cert.Reference.k0_t2_loop.trips).val + 1 from rfl, e1]
    show Cert.Kernel.Run.step (Cert.Kernel.Run.rowsOf hE KCore n) _ _ _ (Cert.Kernel.Run.accOf hE KCore n f) = _
    unfold Cert.Kernel.Run.rowsOf
    rw [rows_block hE n 0 hn (by decide) k hk, ih (by omega), Cert.Same.step_eq,
      gate_first hE n f hn hf' he ⟨2 * f, h1⟩ rfl, up_first hE n f hn hf' he ⟨2 * f, h1⟩ rfl, down_first hE n f hn hf' he ⟨2 * f, h1⟩ rfl,
      gate_last hE n f hn hf' he ⟨2 * f + 1, h2⟩ rfl, up_last hE n f hn hf' he ⟨2 * f + 1, h2⟩ rfl, down_last hE n f hn hf' he ⟨2 * f + 1, h2⟩ rfl]

/-- A tile's packed rows, or zero. -/
theorem pack_eq (k : Fin Cert.Reference.k0_t1_loop.trips) (n : ℕ) (hk : k.val = n) (w : BitVec 32) (a : FVec F Cert.Kernel.S1024x1024 .f32) :
    (if Cert.Kernel.Run.InUse w n then Cert.Kernel.Gen.k0_pay2 a else Cert.Kernel.Gen.k0_pay3) = Cert.Reference.Gen.k0_pay3 (F := F) k a w := by
  have hiv : (Scf.iv 0#32 1#32 k : BitVec 32) = BitVec.ofNat 32 n := by subst hk; exact
    (by decide +kernel : ∀ k : Fin Cert.Reference.k0_t1_loop.trips, (Scf.iv 0#32 1#32 k : BitVec 32) = BitVec.ofNat 32 k.val) k
  unfold Cert.Reference.Gen.k0_pay3
  rw [hiv]
  show _ = (if Scalar.cmpi .slt (BitVec.ofNat 32 n) w = 1 then Cert.Kernel.Gen.k0_pay2 a else Cert.Kernel.Gen.k0_pay3)
  by_cases h : Cert.Kernel.Run.InUse w n
  · rw [if_pos h]
    exact (if_pos h).symm
  · rw [if_neg h]
    exact (if_neg h).symm

variable {m' : (ℓ : Loc Cert.Reference.nD Cert.Reference.τ Cert.Reference.sig) → Buf (Elt F) ℓ} (hE' : Cert.Reference.Run.Exist m')

/-- The two results agree when the arguments do. -/
theorem result_eq (c : Dev Cert.Kernel.nD)
    (h0 : m' ((c.tc : Thread Cert.Reference.nD Cert.Reference.τ).loc Cert.Reference.main_arg0) = m ((c.tc : Thread Cert.Kernel.nD Cert.Kernel.τ).loc Cert.Kernel.main_arg0))
    (h1 : m' ((c.tc : Thread Cert.Reference.nD Cert.Reference.τ).loc Cert.Reference.main_arg1) = m ((c.tc : Thread Cert.Kernel.nD Cert.Kernel.τ).loc Cert.Kernel.main_arg1))
    (h2 : m' ((c.tc : Thread Cert.Reference.nD Cert.Reference.τ).loc Cert.Reference.main_arg2) = m ((c.tc : Thread Cert.Kernel.nD Cert.Kernel.τ).loc Cert.Kernel.main_arg2))
    (h3 : m' ((c.tc : Thread Cert.Reference.nD Cert.Reference.τ).loc Cert.Reference.main_arg3) = m ((c.tc : Thread Cert.Kernel.nD Cert.Kernel.τ).loc Cert.Kernel.main_arg3))
    (h4 : m' ((c.tc : Thread Cert.Reference.nD Cert.Reference.τ).loc Cert.Reference.main_arg4) = m ((c.tc : Thread Cert.Kernel.nD Cert.Kernel.τ).loc Cert.Kernel.main_arg4))
    (h5 : m' ((c.tc : Thread Cert.Reference.nD Cert.Reference.τ).loc Cert.Reference.main_arg5) = m ((c.tc : Thread Cert.Kernel.nD Cert.Kernel.τ).loc Cert.Kernel.main_arg5)) :
    Cert.Reference.Run.result hE' c = Cert.Kernel.Run.result hE c := by
  obtain rfl : c = KCore := Subsingleton.elim _ _
  have h0 : Cert.Reference.Run.rowsArr m' KCore = rowsK (m := m) := h0
  have h1 : Cert.Reference.Run.expertArr m' KCore = Cert.Kernel.Run.expertOf m := h1
  have h2 : Cert.Reference.Run.usedArr m' KCore = Cert.Kernel.Run.usedTab m := h2
  have h3 : Cert.Reference.Run.gateArr m' KCore = gateK (m := m) := h3
  have h4 : Cert.Reference.Run.upArr m' KCore = upK (m := m) := h4
  have h5 : Cert.Reference.Run.downArr m' KCore = downK (m := m) := h5
  have hx := hE' KCore
  unfold Cert.Reference.Run.result
  generalize hE' KCore = hx'
  revert hx'
  rw [h0, h1, h2, h3, h4, h5]
  intro hx'
  funext i
  have hi : (i 0).val < 40960 := (i 0).isLt
  have hn : (i 0).val / 1024 < 40 := by omega
  have hk : (i 0).val / 1024 < Cert.Reference.k0_t1_loop.trips := by rw [Cert.Reference.Run.trips1]; exact hn
  unfold Cert.Reference.Run.refOut Cert.Kernel.Run.result
  refine congrFun ?_ _
  unfold Cert.Reference.Run.tileOut Cert.Kernel.Run.outOf
  have ht : Cert.Reference.Run.tileExpert (F := F) (Cert.Kernel.Run.expertOf m) ⟨(i 0).val / 1024, hk⟩ = expertAt (Cert.Kernel.Run.expertOf m) ((i 0).val / 1024) hn :=
    tileExpert_eq (Cert.Kernel.Run.expertOf m) ⟨(i 0).val / 1024, hk⟩ hn
  generalize_proofs q1 q2 q3
  have q2' := q2
  revert q2
  rw [ht]
  intro q2
  rw [acc_eq hE ((i 0).val / 1024) hn q2 ⟨(i 0).val / 1024, hk⟩ rfl 7 le_rfl, pack_eq ⟨(i 0).val / 1024, hk⟩ _ rfl]
  rfl

end Cert.Same

end
-- ==== Proof.Kernel2IdealBody.lean ====
/- THE SECOND KERNEL'S BODY (on rows of bf16 pairs, over any floats) at one grid point, by the point's control path: what it leaves in the accumulator, in the
   unpacked rows and in the output block, as values. -/
module

public import proofs.«01_k».proof.Proof.Gen.Kernel2Ideal.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.TableIdle
public import Idealize.ShloMosaic.Lib.VecWindow

@[expose] public section

set_option maxRecDepth 16384
set_option Elab.async false

noncomputable section

namespace Cert.Kernel2Ideal.Run

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body's own memory -/

/-- The table of each tile's expert, and the number of tiles in use. -/
abbrev expertTable : Memref sig .tc .smem S40 .i32 := Memref.whole main_arg1
abbrev usedTable : Memref sig .tc .smem S1 .i32 := Memref.whole main_arg2
/-- The accumulator, and the tile's rows unpacked to bf16. -/
abbrev accRef : Memref sig .tc .vmem S1024x1024 .f32 := Memref.whole cc0_scratch0
abbrev rowsRef : Memref sig .tc .vmem S1024x1024 .bf16 := Memref.whole cc0_scratch1

/-! ## The values -/

/-- One 256-column half of a 512-column block of a gate or up weight, and of a down weight's rows. -/
abbrev firstCols (x : Vec F S1x1024x512 .f32) : Vec F S1x1024x256 .f32 :=
  VecWindow.window x ![0, 0, 0] S1x1024x256.size inb_S1x1024x512_S1x1024x256_0_0_0
abbrev lastCols (x : Vec F S1x1024x512 .f32) : Vec F S1x1024x256 .f32 :=
  VecWindow.window x ![0, 0, 256] S1x1024x256.size inb_S1x1024x512_S1x1024x256_0_0_256
abbrev firstRows (x : Vec F S1x512x1024 .f32) : Vec F S1x256x1024 .f32 :=
  VecWindow.window x ![0, 0, 0] S1x256x1024.size inb_S1x512x1024_S1x256x1024_0_0_0
abbrev lastRows (x : Vec F S1x512x1024 .f32) : Vec F S1x256x1024 .f32 :=
  VecWindow.window x ![0, 256, 0] S1x256x1024.size inb_S1x512x1024_S1x256x1024_0_256_0

/-- The accumulator after one grid point: the products of the point's two 256-column halves added, one after the other. -/
def step (h : Vec F S1024x1024 .bf16) (x1 x2 : Vec F S1x1024x512 .f32) (x3 : Vec F S1x512x1024 .f32) (a : Vec F S1024x1024 .f32) :
    Vec F S1024x1024 .f32 :=
  k0_pay1 h (k0_pay7 (lastCols x1)) (constant S1024x256 .f32 0x00000000#32) (lastCols x2)
    (k0_pay6 h (firstCols x1) (firstCols x2) a (firstRows x3)) (lastRows x3)

/-- The number of tiles in use, as the body reads it. -/
abbrev usedWord (T1 : S1.Idx → Elt F .i32) : BitVec 32 :=
  View.readAt (Elt F) usedTable.view (Rect.unit (s := S1) ![0] S1.size inb_S1_S1_0).toLoadRect T1 (Shape.Idx.first (numel1_S1.symm ▸ Nat.one_pos))

/-- The test of a point's being its tile's first. -/
abbrev firstTest (i : grid0.Coords) : Prop :=
  (Scalar.cmpi .ne (Scalar.extui (Scalar.cmpi .eq (BitVec.ofNat 32 (i 1).val) 0#32)) 0#32) = 1#1

/-- What the body holds: the four input blocks, the tables, the output block, and its two scratch arrays. -/
def Held (c : Dev nD) (arg4 : Memref sig .tc .vmem S2048x512 .bf16) (arg5 : Memref sig .tc .vmem S1x1024x512 .f32)
    (arg6 : Memref sig .tc .vmem S1x1024x512 .f32) (arg7 : Memref sig .tc .vmem S1x512x1024 .f32) (arg8 : Memref sig .tc .vmem S2048x512 .bf16)
    (T0 : S40.Idx → Elt F .i32) (T1 : S1.Idx → Elt F .i32) (x0 : S2048x512.Idx → Elt F .bf16) (x1 : S1x1024x512.Idx → Elt F .f32)
    (x2 : S1x1024x512.Idx → Elt F .f32) (x3 : S1x512x1024.Idx → Elt F .f32) (y : S2048x512.Idx → Elt F .bf16)
    (a : S1024x1024.Idx → Elt F .f32) (h : S1024x1024.Idx → Elt F .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (expertTable.view.loc (c : Thread nD τ) ↦{fullShare.right} T0)
    ∗ (usedTable.view.loc (c : Thread nD τ) ↦{fullShare.right} T1)
    ∗ owns (c : Thread nD τ) arg8 fullShare y
    ∗ (∃ f, ⌜f = a⌝ ∗ (accRef.view.loc (c : Thread nD τ) ↦{fullShare} f))
    ∗ (∃ f, ⌜f = h⌝ ∗ (rowsRef.view.loc (c : Thread nD τ) ↦{fullShare} f)))

/-- Reading a scratch array whole is its contents. -/
theorem read_acc (f : S1024x1024.Idx → Elt F .f32) : View.read (Elt F) accRef.view f = f := rfl
theorem read_rows (f : S1024x1024.Idx → Elt F .bf16) : View.read (Elt F) rowsRef.view f = f := rfl

variable (c : Dev nD) (i : grid0.Coords) (arg4 : Memref sig .tc .vmem S2048x512 .bf16) (harg4 : arg4.IsWhole)
  (arg5 : Memref sig .tc .vmem S1x1024x512 .f32) (harg5 : arg5.IsWhole) (arg6 : Memref sig .tc .vmem S1x1024x512 .f32) (harg6 : arg6.IsWhole)
  (arg7 : Memref sig .tc .vmem S1x512x1024 .f32) (harg7 : arg7.IsWhole) (arg8 : Memref sig .tc .vmem S2048x512 .bf16) (harg8 : arg8.IsWhole)
  (T0 : S40.Idx → Elt F .i32) (T1 : S1.Idx → Elt F .i32) (x0 : S2048x512.Idx → Elt F .bf16) (x1 : S1x1024x512.Idx → Elt F .f32)
  (x2 : S1x1024x512.Idx → Elt F .f32) (x3 : S1x512x1024.Idx → Elt F .f32) (y : S2048x512.Idx → Elt F .bf16)
  (a : S1024x1024.Idx → Elt F .f32) (h : S1024x1024.Idx → Elt F .bf16)

/-- The body at a point, on its staging memrefs. -/
abbrev bodyAt : Prog (TpuEff nD τ sig (Elt F) Λ₀ .tc) PUnit :=
  cc0_moe_ffn i expertTable (Memref.isWhole_whole _) usedTable (Memref.isWhole_whole _) arg4 harg4 arg5 harg5 arg6 harg6 arg7 harg7 arg8 harg8
    accRef (Memref.isWhole_whole _) rowsRef (Memref.isWhole_whole _)

set_option backward.proofsInPublic true in
set_option maxHeartbeats 8000000 in
/-- A tile in use, at its first point: the rows unpacked, and one step of the accumulator from zero. -/
theorem body_first (K : PUnit → sProp 𝕄) (h1 : k0_cond1 i (usedWord T1) = 1#1) (h2 : firstTest i) (h3 : ¬(k0_cond3 i = 1#1)) (h4 : ¬(k0_cond4 i (usedWord T1) = 1#1)) :
    iprop(Held c arg4 arg5 arg6 arg7 arg8 T0 T1 x0 x1 x2 x3 y a h
        ∗ (Held c arg4 arg5 arg6 arg7 arg8 T0 T1 x0 x1 x2 x3 y (step (k0_pay5 x0) x1 x2 x3 k0_pay4) (k0_pay5 x0) -∗ K ⟨⟩))
      ⊢ wp frame (wpE (defs₀ (F := F)) Variants.none c none) Set.univ
          (bodyAt i arg4 harg4 arg5 harg5 arg6 harg6 arg7 harg7 arg8 harg8) K := by
  unfold Held owns
  unfold bodyAt
  rw [cc0_moe_ffn_eq_skeleton]; unfold cc0_moe_ffn_skel
  iintro ⟨⟨H0, H1, H2, H3, HT0, HT1, ⟨%f4, %hf4, HO4⟩, ⟨%fa, %hfa, HS0⟩, ⟨%fh, %hfh, HS1⟩⟩, Hk⟩
  obtain rfl := harg8.eq_unread hf4
  subst hfa hfh
  have hS0 : accRef.IsWhole := Memref.isWhole_whole _
  have hS1 : rowsRef.IsWhole := Memref.isWhole_whole _
  have hT0 : expertTable.IsWhole := Memref.isWhole_whole _
  have hT1 : usedTable.IsWhole := Memref.isWhole_whole _
  sl_exec! (disch := first | (guard_target = k0_cond1 _ _ = _; exact h1) | (guard_target = Scalar.cmpi = _; exact h2) | (guard_target = ¬(k0_cond3 _ = _); exact h3) | (guard_target = ¬(k0_cond4 _ _ = _); exact h4))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap; · iexact HO4
    ipureintro
    exact harg8.read_unread _
  isplitl [HS0]
  · iexists _; isplitr; swap; · iexact HS0
    ipureintro
    sl_unfold_words
    rw [← read_acc (accRef.view.writes _ _ _)]
    rw [View.read_writes_full]
    rw [View.readCov_full, View.readCov_full, View.readCov_full, View.readAt_rep_full]
    rw [View.readAt_rep_unit arg5.view x1 _ rfl inb_S1x1024x512_S1x1024x256_0_0_0, View.readAt_rep_unit arg5.view x1 _ rfl inb_S1x1024x512_S1x1024x256_0_0_256,
      View.readAt_rep_unit arg6.view x2 _ rfl inb_S1x1024x512_S1x1024x256_0_0_0, View.readAt_rep_unit arg6.view x2 _ rfl inb_S1x1024x512_S1x1024x256_0_0_256,
      View.readAt_rep_unit arg7.view x3 _ rfl inb_S1x512x1024_S1x256x1024_0_0_0, View.readAt_rep_unit arg7.view x3 _ rfl inb_S1x512x1024_S1x256x1024_0_256_0]
    unfold step
    with_reducible rfl
  iexists _; isplitr; swap; · iexact HS1
  ipureintro
  sl_unfold_words
  rw [← read_rows (rowsRef.view.writes _ _ _)]
  rw [View.read_writes_full, View.readAt_rep_full]

set_option backward.proofsInPublic true in
set_option maxHeartbeats 8000000 in
/-- A tile in use, at a point neither its first nor its last: one step of the accumulator. -/
theorem body_middle (K : PUnit → sProp 𝕄) (h1 : k0_cond1 i (usedWord T1) = 1#1) (h2 : ¬firstTest i) (h3 : ¬(k0_cond3 i = 1#1)) (h4 : ¬(k0_cond4 i (usedWord T1) = 1#1)) :
    iprop(Held c arg4 arg5 arg6 arg7 arg8 T0 T1 x0 x1 x2 x3 y a h
        ∗ (Held c arg4 arg5 arg6 arg7 arg8 T0 T1 x0 x1 x2 x3 y (step h x1 x2 x3 a) h -∗ K ⟨⟩))
      ⊢ wp frame (wpE (defs₀ (F := F)) Variants.none c none) Set.univ
          (bodyAt i arg4 harg4 arg5 harg5 arg6 harg6 arg7 harg7 arg8 harg8) K := by
  unfold Held owns
  unfold bodyAt
  rw [cc0_moe_ffn_eq_skeleton]; unfold cc0_moe_ffn_skel
  iintro ⟨⟨H0, H1, H2, H3, HT0, HT1, ⟨%f4, %hf4, HO4⟩, ⟨%fa, %hfa, HS0⟩, ⟨%fh, %hfh, HS1⟩⟩, Hk⟩
  obtain rfl := harg8.eq_unread hf4
  subst hfa hfh
  have hS0 : accRef.IsWhole := Memref.isWhole_whole _
  have hS1 : rowsRef.IsWhole := Memref.isWhole_whole _
  have hT0 : expertTable.IsWhole := Memref.isWhole_whole _
  have hT1 : usedTable.IsWhole := Memref.isWhole_whole _
  sl_exec! (disch := first | (guard_target = k0_cond1 _ _ = _; exact h1) | (guard_target = ¬(Scalar.cmpi = _); exact h2) | (guard_target = ¬(k0_cond3 _ = _); exact h3) | (guard_target = ¬(k0_cond4 _ _ = _); exact h4))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap; · iexact HO4
    ipureintro
    exact harg8.read_unread _
  isplitl [HS0]
  · iexists _; isplitr; swap; · iexact HS0
    ipureintro
    sl_unfold_words
    rw [← read_acc (accRef.view.writes _ _ _)]
    rw [View.read_writes_full]
    rw [View.readCov_full, View.readAt_full, View.readAt_full, read_acc, read_rows]
    rw [View.readAt_rep_unit arg5.view x1 _ rfl inb_S1x1024x512_S1x1024x256_0_0_0, View.readAt_rep_unit arg5.view x1 _ rfl inb_S1x1024x512_S1x1024x256_0_0_256,
      View.readAt_rep_unit arg6.view x2 _ rfl inb_S1x1024x512_S1x1024x256_0_0_0, View.readAt_rep_unit arg6.view x2 _ rfl inb_S1x1024x512_S1x1024x256_0_0_256,
      View.readAt_rep_unit arg7.view x3 _ rfl inb_S1x512x1024_S1x256x1024_0_0_0, View.readAt_rep_unit arg7.view x3 _ rfl inb_S1x512x1024_S1x256x1024_0_256_0]
    unfold step
    with_reducible rfl
  iexists _; isplitr; swap; · iexact HS1
  ipureintro
  rfl

set_option backward.proofsInPublic true in
set_option maxHeartbeats 8000000 in
/-- A tile in use, at its last point: one step of the accumulator, packed into the output block. -/
theorem body_last (K : PUnit → sProp 𝕄) (h1 : k0_cond1 i (usedWord T1) = 1#1) (h2 : ¬firstTest i) (h3 : k0_cond3 i = 1#1) (h4 : ¬(k0_cond4 i (usedWord T1) = 1#1)) :
    iprop(Held c arg4 arg5 arg6 arg7 arg8 T0 T1 x0 x1 x2 x3 y a h
        ∗ (Held c arg4 arg5 arg6 arg7 arg8 T0 T1 x0 x1 x2 x3 (k0_pay2 (step h x1 x2 x3 a)) (step h x1 x2 x3 a) h -∗ K ⟨⟩))
      ⊢ wp frame (wpE (defs₀ (F := F)) Variants.none c none) Set.univ
          (bodyAt i arg4 harg4 arg5 harg5 arg6 harg6 arg7 harg7 arg8 harg8) K := by
  unfold Held owns
  unfold bodyAt
  rw [cc0_moe_ffn_eq_skeleton]; unfold cc0_moe_ffn_skel
  iintro ⟨⟨H0, H1, H2, H3, HT0, HT1, ⟨%f4, %hf4, HO4⟩, ⟨%fa, %hfa, HS0⟩, ⟨%fh, %hfh, HS1⟩⟩, Hk⟩
  obtain rfl := harg8.eq_unread hf4
  subst hfa hfh
  have hS0 : accRef.IsWhole := Memref.isWhole_whole _
  have hS1 : rowsRef.IsWhole := Memref.isWhole_whole _
  have hT0 : expertTable.IsWhole := Memref.isWhole_whole _
  have hT1 : usedTable.IsWhole := Memref.isWhole_whole _
  sl_exec! (disch := first | (guard_target = k0_cond1 _ _ = _; exact h1) | (guard_target = ¬(Scalar.cmpi = _); exact h2) | (guard_target = k0_cond3 _ = _; exact h3) | (guard_target = ¬(k0_cond4 _ _ = _); exact h4))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap; · iexact HO4
    ipureintro
    sl_unfold_words
    rw [View.read_writes_full]
    rw [View.readCov_full, View.readCov_full, View.readAt_full, View.readAt_full, read_acc, read_rows]
    rw [View.readAt_rep_unit arg5.view x1 _ rfl inb_S1x1024x512_S1x1024x256_0_0_0, View.readAt_rep_unit arg5.view x1 _ rfl inb_S1x1024x512_S1x1024x256_0_0_256,
      View.readAt_rep_unit arg6.view x2 _ rfl inb_S1x1024x512_S1x1024x256_0_0_0, View.readAt_rep_unit arg6.view x2 _ rfl inb_S1x1024x512_S1x1024x256_0_0_256,
      View.readAt_rep_unit arg7.view x3 _ rfl inb_S1x512x1024_S1x256x1024_0_0_0, View.readAt_rep_unit arg7.view x3 _ rfl inb_S1x512x1024_S1x256x1024_0_256_0]
    unfold step
    with_reducible rfl
  isplitl [HS0]
  · iexists _; isplitr; swap; · iexact HS0
    ipureintro
    sl_unfold_words
    rw [← read_acc (accRef.view.writes _ _ _)]
    rw [View.read_writes_full]
    rw [View.readCov_full, View.readAt_full, View.readAt_full, read_acc, read_rows]
    rw [View.readAt_rep_unit arg5.view x1 _ rfl inb_S1x1024x512_S1x1024x256_0_0_0, View.readAt_rep_unit arg5.view x1 _ rfl inb_S1x1024x512_S1x1024x256_0_0_256,
      View.readAt_rep_unit arg6.view x2 _ rfl inb_S1x1024x512_S1x1024x256_0_0_0, View.readAt_rep_unit arg6.view x2 _ rfl inb_S1x1024x512_S1x1024x256_0_0_256,
      View.readAt_rep_unit arg7.view x3 _ rfl inb_S1x512x1024_S1x256x1024_0_0_0, View.readAt_rep_unit arg7.view x3 _ rfl inb_S1x512x1024_S1x256x1024_0_256_0]
    unfold step
    with_reducible rfl
  iexists _; isplitr; swap; · iexact HS1
  ipureintro
  rfl

set_option backward.proofsInPublic true in
set_option maxHeartbeats 8000000 in
/-- A tile not in use, before its last point: nothing changes. -/
theorem body_idle (K : PUnit → sProp 𝕄) (h1 : ¬(k0_cond1 i (usedWord T1) = 1#1)) (h4 : ¬(k0_cond4 i (usedWord T1) = 1#1)) :
    iprop(Held c arg4 arg5 arg6 arg7 arg8 T0 T1 x0 x1 x2 x3 y a h
        ∗ (Held c arg4 arg5 arg6 arg7 arg8 T0 T1 x0 x1 x2 x3 y a h -∗ K ⟨⟩))
      ⊢ wp frame (wpE (defs₀ (F := F)) Variants.none c none) Set.univ
          (bodyAt i arg4 harg4 arg5 harg5 arg6 harg6 arg7 harg7 arg8 harg8) K := by
  unfold Held owns
  unfold bodyAt
  rw [cc0_moe_ffn_eq_skeleton]; unfold cc0_moe_ffn_skel
  iintro ⟨⟨H0, H1, H2, H3, HT0, HT1, ⟨%f4, %hf4, HO4⟩, ⟨%fa, %hfa, HS0⟩, ⟨%fh, %hfh, HS1⟩⟩, Hk⟩
  obtain rfl := harg8.eq_unread hf4
  subst hfa hfh
  have hS0 : accRef.IsWhole := Memref.isWhole_whole _
  have hS1 : rowsRef.IsWhole := Memref.isWhole_whole _
  have hT0 : expertTable.IsWhole := Memref.isWhole_whole _
  have hT1 : usedTable.IsWhole := Memref.isWhole_whole _
  sl_exec! (disch := first | (guard_target = ¬(k0_cond1 _ _ = _); exact h1) | (guard_target = ¬(k0_cond4 _ _ = _); exact h4))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap; · iexact HO4
    ipureintro
    exact harg8.read_unread _
  isplitl [HS0]
  · iexists _; isplitr; swap; · iexact HS0
    ipureintro
    rfl
  iexists _; isplitr; swap; · iexact HS1
  ipureintro
  rfl

set_option backward.proofsInPublic true in
set_option maxHeartbeats 8000000 in
/-- A tile not in use, at its last point: zeros in the output block. -/
theorem body_zero (K : PUnit → sProp 𝕄) (h1 : ¬(k0_cond1 i (usedWord T1) = 1#1)) (h4 : k0_cond4 i (usedWord T1) = 1#1) :
    iprop(Held c arg4 arg5 arg6 arg7 arg8 T0 T1 x0 x1 x2 x3 y a h
        ∗ (Held c arg4 arg5 arg6 arg7 arg8 T0 T1 x0 x1 x2 x3 k0_pay3 a h -∗ K ⟨⟩))
      ⊢ wp frame (wpE (defs₀ (F := F)) Variants.none c none) Set.univ
          (bodyAt i arg4 harg4 arg5 harg5 arg6 harg6 arg7 harg7 arg8 harg8) K := by
  unfold Held owns
  unfold bodyAt
  rw [cc0_moe_ffn_eq_skeleton]; unfold cc0_moe_ffn_skel
  iintro ⟨⟨H0, H1, H2, H3, HT0, HT1, ⟨%f4, %hf4, HO4⟩, ⟨%fa, %hfa, HS0⟩, ⟨%fh, %hfh, HS1⟩⟩, Hk⟩
  obtain rfl := harg8.eq_unread hf4
  subst hfa hfh
  have hS0 : accRef.IsWhole := Memref.isWhole_whole _
  have hS1 : rowsRef.IsWhole := Memref.isWhole_whole _
  have hT0 : expertTable.IsWhole := Memref.isWhole_whole _
  have hT1 : usedTable.IsWhole := Memref.isWhole_whole _
  sl_exec! (disch := first | (guard_target = ¬(k0_cond1 _ _ = _); exact h1) | (guard_target = k0_cond4 _ _ = _; exact h4))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap; · iexact HO4
    ipureintro
    sl_unfold_words
    rw [View.read_writes_full]
  isplitl [HS0]
  · iexists _; isplitr; swap; · iexact HS0
    ipureintro
    rfl
  iexists _; isplitr; swap; · iexact HS1
  ipureintro
  rfl

end Cert.Kernel2Ideal.Run

end
-- ==== Proof.Kernel2IdealData.lean ====
/- THE SECOND KERNEL'S PIPELINE (on rows of bf16 pairs, over any floats) at any tables whose experts exist: its points and conditions, the blocks its windows hold, and the
   values its accumulator and its output block take. -/
module

public import proofs.«01_k».proof.Proof.Kernel2IdealBody
public import proofs.«01_k».proof.Proof.Gen.Kernel2Ideal.Launch

@[expose] public section

set_option maxRecDepth 16384
set_option Elab.async false

noncomputable section

namespace Cert.Kernel2Ideal.Run

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Points and conditions -/

/-- Point `t` is step `t % 7` of tile `t / 7`. -/
theorem coords_eq : ∀ t : Fin grid0.N, (grid0.coords t 0).val = t.val / 7 ∧ (grid0.coords t 1).val = t.val % 7 := by decide +kernel

/-- The output block is written back at a tile's last step: there alone the next point's tile is another. -/
theorem lastStep : ∀ t : Fin grid0.N,
    (true && (t.val + 1 = grid0.N || decide (∃ h : t.val + 1 < grid0.N, ∃ a, cc0_transform_4 (grid0.coords ⟨t.val + 1, h⟩) a ≠ cc0_transform_4 (grid0.coords t) a)))
      = decide (t.val % 7 = 6) := by decide +kernel

/-- Tile `n` is in use: its number is below the word. -/
abbrev InUse (w : BitVec 32) (n : ℕ) : Prop := Scalar.cmpi .slt (BitVec.ofNat 32 n) w = 1#1

theorem cond1_iff (i : grid0.Coords) (w : BitVec 32) : k0_cond1 i w = 1#1 ↔ InUse w (i 0).val := by
  have h : ∀ b : BitVec 1, (Scalar.cmpi .ne (Scalar.extui b : BitVec 32) 0#32) = 1#1 ↔ b = 1#1 := by decide
  exact h _

theorem firstTest_iff (i : grid0.Coords) : firstTest i ↔ (i 1).val = 0 := by
  have h : ∀ k : Fin 7, (Scalar.cmpi .ne (Scalar.extui (Scalar.cmpi .eq (BitVec.ofNat 32 k.val) 0#32) : BitVec 32) 0#32) = 1#1 ↔ k.val = 0 := by decide
  exact h (i 1)

theorem cond3_iff (i : grid0.Coords) : k0_cond3 i = 1#1 ↔ (i 1).val = 6 := by
  have h : ∀ k : Fin 7, (Scalar.cmpi .ne (Scalar.extui (Scalar.cmpi .eq (BitVec.ofNat 32 k.val) 6#32) : BitVec 32) 0#32) = 1#1 ↔ k.val = 6 := by decide
  exact h (i 1)

theorem cond4_iff (i : grid0.Coords) (w : BitVec 32) : k0_cond4 i w = 1#1 ↔ ¬InUse w (i 0).val ∧ (i 1).val = 6 := by
  have h : ∀ k : Fin 7, ∀ b : BitVec 1, (Scalar.cmpi .ne (Scalar.extui (Scalar.andi (Scalar.xori b 1#1) (Scalar.cmpi .eq (BitVec.ofNat 32 k.val) 6#32)) : BitVec 32) 0#32) = 1#1
      ↔ ¬(b = 1#1) ∧ k.val = 6 := by decide
  exact h (i 1) _

variable (m : (ℓ : Loc nD τ sig) → Buf (Elt F) ℓ)

/-! ## The tables -/

/-- The one core. -/
abbrev core : Dev nD := 0

/-- Each tile's expert, and the word of the tiles in use, as launched. -/
abbrev expertOf : S40.Idx → BitVec 32 := m ((core : Thread nD τ).loc main_arg1)
abbrev usedTab : S1.Idx → BitVec 32 := m ((core : Thread nD τ).loc main_arg2)
abbrev used : BitVec 32 := usedTab m (Shape.Idx.first (numel1_S1.symm ▸ Nat.one_pos))

/-- Every tile's expert exists. -/
def Exist : Prop := ∀ x, (expertOf m x).toNat < 8

/-- The tables' contents as launched. -/
def tabs : pre0.Contents (Elt F) := fun j => m ((core : Thread nD τ).loc (pre0.ref j))

theorem usedWord_eq : usedWord (F := F) (usedTab m) = used m := by
  show usedTab m _ = usedTab m _
  exact congrArg _ (funext fun a => Fin.ext (by match a with | ⟨0, _⟩ => rfl))

theorem atD_eq : (tabs m).atD 1 ![0] = used m := by
  unfold Pipeline.Prefetch.Contents.atD
  split
  · show usedTab m _ = usedTab m _
    exact congrArg _ (funext fun a => Fin.ext (by match a with | ⟨0, _⟩ => rfl))
  · rename_i h
    exact absurd (fun a => by match a with | ⟨0, _⟩ => exact Nat.le_refl 1) h

theorem step_lt (i : grid0.Coords) : (BitVec.ofNat 32 (i 1).val).toNat + 1 ≤ 7 := by
  have : ∀ k : Fin 7, (BitVec.ofNat 32 k.val).toNat + 1 ≤ 7 := by decide
  exact this (i 1)

variable {m}

/-- With every tile's expert existing, every weight block lies in its array. -/
theorem tabs_ok (hE : Exist m) : ok0 (tabs m) := by
  refine ⟨fun i => ⟨fun a => ?_, .inl rfl⟩, fun i => ⟨fun a => ?_, .inl rfl⟩, fun i => ⟨fun a => ?_, .inl rfl⟩⟩
  · have h := step_lt i
    match a with
    | ⟨0, _⟩ => have h := hE ((Rect.unit (s := S40) (k0_off1 i) S1.size (k0_off1_inb i)).emb (Shape.Idx.first (numel1_S1.symm ▸ Nat.one_pos))); show (_ + 1) * 1 ≤ 8; rw [Nat.mul_one]; exact h
    | ⟨1, _⟩ => show (0 + 1) * 1024 ≤ 1024; omega
    | ⟨2, _⟩ => show ((BitVec.ofNat 32 (i 1).val).toNat + 1) * 512 ≤ 3584; omega
  · have h := step_lt i
    match a with
    | ⟨0, _⟩ => have h := hE ((Rect.unit (s := S40) (k0_off1 i) S1.size (k0_off1_inb i)).emb (Shape.Idx.first (numel1_S1.symm ▸ Nat.one_pos))); show (_ + 1) * 1 ≤ 8; rw [Nat.mul_one]; exact h
    | ⟨1, _⟩ => show (0 + 1) * 1024 ≤ 1024; omega
    | ⟨2, _⟩ => show ((BitVec.ofNat 32 (i 1).val).toNat + 1) * 512 ≤ 3584; omega
  · have h := step_lt i
    match a with
    | ⟨0, _⟩ => have h := hE ((Rect.unit (s := S40) (k0_off1 i) S1.size (k0_off1_inb i)).emb (Shape.Idx.first (numel1_S1.symm ▸ Nat.one_pos))); show (_ + 1) * 1 ≤ 8; rw [Nat.mul_one]; exact h
    | ⟨1, _⟩ => show ((BitVec.ofNat 32 (i 1).val).toNat + 1) * 512 ≤ 3584; omega
    | ⟨2, _⟩ => show (0 + 1) * 1024 ≤ 1024; omega

variable (hE : Exist m)

/-! ## The pipeline -/

/-- The pipeline at the tables as launched. -/
def adm : (pcfg0 (F := F)).Adm := ⟨tabs m, tabs_ok hE⟩
abbrev cfgA : Pipeline.Cfg sig Λ₀ := cfg0 (F := F) (adm hE)
abbrev pcs : Fin 1 → Pipeline.Cfg sig Λ₀ := Pipeline.pin (pcfgs (F := F)) fun _ => adm hE

abbrev crd (t : Fin (cfgA hE).N) : (cfgA hE).grid.Coords := (cfgA hE).grid.coords t

theorem flush_out (t : Fin (cfgA hE).N) : ((cfgA hE).win (4 : Fin 5)).flush t = decide (t.val % 7 = 6) :=
  (Pipeline.Window.flush_eq_flushF _ t).trans (lastStep t)

theorem tile_eq (t : Fin (cfgA hE).N) : (crd hE t 0).val = t.val / 7 := (coords_eq t).1
theorem step_eq (t : Fin (cfgA hE).N) : (crd hE t 1).val = t.val % 7 := (coords_eq t).2

theorem idle_out (t : Fin (cfgA hE).N) : (cfgA hE).idle (4 : Fin 5) (crd hE t) = decide (t.val % 7 ≠ 6) := by
  show (!(k0_cond1 (crd hE t) ((tabs m).atD 1 ![0]) == 1#1 && k0_cond3 (crd hE t) == 1#1) && !(k0_cond4 (crd hE t) ((tabs m).atD 1 ![0]) == 1#1)) = _
  rw [atD_eq, Bool.eq_iff_iff]
  have h1 := cond1_iff (crd hE t) (used m)
  have h3 := cond3_iff (crd hE t)
  have h4 := cond4_iff (crd hE t) (used m)
  rw [step_eq] at h3 h4
  simp only [Bool.and_eq_true, Bool.not_eq_true', Bool.and_eq_false_iff, beq_eq_false_iff_ne, ne_eq, decide_eq_true_eq, h1, h3, h4]
  tauto

/-- Each window's current staging memref at point `t`, and its wholeness. -/
abbrev ms0_0 (t : Fin (cfgA hE).N) : Memref sig .tc .vmem S2048x512 .bf16 := spec0_0.stage ((cfgA hE).slots t (0 : Fin 5))
abbrev hs0_0 (t : Fin (cfgA hE).N) : (ms0_0 hE t).IsWhole := hstage0_0 (((cfgA hE).slots t (0 : Fin 5)).cast nbuf0_0)
abbrev ms0_1 (t : Fin (cfgA hE).N) : Memref sig .tc .vmem S1x1024x512 .f32 := spec0_1.stage ((cfgA hE).slots t (1 : Fin 5))
abbrev hs0_1 (t : Fin (cfgA hE).N) : (ms0_1 hE t).IsWhole := hstage0_1 (((cfgA hE).slots t (1 : Fin 5)).cast nbuf0_1)
abbrev ms0_2 (t : Fin (cfgA hE).N) : Memref sig .tc .vmem S1x1024x512 .f32 := spec0_2.stage ((cfgA hE).slots t (2 : Fin 5))
abbrev hs0_2 (t : Fin (cfgA hE).N) : (ms0_2 hE t).IsWhole := hstage0_2 (((cfgA hE).slots t (2 : Fin 5)).cast nbuf0_2)
abbrev ms0_3 (t : Fin (cfgA hE).N) : Memref sig .tc .vmem S1x512x1024 .f32 := spec0_3.stage ((cfgA hE).slots t (3 : Fin 5))
abbrev hs0_3 (t : Fin (cfgA hE).N) : (ms0_3 hE t).IsWhole := hstage0_3 (((cfgA hE).slots t (3 : Fin 5)).cast nbuf0_3)
abbrev ms0_4 (t : Fin (cfgA hE).N) : Memref sig .tc .vmem S2048x512 .bf16 := spec0_4.stage ((cfgA hE).slots t (4 : Fin 5))
abbrev hs0_4 (t : Fin (cfgA hE).N) : (ms0_4 hE t).IsWhole := hstage0_4 (((cfgA hE).slots t (4 : Fin 5)).cast nbuf0_4)

/-- Window `w`'s block at point `t`, read off its array at launch. -/
def iblk (c : Dev nD) (w : Fin (cfgA hE).W) (t : Fin (cfgA hE).N) : (((cfgA hE).win w).xblock (crd hE t)).Idx → Elt F ((cfgA hE).win w).elt :=
  (((cfgA hE).win w).blk t).view.read (Elt F) (m (((cfgA hE).win w).arr.view.loc (c : Thread nD τ)))

/-! ## The values -/

/-- Step `f` of tile `n`, as a point. -/
def pt (n f : ℕ) : Fin (cfgA hE).N := ⟨(7 * n + f) % 280, by have : (cfgA hE).N = 280 := N_0; rw [this]; exact Nat.mod_lt _ (by decide)⟩

theorem pt_eq (t : Fin (cfgA hE).N) : pt hE (t.val / 7) (t.val % 7) = t := by
  have h : t.val < 280 := lt_of_lt_of_eq t.isLt N_0
  exact Fin.ext (show (7 * (t.val / 7) + t.val % 7) % 280 = t.val by omega)

/-- Tile `n`'s rows, unpacked at its first step. -/
def rowsOf (c : Dev nD) (n : ℕ) : Vec F S1024x1024 .bf16 := k0_pay5 (iblk hE c (0 : Fin 5) (pt hE n 0))

/-- Tile `n`'s accumulator before its step `f`. -/
def accOf (c : Dev nD) (n : ℕ) : ℕ → Vec F S1024x1024 .f32
  | 0 => k0_pay4
  | f + 1 => step (rowsOf hE c n) (iblk hE c (1 : Fin 5) (pt hE n f)) (iblk hE c (2 : Fin 5) (pt hE n f)) (iblk hE c (3 : Fin 5) (pt hE n f)) (accOf c n f)

/-- What tile `n` leaves in its output block. -/
def outOf (c : Dev nD) (n : ℕ) : Vec F S2048x512 .bf16 := if InUse (used m) n then k0_pay2 (accOf hE c n 7) else k0_pay3

/-- The invariant before point `t`: within a tile in use, the accumulator and the rows are the tile's. -/
def Phi (c : Dev nD) (t : ℕ) : sProp 𝕄 :=
  iprop(∃ a, ∃ h, ⌜t % 7 ≠ 0 → InUse (used m) (t / 7) → a = accOf hE c (t / 7) (t % 7) ∧ h = rowsOf hE c (t / 7)⌝
    ∗ (accRef.view.loc (c : Thread nD τ) ↦{fullShare} a) ∗ (rowsRef.view.loc (c : Thread nD τ) ↦{fullShare} h)
    ∗ (expertTable.view.loc (c : Thread nD τ) ↦{fullShare.right} expertOf m) ∗ (usedTable.view.loc (c : Thread nD τ) ↦{fullShare.right} usedTab m))

/-- The proof data of the pipeline on core `c`. -/
def dats (_ : Fin 1) (c : Dev nD) : Dat τ (Elt F) Unit ℕ (UR sig nD τ) ℕ (cfgA hE) c where
  A w := m (((cfgA hE).win w).arr.view.loc (c : Thread nD τ))
  after w t := match w with
    | ⟨0, _⟩ => iblk hE c (0 : Fin 5) t
    | ⟨1, _⟩ => iblk hE c (1 : Fin 5) t
    | ⟨2, _⟩ => iblk hE c (2 : Fin 5) t
    | ⟨3, _⟩ => iblk hE c (3 : Fin 5) t
    | ⟨4, _⟩ => outOf hE c (t.val / 7)
  Φ t := Phi hE c t.val
  q _ := fullShare
  owed _ := 0

theorem after0_0 (c : Dev nD) (t : Fin (cfgA hE).N) : (dats hE 0 c).after (0 : Fin 5) t = iblk hE c (0 : Fin 5) t := rfl
theorem after0_1 (c : Dev nD) (t : Fin (cfgA hE).N) : (dats hE 0 c).after (1 : Fin 5) t = iblk hE c (1 : Fin 5) t := rfl
theorem after0_2 (c : Dev nD) (t : Fin (cfgA hE).N) : (dats hE 0 c).after (2 : Fin 5) t = iblk hE c (2 : Fin 5) t := rfl
theorem after0_3 (c : Dev nD) (t : Fin (cfgA hE).N) : (dats hE 0 c).after (3 : Fin 5) t = iblk hE c (3 : Fin 5) t := rfl
theorem after0_4 (c : Dev nD) (t : Fin (cfgA hE).N) : (dats hE 0 c).after (4 : Fin 5) t = outOf hE c (t.val / 7) := rfl

/-- An input's buffer holds the point's block when the body runs. -/
theorem before0_0 (c : Dev nD) (t : Fin (cfgA hE).N) (d) : (dats hE 0 c).before (0 : Fin 5) t d = iblk hE c (0 : Fin 5) t :=
  ((dats hE 0 c).before_in_eq_fetched (0 : Fin 5) rfl (fun _ => rfl) (fun _ _ _ => rfl)
    (fun t => by rw [after0_0]; unfold Dat.blockOf iblk; rfl) t d).trans (by unfold Dat.fetched Dat.blockOf iblk; rfl)
theorem before0_1 (c : Dev nD) (t : Fin (cfgA hE).N) (d) : (dats hE 0 c).before (1 : Fin 5) t d = iblk hE c (1 : Fin 5) t :=
  ((dats hE 0 c).before_in_eq_fetched (1 : Fin 5) rfl (fun _ => rfl) (fun _ _ _ => rfl)
    (fun t => by rw [after0_1]; unfold Dat.blockOf iblk; rfl) t d).trans (by unfold Dat.fetched Dat.blockOf iblk; rfl)
theorem before0_2 (c : Dev nD) (t : Fin (cfgA hE).N) (d) : (dats hE 0 c).before (2 : Fin 5) t d = iblk hE c (2 : Fin 5) t :=
  ((dats hE 0 c).before_in_eq_fetched (2 : Fin 5) rfl (fun _ => rfl) (fun _ _ _ => rfl)
    (fun t => by rw [after0_2]; unfold Dat.blockOf iblk; rfl) t d).trans (by unfold Dat.fetched Dat.blockOf iblk; rfl)
theorem before0_3 (c : Dev nD) (t : Fin (cfgA hE).N) (d) : (dats hE 0 c).before (3 : Fin 5) t d = iblk hE c (3 : Fin 5) t :=
  ((dats hE 0 c).before_in_eq_fetched (3 : Fin 5) rfl (fun _ => rfl) (fun _ _ _ => rfl)
    (fun t => by rw [after0_3]; unfold Dat.blockOf iblk; rfl) t d).trans (by unfold Dat.fetched Dat.blockOf iblk; rfl)

end Cert.Kernel2Ideal.Run

end
-- ==== Proof.Kernel2IdealRun.lean ====
/- THE SECOND KERNEL'S RUN (on rows of bf16 pairs, over any floats): the body's obligation at every point, the launch, and what the arguments and the result hold at the end. -/
module

public import proofs.«01_k».proof.Proof.Kernel2IdealData
public import Idealize.ShloMosaic.Lib.Pipeline.Quiescent
public import Idealize.ShloMosaic.Lib.Claim
public import Idealize.ShloMosaic.Lib.Pipeline.FrameBody
public import Idealize.ShloMosaic.Adequacy
public import Idealize.ShloMosaic.Init

@[expose] public section

set_option maxRecDepth 16384
set_option Elab.async false

noncomputable section

namespace Cert.Kernel2Ideal.Run

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

abbrev EP : Emb (UR sig nD τ) 𝕄 := emb₁

variable {m : (ℓ : Loc nD τ sig) → Buf (Elt F) ℓ} (hE : Exist m)

/-! ## The values from point to point -/

theorem next_point {t : ℕ} (h : (t + 1) % 7 ≠ 0) : (t + 1) / 7 = t / 7 ∧ (t + 1) % 7 = t % 7 + 1 := by omega

theorem acc_next (c : Dev nD) (t : Fin (cfgA hE).N) :
    accOf hE c (t.val / 7) (t.val % 7 + 1)
      = step (rowsOf hE c (t.val / 7)) (iblk hE c (1 : Fin 5) t) (iblk hE c (2 : Fin 5) t) (iblk hE c (3 : Fin 5) t) (accOf hE c (t.val / 7) (t.val % 7)) := by
  show step _ (iblk hE c (1 : Fin 5) (pt hE (t.val / 7) (t.val % 7))) (iblk hE c (2 : Fin 5) (pt hE (t.val / 7) (t.val % 7)))
    (iblk hE c (3 : Fin 5) (pt hE (t.val / 7) (t.val % 7))) _ = _
  rw [pt_eq]

theorem rows_first (c : Dev nD) (t : Fin (cfgA hE).N) (h : t.val % 7 = 0) : rowsOf hE c (t.val / 7) = k0_pay5 (iblk hE c (0 : Fin 5) t) := by
  have e := pt_eq hE t
  rw [h] at e
  unfold rowsOf
  rw [e]

/-! ## The body's obligation -/

abbrev bodyAt0 (t : Fin (cfgA hE).N) : Prog (TpuEff nD τ sig (Elt F) Λ₀ .tc) PUnit :=
  bodyAt (crd hE t) (ms0_0 hE t) (hs0_0 hE t) (ms0_1 hE t) (hs0_1 hE t) (ms0_2 hE t) (hs0_2 hE t) (ms0_3 hE t) (hs0_3 hE t) (ms0_4 hE t) (hs0_4 hE t)

set_option maxHeartbeats 4000000 in
/-- The body at point `t`, by the point's path. -/
theorem sound_body (c : Dev nD) (t : Fin (cfgA hE).N) :
    iprop((dats hE 0 c).Φ t.castSucc ∗ (dats hE 0 c).owesAt () t.castSucc
        ∗ (∃ d, owns (c : Thread nD τ) (ms0_0 hE t) fullShare ((dats hE 0 c).before (0 : Fin 5) t d))
        ∗ (∃ d, owns (c : Thread nD τ) (ms0_1 hE t) fullShare ((dats hE 0 c).before (1 : Fin 5) t d))
        ∗ (∃ d, owns (c : Thread nD τ) (ms0_2 hE t) fullShare ((dats hE 0 c).before (2 : Fin 5) t d))
        ∗ (∃ d, owns (c : Thread nD τ) (ms0_3 hE t) fullShare ((dats hE 0 c).before (3 : Fin 5) t d))
        ∗ (∃ d, owns (c : Thread nD τ) (ms0_4 hE t) fullShare ((dats hE 0 c).before (4 : Fin 5) t d)))
      ⊢ wp frame (wpE (defs₀ (F := F)) Variants.none c none) Set.univ (bodyAt0 hE t) fun _ =>
          iprop((dats hE 0 c).Φ t.succ ∗ (dats hE 0 c).owesAt () t.succ
            ∗ bigSep Finset.univ fun w : Fin (cfgA hE).W =>
                match (cfgA hE).idle w ((cfgA hE).grid.coords t) with
                | true =>
                  match ((cfgA hE).win w).flush t with
                  | false => iprop(∃ d, owns (c : Thread nD τ) (((cfgA hE).win w).stage ((cfgA hE).slots t w)) fullShare ((dats hE 0 c).before w t d))
                  | true => owns (c : Thread nD τ) (((cfgA hE).win w).stage ((cfgA hE).slots t w)) fullShare ((dats hE 0 c).after w t)
                | false => owns (c : Thread nD τ) (((cfgA hE).win w).stage ((cfgA hE).slots t w)) fullShare ((dats hE 0 c).after w t)) := by
  rw [bigSep_W0]
  have hc0 : (crd hE t 0).val = t.val / 7 := tile_eq hE t
  have hc1 : (crd hE t 1).val = t.val % 7 := step_eq hE t
  have e1 := cond1_iff (crd hE t) (used m)
  have e2 := firstTest_iff (crd hE t)
  have e3 := cond3_iff (crd hE t)
  have e4 := cond4_iff (crd hE t) (used m)
  have hw := usedWord_eq m
  rw [hc0] at e1 e4
  rw [hc1] at e2 e3 e4
  rw [← hw] at e1 e4
  rewrite [show (dats hE 0 c).Φ t.succ = Phi hE c (t.val + 1) from rfl, show (dats hE 0 c).Φ t.castSucc = Phi hE c t.val from rfl,
    show (dats hE 0 c).owesAt () t.succ = (dats hE 0 c).owesAt () t.castSucc from rfl]
  by_cases hu : InUse (used m) (t.val / 7)
  · have hu' : k0_cond1 (crd hE t) (usedWord (F := F) (usedTab m)) = 1#1 := e1.2 (hw.symm ▸ hu)
    have h4 : ¬(k0_cond4 (crd hE t) (usedWord (F := F) (usedTab m)) = 1#1) := fun h => (e4.1 h).1 (hw.symm ▸ hu)
    by_cases h0 : t.val % 7 = 0
    · have hf : t.val % 7 ≠ 6 := by omega
      have i4 : (cfgA hE).idle (4 : Fin 5) ((cfgA hE).grid.coords t) = true := (idle_out hE t).trans (decide_eq_true hf)
      have f4 : ((cfgA hE).win (4 : Fin 5)).flush t = false := (flush_out hE t).trans (decide_eq_false hf)
      rewrite [i4]
      simp only [before0_0, before0_1, before0_2, before0_3, after0_0, after0_1, after0_2, after0_3, after0_4, f4]
      unfold Phi
      iintro ⟨⟨%a, %h, %hah, HS0, HS1, HT0, HT1⟩, Ho, ⟨%d0, H0⟩, ⟨%d1, H1⟩, ⟨%d2, H2⟩, ⟨%d3, H3⟩, ⟨%d4, H4⟩⟩
      iapply (body_first c (crd hE t) (ms0_0 hE t) (hs0_0 hE t) (ms0_1 hE t) (hs0_1 hE t) (ms0_2 hE t) (hs0_2 hE t) (ms0_3 hE t) (hs0_3 hE t) (ms0_4 hE t) (hs0_4 hE t) (expertOf m) (usedTab m) (iblk hE c (0 : Fin 5) t) (iblk hE c (1 : Fin 5) t) (iblk hE c (2 : Fin 5) t) (iblk hE c (3 : Fin 5) t) ((dats hE 0 c).before (4 : Fin 5) t d4) _ _ _ hu' (e2.2 h0) (fun h => hf (e3.1 h)) h4)
      unfold Held
      isplitl [H0 H1 H2 H3 HT0 HT1 H4 HS0 HS1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]
        · iexists _; isplitr; swap; · iexact HS0
          ipureintro; rfl
        iexists _; isplitr; swap; · iexact HS1
        ipureintro; rfl
      iintro ⟨H0, H1, H2, H3, HT0, HT1, H4, ⟨%fa, %hfa, HS0⟩, ⟨%fh, %hfh, HS1⟩⟩
      subst hfa hfh
      isplitl [HS0 HS1 HT0 HT1]
      · iexists _, _; isplitr; swap
        · isplitl [HS0]; · iexact HS0
          isplitl [HS1]; · iexact HS1
          isplitl [HT0]; · iexact HT0
          iexact HT1
        · ipureintro; intro hn hu'
          obtain ⟨q1, q2⟩ := next_point hn
          rw [q1] at hu'
          rw [q1, q2, acc_next hE c t, rows_first hE c t h0, h0]
          exact ⟨rfl, rfl⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
    · by_cases hf : t.val % 7 = 6
      · have i4 : (cfgA hE).idle (4 : Fin 5) ((cfgA hE).grid.coords t) = false := (idle_out hE t).trans (decide_eq_false (not_not_intro hf))
        have f4 : ((cfgA hE).win (4 : Fin 5)).flush t = true := (flush_out hE t).trans (decide_eq_true hf)
        rewrite [i4]
        simp only [before0_0, before0_1, before0_2, before0_3, after0_0, after0_1, after0_2, after0_3, after0_4, f4]
        unfold Phi
        iintro ⟨⟨%a, %h, %hah, HS0, HS1, HT0, HT1⟩, Ho, ⟨%d0, H0⟩, ⟨%d1, H1⟩, ⟨%d2, H2⟩, ⟨%d3, H3⟩, ⟨%d4, H4⟩⟩
        obtain ⟨rfl, rfl⟩ := hah (by omega) hu
        iapply (body_last c (crd hE t) (ms0_0 hE t) (hs0_0 hE t) (ms0_1 hE t) (hs0_1 hE t) (ms0_2 hE t) (hs0_2 hE t) (ms0_3 hE t) (hs0_3 hE t) (ms0_4 hE t) (hs0_4 hE t) (expertOf m) (usedTab m) (iblk hE c (0 : Fin 5) t) (iblk hE c (1 : Fin 5) t) (iblk hE c (2 : Fin 5) t) (iblk hE c (3 : Fin 5) t) ((dats hE 0 c).before (4 : Fin 5) t d4) _ _ _ hu' (fun h => h0 (e2.1 h)) (e3.2 hf) h4)
        unfold Held
        isplitl [H0 H1 H2 H3 HT0 HT1 H4 HS0 HS1]
        · isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [HT1]; · iexact HT1
          isplitl [H4]; · iexact H4
          isplitl [HS0]
          · iexists _; isplitr; swap; · iexact HS0
            ipureintro; rfl
          iexists _; isplitr; swap; · iexact HS1
          ipureintro; rfl
        iintro ⟨H0, H1, H2, H3, HT0, HT1, H4, ⟨%fa, %hfa, HS0⟩, ⟨%fh, %hfh, HS1⟩⟩
        subst hfa hfh
        isplitl [HS0 HS1 HT0 HT1]
        · iexists _, _; isplitr; swap
          · isplitl [HS0]; · iexact HS0
            isplitl [HS1]; · iexact HS1
            isplitl [HT0]; · iexact HT0
            iexact HT1
          · ipureintro; intro hn hu'
            obtain ⟨q1, q2⟩ := next_point hn
            rw [q1] at hu'
            exact absurd hn (by omega)
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        have ho : outOf hE c (t.val / 7) = k0_pay2 (accOf hE c (t.val / 7) 7) := if_pos hu
        rw [ho]
        have ha := acc_next hE c t
        rw [hf] at ha
        rw [ha]
        rw [hf]
        iexact H4
      · have i4 : (cfgA hE).idle (4 : Fin 5) ((cfgA hE).grid.coords t) = true := (idle_out hE t).trans (decide_eq_true hf)
        have f4 : ((cfgA hE).win (4 : Fin 5)).flush t = false := (flush_out hE t).trans (decide_eq_false hf)
        rewrite [i4]
        simp only [before0_0, before0_1, before0_2, before0_3, after0_0, after0_1, after0_2, after0_3, after0_4, f4]
        unfold Phi
        iintro ⟨⟨%a, %h, %hah, HS0, HS1, HT0, HT1⟩, Ho, ⟨%d0, H0⟩, ⟨%d1, H1⟩, ⟨%d2, H2⟩, ⟨%d3, H3⟩, ⟨%d4, H4⟩⟩
        obtain ⟨rfl, rfl⟩ := hah (by omega) hu
        iapply (body_middle c (crd hE t) (ms0_0 hE t) (hs0_0 hE t) (ms0_1 hE t) (hs0_1 hE t) (ms0_2 hE t) (hs0_2 hE t) (ms0_3 hE t) (hs0_3 hE t) (ms0_4 hE t) (hs0_4 hE t) (expertOf m) (usedTab m) (iblk hE c (0 : Fin 5) t) (iblk hE c (1 : Fin 5) t) (iblk hE c (2 : Fin 5) t) (iblk hE c (3 : Fin 5) t) ((dats hE 0 c).before (4 : Fin 5) t d4) _ _ _ hu' (fun h => h0 (e2.1 h)) (fun h => hf (e3.1 h)) h4)
        unfold Held
        isplitl [H0 H1 H2 H3 HT0 HT1 H4 HS0 HS1]
        · isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [HT1]; · iexact HT1
          isplitl [H4]; · iexact H4
          isplitl [HS0]
          · iexists _; isplitr; swap; · iexact HS0
            ipureintro; rfl
          iexists _; isplitr; swap; · iexact HS1
          ipureintro; rfl
        iintro ⟨H0, H1, H2, H3, HT0, HT1, H4, ⟨%fa, %hfa, HS0⟩, ⟨%fh, %hfh, HS1⟩⟩
        subst hfa hfh
        isplitl [HS0 HS1 HT0 HT1]
        · iexists _, _; isplitr; swap
          · isplitl [HS0]; · iexact HS0
            isplitl [HS1]; · iexact HS1
            isplitl [HT0]; · iexact HT0
            iexact HT1
          · ipureintro; intro hn hu'
            obtain ⟨q1, q2⟩ := next_point hn
            rw [q1] at hu'
            rw [q1, q2, acc_next hE c t]
            exact ⟨rfl, rfl⟩
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        iexists d4; iexact H4
  · have hu1 : ¬(k0_cond1 (crd hE t) (usedWord (F := F) (usedTab m)) = 1#1) := fun h => hu (hw ▸ e1.1 h)
    by_cases hf : t.val % 7 = 6
    · have i4 : (cfgA hE).idle (4 : Fin 5) ((cfgA hE).grid.coords t) = false := (idle_out hE t).trans (decide_eq_false (not_not_intro hf))
      have f4 : ((cfgA hE).win (4 : Fin 5)).flush t = true := (flush_out hE t).trans (decide_eq_true hf)
      rewrite [i4]
      simp only [before0_0, before0_1, before0_2, before0_3, after0_0, after0_1, after0_2, after0_3, after0_4, f4]
      unfold Phi
      iintro ⟨⟨%a, %h, %hah, HS0, HS1, HT0, HT1⟩, Ho, ⟨%d0, H0⟩, ⟨%d1, H1⟩, ⟨%d2, H2⟩, ⟨%d3, H3⟩, ⟨%d4, H4⟩⟩
      iapply (body_zero c (crd hE t) (ms0_0 hE t) (hs0_0 hE t) (ms0_1 hE t) (hs0_1 hE t) (ms0_2 hE t) (hs0_2 hE t) (ms0_3 hE t) (hs0_3 hE t) (ms0_4 hE t) (hs0_4 hE t) (expertOf m) (usedTab m) (iblk hE c (0 : Fin 5) t) (iblk hE c (1 : Fin 5) t) (iblk hE c (2 : Fin 5) t) (iblk hE c (3 : Fin 5) t) ((dats hE 0 c).before (4 : Fin 5) t d4) _ _ _ hu1 (e4.2 ⟨fun h => hu (hw ▸ h), hf⟩))
      unfold Held
      isplitl [H0 H1 H2 H3 HT0 HT1 H4 HS0 HS1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]
        · iexists _; isplitr; swap; · iexact HS0
          ipureintro; rfl
        iexists _; isplitr; swap; · iexact HS1
        ipureintro; rfl
      iintro ⟨H0, H1, H2, H3, HT0, HT1, H4, ⟨%fa, %hfa, HS0⟩, ⟨%fh, %hfh, HS1⟩⟩
      subst hfa hfh
      isplitl [HS0 HS1 HT0 HT1]
      · iexists _, _; isplitr; swap
        · isplitl [HS0]; · iexact HS0
          isplitl [HS1]; · iexact HS1
          isplitl [HT0]; · iexact HT0
          iexact HT1
        · ipureintro; intro hn hu'
          obtain ⟨q1, q2⟩ := next_point hn
          rw [q1] at hu'
          exact absurd hu' hu
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      have ho : outOf hE c (t.val / 7) = k0_pay3 := if_neg hu
      rw [ho]
      iexact H4
    · have i4 : (cfgA hE).idle (4 : Fin 5) ((cfgA hE).grid.coords t) = true := (idle_out hE t).trans (decide_eq_true hf)
      have f4 : ((cfgA hE).win (4 : Fin 5)).flush t = false := (flush_out hE t).trans (decide_eq_false hf)
      rewrite [i4]
      simp only [before0_0, before0_1, before0_2, before0_3, after0_0, after0_1, after0_2, after0_3, after0_4, f4]
      unfold Phi
      iintro ⟨⟨%a, %h, %hah, HS0, HS1, HT0, HT1⟩, Ho, ⟨%d0, H0⟩, ⟨%d1, H1⟩, ⟨%d2, H2⟩, ⟨%d3, H3⟩, ⟨%d4, H4⟩⟩
      iapply (body_idle c (crd hE t) (ms0_0 hE t) (hs0_0 hE t) (ms0_1 hE t) (hs0_1 hE t) (ms0_2 hE t) (hs0_2 hE t) (ms0_3 hE t) (hs0_3 hE t) (ms0_4 hE t) (hs0_4 hE t) (expertOf m) (usedTab m) (iblk hE c (0 : Fin 5) t) (iblk hE c (1 : Fin 5) t) (iblk hE c (2 : Fin 5) t) (iblk hE c (3 : Fin 5) t) ((dats hE 0 c).before (4 : Fin 5) t d4) _ _ _ hu1 (fun h => hf (e4.1 h).2))
      unfold Held
      isplitl [H0 H1 H2 H3 HT0 HT1 H4 HS0 HS1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]
        · iexists _; isplitr; swap; · iexact HS0
          ipureintro; rfl
        iexists _; isplitr; swap; · iexact HS1
        ipureintro; rfl
      iintro ⟨H0, H1, H2, H3, HT0, HT1, H4, ⟨%fa, %hfa, HS0⟩, ⟨%fh, %hfh, HS1⟩⟩
      subst hfa hfh
      isplitl [HS0 HS1 HT0 HT1]
      · iexists _, _; isplitr; swap
        · isplitl [HS0]; · iexact HS0
          isplitl [HS1]; · iexact HS1
          isplitl [HT0]; · iexact HT0
          iexact HT1
        · ipureintro; intro hn hu'
          obtain ⟨q1, q2⟩ := next_point hn
          rw [q1] at hu'
          exact absurd hu' hu
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4

/-- The pipeline's obligation, at every point. -/
theorem body_obligation (c : Dev nD) : BodyObligation (dats hE 0 c) (defs₀ (F := F)) Variants.none () Set.univ := fun t => by
  rw [bigSep_W0]
  exact sound_body hE c t

/-! ## The launch -/

/-- The launch's ghost element. -/
def u₀ : UR sig nD τ :=
  initOf (Pipeline.cells (pcs hE) ((launch0 (F := F)).cellOf_inj fun _ => adm hE))
    (Pipeline.launchToks (pcs hE) ((launch0 (F := F)).cellOf_inj fun _ => adm hE))

theorem share_eq (c : Dev nD) (w : Fin (cfgA hE).W) : (dats hE 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point: the scratch arrays at anything. -/
theorem phi_first (c : Dev nD) :
    iprop(BI.emp ∗ Pipeline.prefHeld pre0 c (fun _ => fullShare.right) (adm hE).1 ∗ Pipeline.scopedRest spec0 c) ⊢ (dats hE 0 c).Φ 0 := by
  rw [prefHeld_eq, scopedRest0_eq, show (dats hE 0 c).Φ 0 = Phi hE c 0 from rfl]
  unfold Phi
  iintro ⟨-, ⟨HT0, HT1⟩, ⟨%a0, HS0⟩, ⟨%a1, HS1⟩⟩
  iexists a0, a1; isplitr; swap
  · isplitl [HS0]; · iexact HS0
    isplitl [HS1]; · iexact HS1
    isplitl [HT0]; · iexact HT0
    iexact HT1
  · ipureintro; intro h; exact absurd rfl h

/-- The scratch arrays handed back at the end. -/
theorem phi_last (c : Dev nD) : (dats hE 0 c).Φ (Fin.last (cfgA hE).N) ⊢ iprop(BI.emp ∗ Pipeline.scopedRest spec0 c) := by
  rw [scopedRest0_eq, show (dats hE 0 c).Φ (Fin.last (cfgA hE).N) = Phi hE c (cfgA hE).N from rfl]
  unfold Phi
  iintro ⟨%a0, %a1, -, HS0, HS1, -, -⟩
  isplitr; · iempintro
  isplitl [HS0]
  · iexists a0; iexact HS0
  iexists a1; iexact HS1

variable (ρ : Dev nD → PrngReg)

/-- At the end: every array at the pipeline's contents, every table as launched. -/
def QC : PUnit × MemSt nD τ sig (Elt F) → Prop := fun r =>
  ∀ c : Dev nD, (∀ w : Fin (cfgA hE).W, r.2.mem (((cfgA hE).win w).arr.view.loc (c : Thread nD τ)) = (dats hE 0 c).arrAt w (cfgA hE).N)
    ∧ ∀ j, r.2.mem ((c : Thread nD τ).loc (pre0.ref j)) = (adm hE).1 j

theorem tabs_at (c : Dev nD) (j : Fin 2) : m ((c : Thread nD τ).loc (pre0.ref j)) = (adm hE).1 j := by
  obtain rfl : c = core := Subsingleton.elim _ _
  rfl

set_option backward.isDefEq.respectTransparency.types false in
set_option maxHeartbeats 4000000 in
/-- Every weakly fair execution ends, with every array at the pipeline's contents and every counter at zero. -/
theorem run_main : θ_run (defs (F := F)) (onTc (τ := τ) (main (F := F))) ⟨m, fun _ => 0, ρ⟩ (fun r => QC hE r ∧ r.2.sem = fun _ => 0) :=
  Pipeline.θ_run_region_noSem_pf_quiescent pcfgs (fun _ => adm hE) (dats hE) () ((launch0 (F := F)).cellOf_inj fun _ => adm hE) (0 : Fin 1)
    (launch0 (F := F)).win.to₀ (launch0 (F := F)).pre EP defs₀ Variants.none m ρ main
    (hbody := fun c => (body_obligation hE c).loose) (hne := (launch0 (F := F)).block_pos)
    (harr := (launch0 (F := F)).arr_whole) (hstage := (launch0 (F := F)).stage_whole) (howed := fun _ _ => rfl)
    (u₀ := u₀ hE) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hE) (dats hE) 0 (launch0 (F := F)).win.arr_inj c (launch0 (F := F)).arr_whole
      (share_eq hE c) _ _ fun _ => rfl)
    (hpf := tabs_at hE)
    (X := fun _ => iprop(emp)) (Y := fun _ => iprop(emp)) (Z := fun _ => iprop(emp))
    (hX := fun c => by rw [unscopedRestP0_eq]; iintro -; isplitr <;> iempintro)
    (hin := phi_first hE)
    (hout := phi_last hE)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-! ## The result and the arguments -/

/-- The result: each tile's rows at what the tile leaves. -/
def result (c : Dev nD) : S81920x512.Idx → Elt F .bf16 := fun i =>
  outOf hE c ((i 0).val / 2048) (fun a => match a with
    | ⟨0, _⟩ => ⟨(i 0).val % 2048, Nat.mod_lt _ (by decide)⟩
    | ⟨1, _⟩ => ⟨(i 1).val, (i 1).isLt⟩)

theorem out_index (t : Fin (cfgA hE).N) : ((cfgA hE).win (4 : Fin 5)).index t = ![t.val / 7, 0] := by
  have h : ∀ t : Fin grid0.N, cc0_transform_4 (grid0.coords t) = ![t.val / 7, 0] := by decide +kernel
  exact h t

/-- A point's output block is its tile's rows of the result. -/
theorem out_block (c : Dev nD) (t : Fin (cfgA hE).N) :
    (dats hE 0 c).flushed (4 : Fin 5) t = (((cfgA hE).win (4 : Fin 5)).blk t).view.read (Elt F) (result hE c) := by
  show ((cfgA hE).win (4 : Fin 5)).cut (crd hE t) ((dats hE 0 c).after (4 : Fin 5) t) = _
  rw [after0_4]
  have hi := out_index hE t
  funext j
  rw [View.read_apply]
  show outOf hE c (t.val / 7) _ = outOf hE c (_ / 2048) _
  have hj0 : (j 0).val < 2048 := (j 0).isLt
  have e0 : ((((cfgA hE).win (4 : Fin 5)).blk t).view.emb j 0).val = 2048 * (t.val / 7) + (j 0).val := by
    show ((cfgA hE).win (4 : Fin 5)).index t 0 * 2048 + 1 * (j 0).val = _
    rw [hi]; show t.val / 7 * 2048 + _ = _; omega
  have e1 : ((((cfgA hE).win (4 : Fin 5)).blk t).view.emb j 1).val = (j 1).val := by
    show ((cfgA hE).win (4 : Fin 5)).index t 1 * 512 + 1 * (j 1).val = _
    rw [hi]; show 0 * 512 + _ = _; omega
  have hn : ((((cfgA hE).win (4 : Fin 5)).blk t).view.emb j 0).val / 2048 = t.val / 7 := by rw [e0]; omega
  have hm : ((((cfgA hE).win (4 : Fin 5)).blk t).view.emb j 0).val % 2048 = (j 0).val := by rw [e0]; omega
  refine congr (congrArg _ hn.symm) (funext fun a => Fin.ext ?_)
  match a with
  | ⟨0, _⟩ => exact hm.symm
  | ⟨1, _⟩ => exact e1.symm

/-- The result array ends at the result: the tiles' last steps cover it. -/
theorem final_out (c : Dev nD) : (dats hE 0 c).arrAt (4 : Fin 5) (cfgA hE).N = result hE c := by
  refine (dats hE 0 c).arrAt_eq_of_cover (4 : Fin 5) (result hE c) (fun t _ => out_block hE c t) fun i => ?_
  have h0 : (i 0 : Nat) < 81920 := (i 0).isLt
  have h1 : (i 1 : Nat) < 512 := (i 1).isLt
  have hN : (cfgA hE).N = 280 := N_0
  have hv : (pt hE ((i 0 : Nat) / 2048) 6).val = 7 * ((i 0 : Nat) / 2048) + 6 := Nat.mod_eq_of_lt (by omega)
  refine ⟨pt hE ((i 0 : Nat) / 2048) 6, (flush_out hE _).trans (decide_eq_true (by rw [hv]; omega)), ?_⟩
  show (show ((View.whole main_v0).slice (((cfgA hE).win 4).rect (pt hE (((show S81920x512.Idx from i) 0).val / 2048) 6))).ty.Idx from i) ∈ ((View.whole main_v0).slice (((cfgA hE).win (4 : Fin 5)).rect (pt hE ((i 0 : Nat) / 2048) 6))).set
  rw [View.set_slice_whole, Rect.mem_set_unit]
  have hi := out_index hE (pt hE ((i 0 : Nat) / 2048) 6)
  have hq : (7 * ((i 0 : Nat) / 2048) + 6) / 7 = (i 0 : Nat) / 2048 := by omega
  rw [hv, hq] at hi
  intro a
  match a with
  | ⟨0, _⟩ =>
    show ((cfgA hE).win (4 : Fin 5)).index _ 0 * 2048 ≤ (i 0 : Nat) ∧ (i 0 : Nat) < ((cfgA hE).win (4 : Fin 5)).index _ 0 * 2048 + 2048
    rw [hi]; show (i 0 : Nat) / 2048 * 2048 ≤ _ ∧ _ < (i 0 : Nat) / 2048 * 2048 + 2048; omega
  | ⟨1, _⟩ =>
    show ((cfgA hE).win (4 : Fin 5)).index _ 1 * 512 ≤ (i 1 : Nat) ∧ (i 1 : Nat) < ((cfgA hE).win (4 : Fin 5)).index _ 1 * 512 + 512
    rw [hi]; show 0 * 512 ≤ _ ∧ _ < 0 * 512 + 512; omega

/-- The whole run: the result at every tile's value, the arguments unchanged, the counters at zero. -/
theorem run : θ_run (defs (F := F)) (onTc (τ := τ) (main (F := F))) ⟨m, fun _ => 0, ρ⟩ (fun r => (∀ c : Dev nD,
      r.2.mem ((c.tc : Thread nD τ).loc main_v0) = result hE c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 (4 : Fin 5)).trans (final_out hE c),
    ((h.1 c).1 (0 : Fin 5)).trans ((dats hE 0 c).arrAt_in (0 : Fin 5) rfl _), ((h.1 c).2 0).trans (tabs_at hE c 0).symm,
    ((h.1 c).2 1).trans (tabs_at hE c 1).symm, ((h.1 c).1 (1 : Fin 5)).trans ((dats hE 0 c).arrAt_in (1 : Fin 5) rfl _),
    ((h.1 c).1 (2 : Fin 5)).trans ((dats hE 0 c).arrAt_in (2 : Fin 5) rfl _), ((h.1 c).1 (3 : Fin 5)).trans ((dats hE 0 c).arrAt_in (3 : Fin 5) rfl _)⟩, h.2⟩)
    (run_main hE ρ)

end Cert.Kernel2Ideal.Run

end
-- ==== Proof.Pairs.lean ====
/- ONE EXPERT'S ROWS, over the extended reals: the terms that the second kernel adds up by steps and the second reference at once. -/
module

public import Idealize.ShloMosaic.Lib.Pointwise

@[expose] public section

noncomputable section

namespace Cert.Pairs

open Idealize.ShloMosaic

/-- The gated unit of two products. -/
def glu (a b : EReal) : EReal := Ideal.div a (1 + Ideal.exp (-a)) * b

theorem exp_nonneg (a : EReal) : 0 ≤ Ideal.exp a := by
  induction a with
  | bot => exact le_rfl
  | top => exact le_top
  | coe r => exact EReal.coe_nonneg.2 (Real.exp_pos r).le

theorem glu_eq (a b : EReal) : a * Ideal.div 1 (1 + Ideal.exp (-a)) * b = glu a b := by
  have h : (1 + Ideal.exp (-a) : EReal) ≠ 0 := by
    have h1 : (1 : EReal) ≤ 1 + Ideal.exp (-a) := le_add_of_nonneg_right (exp_nonneg _)
    intro h0
    rw [h0] at h1
    exact absurd h1 (by norm_num)
  unfold glu Ideal.div
  rw [if_neg h, if_neg h, one_mul]

/-- Entry `q` of unpacked row `r`: the even packed row's columns, then the odd one's. -/
def rowAt (x : (⟨2, ![81920, 512]⟩ : Shape).Idx → EReal) (r : Fin 40960) (q : Fin 1024) : EReal :=
  x (ix2 ⟨2 * r.val + q.val / 512, by omega⟩ ⟨q.val % 512, by omega⟩)

/-- What inner column `k` of expert `e` adds to entry `c` of row `r`. -/
def unit (x : (⟨2, ![81920, 512]⟩ : Shape).Idx → EReal) (g u : (⟨3, ![8, 1024, 3584]⟩ : Shape).Idx → EReal) (d : (⟨3, ![8, 3584, 1024]⟩ : Shape).Idx → EReal)
    (e : Fin 8) (r : Fin 40960) (c : Fin 1024) (k : Fin 3584) : EReal :=
  glu (∑ q : Fin 1024, rowAt x r q * g (ix3 e q k)) (∑ q : Fin 1024, rowAt x r q * u (ix3 e q k)) * d (ix3 e k c)

end Cert.Pairs

end
-- ==== Proof.PairsPoint.lean ====
/- THE SECOND KERNEL'S PAYLOADS AT AN INDEX, over the extended reals. -/
module

public import proofs.«01_k».proof.Proof.Kernel2IdealBody
public import proofs.«01_k».proof.Proof.Pairs

@[expose] public section

set_option maxRecDepth 16384
set_option Elab.async false

noncomputable section

namespace Cert.Pairs

open Cert.Kernel2Ideal Cert.Kernel2Ideal.Gen Cert.Kernel2Ideal.Run
open Idealize.ShloMosaic

theorem pay6_apply (h : Vec Ideal S1024x1024 .bf16) (g u : Vec Ideal S1x1024x256 .f32) (a : Vec Ideal S1024x1024 .f32) (d : Vec Ideal S1x256x1024 .f32)
    (r c : Fin 1024) :
    k0_pay6 (F := Ideal) h g u a d (ix2 r c)
      = a (ix2 r c) + ∑ k : Fin 256, glu (∑ q : Fin 1024, h (ix2 r q) * g (ix3 0 q k)) (∑ q : Fin 1024, h (ix2 r q) * u (ix3 0 q k)) * d (ix3 0 k c) := by
  pointwise [k0_pay6, glu]
  simp only [sub_eq_add_neg, zero_add]

theorem pay1_apply (h : Vec Ideal S1024x1024 .bf16) (g u : Vec Ideal S1x1024x256 .f32) (a : Vec Ideal S1024x1024 .f32) (d : Vec Ideal S1x256x1024 .f32)
    (r c : Fin 1024) :
    k0_pay1 (F := Ideal) h (k0_pay7 g) (constant S1024x256 .f32 0x00000000#32) u a d (ix2 r c)
      = a (ix2 r c) + ∑ k : Fin 256, glu (∑ q : Fin 1024, h (ix2 r q) * g (ix3 0 q k)) (∑ q : Fin 1024, h (ix2 r q) * u (ix3 0 q k)) * d (ix3 0 k c) :=
  pay6_apply h g u a d r c

theorem pay5_apply (x : Vec Ideal S2048x512 .bf16) (r q : Fin 1024) :
    k0_pay5 (F := Ideal) x (ix2 r q) = x (ix2 ⟨2 * r.val + q.val / 512, by omega⟩ ⟨q.val % 512, by omega⟩) := by
  pointwise [k0_pay5]
  split
  · rename_i h
    congr 2 <;> exact Fin.ext (by simp only []; omega)
  · rename_i h
    congr 2 <;> exact Fin.ext (by simp only []; omega)

theorem pay2_apply (a : Vec Ideal S1024x1024 .f32) (r : Fin 2048) (c : Fin 512) :
    k0_pay2 (F := Ideal) a (ix2 r c) = a (ix2 ⟨r.val / 2, by omega⟩ ⟨r.val % 2 * 512 + c.val, by omega⟩) := by
  pointwise [k0_pay2]
  split
  · rename_i h
    congr 2; exact Fin.ext (by simp only []; omega)
  · rename_i h
    congr 2; exact Fin.ext (by simp only []; omega)

theorem pay3_apply (i : S2048x512.Idx) : k0_pay3 (F := Ideal) i = 0 := by
  pointwise [k0_pay3]

theorem pay4_apply (i : S1024x1024.Idx) : k0_pay4 (F := Ideal) i = 0 := by
  pointwise [k0_pay4]

/-- One step adds its 512 columns. -/
theorem step_apply (h : Vec Ideal S1024x1024 .bf16) (x1 x2 : Vec Ideal S1x1024x512 .f32) (x3 : Vec Ideal S1x512x1024 .f32) (a : Vec Ideal S1024x1024 .f32)
    (r c : Fin 1024) :
    step (F := Ideal) h x1 x2 x3 a (ix2 r c)
      = a (ix2 r c) + ∑ k : Fin 512, glu (∑ q : Fin 1024, h (ix2 r q) * x1 (ix3 0 q k)) (∑ q : Fin 1024, h (ix2 r q) * x2 (ix3 0 q k)) * x3 (ix3 0 k c) := by
  have fc : ∀ (x : Vec Ideal S1x1024x512 .f32) (q : Fin 1024) (k : Fin 256), firstCols (F := Ideal) x (ix3 0 q k) = x (ix3 0 q ⟨k.val, by omega⟩) :=
    fun x q k => congrArg x (funext fun a => Fin.ext (by
      match a with
      | ⟨0, _⟩ => rfl
      | ⟨1, _⟩ => exact (Nat.zero_add _).trans (Nat.one_mul _)
      | ⟨2, _⟩ => exact (Nat.zero_add _).trans (Nat.one_mul _)))
  have lc : ∀ (x : Vec Ideal S1x1024x512 .f32) (q : Fin 1024) (k : Fin 256), lastCols (F := Ideal) x (ix3 0 q k) = x (ix3 0 q ⟨256 + k.val, by omega⟩) :=
    fun x q k => congrArg x (funext fun a => Fin.ext (by
      match a with
      | ⟨0, _⟩ => rfl
      | ⟨1, _⟩ => exact (Nat.zero_add _).trans (Nat.one_mul _)
      | ⟨2, _⟩ => exact congrArg (256 + ·) (Nat.one_mul _)))
  have fr : ∀ (x : Vec Ideal S1x512x1024 .f32) (k : Fin 256) (q : Fin 1024), firstRows (F := Ideal) x (ix3 0 k q) = x (ix3 0 ⟨k.val, by omega⟩ q) :=
    fun x q k => congrArg x (funext fun a => Fin.ext (by
      match a with
      | ⟨0, _⟩ => rfl
      | ⟨1, _⟩ => exact (Nat.zero_add _).trans (Nat.one_mul _)
      | ⟨2, _⟩ => exact (Nat.zero_add _).trans (Nat.one_mul _)))
  have lr : ∀ (x : Vec Ideal S1x512x1024 .f32) (k : Fin 256) (q : Fin 1024), lastRows (F := Ideal) x (ix3 0 k q) = x (ix3 0 ⟨256 + k.val, by omega⟩ q) :=
    fun x q k => congrArg x (funext fun a => Fin.ext (by
      match a with
      | ⟨0, _⟩ => rfl
      | ⟨1, _⟩ => exact congrArg (256 + ·) (Nat.one_mul _)
      | ⟨2, _⟩ => exact (Nat.zero_add _).trans (Nat.one_mul _)))
  unfold step
  rw [pay1_apply, pay6_apply, add_assoc, Fin.sum_univ_two_halves 256 256 rfl]
  simp only [fc, lc, fr, lr]

end Cert.Pairs

end
-- ==== Proof.PairsReference.lean ====
/- THE SECOND REFERENCE'S RESULT AT AN INDEX, over the extended reals: of the eight experts' masked rows one is left. -/
module

public import proofs.«01_k».proof.Proof.Gen.Reference2Ideal.Run
public import proofs.«01_k».proof.Proof.Pairs

@[expose] public section

set_option maxRecDepth 16384
set_option Elab.async false

noncomputable section

namespace Cert.PairsRef

open Cert.Reference2Ideal Cert.Reference2Ideal.Gen
open Idealize.ShloMosaic
open Idealize.ShloMosaic.StableHlo
open Cert.Pairs

theorem rows_apply (x : FVec Ideal S81920x512 .bf16) (r : Fin 40960) (q : Fin 1024) :
    shapeCast S40960x1024 (extf .f32 x bitsLt_bf16_f32) shapeCasts_S81920x512_S40960x1024 (ix2 r q)
      = rowAt x r q := by
  pointwise [rowAt]
  congr 2; exact Fin.ext (by simp only []; omega)

/-- The rows of expert `e`, masked. -/
def term (x : FVec Ideal S40960x1024 .f32) (te : IVec S40960x1 32) (us : IVec S40960x1 1) (g u : FVec Ideal S8x1024x3584 .f32) (d : FVec Ideal S8x3584x1024 .f32)
    (e : ℕ) (hg : S8x1024x3584.Slices ![e, 0, 0] S1x1024x3584) (hd : S8x3584x1024.Slices ![e, 0, 0] S1x3584x1024) (w : BitVec 32) : FVec Ideal S40960x1024 .f32 :=
  have p := Host.dotGeneral dot_S40960x1024_S1024x3584_S40960x3584_1_0_0_1_n_n none x (shapeCast S1024x3584 (extractStridedSlice S1x1024x3584 ![e, 0, 0] g hg) shapeCasts_S1x1024x3584_S1024x3584)
  have q := Host.dotGeneral dot_S40960x1024_S1024x3584_S40960x3584_1_0_0_1_n_n none x (shapeCast S1024x3584 (extractStridedSlice S1x1024x3584 ![e, 0, 0] u hg) shapeCasts_S1x1024x3584_S1024x3584)
  have one := broadcastInDim S40960x3584 ![] bcast_S_S40960x3584 (constant (F := Ideal) S_ .f32 0x3F800000#32)
  select (broadcastInDim S40960x1024 ![0, 1] bcast_S40960x1_S40960x1024_0_1 (andi us (cmpi .eq te (broadcastInDim S40960x1 ![] bcast_S_S40960x1 (constantI S_ 32 w)))))
    (Host.dotGeneral dot_S40960x3584_S3584x1024_S40960x1024_1_0_0_1_n_n none (mulf (mulf p (Host.divf one (addf one (Host.exp (Host.negf p))))) q)
      (shapeCast S3584x1024 (extractStridedSlice S1x3584x1024 ![e, 0, 0] d hd) shapeCasts_S1x3584x1024_S3584x1024))
    (broadcastInDim S40960x1024 ![] bcast_S_S40960x1024 (id (constant S_ .f32 0x00000000#32)))

theorem term_apply (x : FVec Ideal S40960x1024 .f32) (te : IVec S40960x1 32) (us : IVec S40960x1 1) (g u : FVec Ideal S8x1024x3584 .f32) (d : FVec Ideal S8x3584x1024 .f32)
    (e : ℕ) (hg : S8x1024x3584.Slices ![e, 0, 0] S1x1024x3584) (hd : S8x3584x1024.Slices ![e, 0, 0] S1x3584x1024) (w : BitVec 32) (he : e < 8) (r : Fin 40960) (c : Fin 1024) :
    term x te us g u d e hg hd w (ix2 r c)
      = Scalar.select (Scalar.andi (us (ix2 r 0)) (Scalar.cmpi .eq (te (ix2 r 0)) w))
          (∑ k : Fin 3584, glu (∑ q : Fin 1024, x (ix2 r q) * g (ix3 ⟨e, he⟩ q k)) (∑ q : Fin 1024, x (ix2 r q) * u (ix3 ⟨e, he⟩ q k)) * d (ix3 ⟨e, he⟩ k c)) 0 := by
  pointwise [term]
  simp only [glu_eq, id_eq, ValueIdx.constant_apply, Ideal.ofBits_zero_f32]
  rfl

theorem mask_apply (t : IVec S40 32) (r : Fin 40960) :
  shapeCast S40960x1 (broadcastInDim S40x1024 ![0, 1] bcast_S40x1_S40x1024_0_1 (broadcastInDim S40x1 ![0] bcast_S40_S40x1_0 t)) shapeCasts_S40x1024_S40960x1 (ix2 r 0)
    = t (ix1 ⟨r.val / 1024, by omega⟩) := by
  pointwise

theorem used_apply (n : IVec S1 32) (r : Fin 40960) :
  shapeCast S40960x1 (broadcastInDim S40x1024 ![0, 1] bcast_S40x1_S40x1024_0_1 (broadcastInDim S40x1 ![0] bcast_S40_S40x1_0 (cmpi .slt (iotaInDim S40 32 0) (broadcastInDim S40 ![0] bcast_S1_S40_0 n)))) shapeCasts_S40x1024_S40960x1 (ix2 r 0)
    = Scalar.cmpi .slt (BitVec.ofNat 32 (r.val / 1024)) (n (ix1 0)) := by
  pointwise
  rfl

/-- The sum over the experts, as a sum of masked terms. -/
theorem sum_eq (V : Valuation τ sig (Elt Ideal)) : Cert.Reference2Ideal.Value.res_main_v139 V =
   addf (addf (addf (addf (addf (addf (addf (addf (broadcastInDim S40960x1024 ![] bcast_S_S40960x1024 (constant S_ .f32 0x00000000#32))
     (term (Value.res_main_v1 V) (Value.res_main_v4 V) (Value.res_main_v10 V) (V (Proc.devRef .tc main_arg3)) (V (Proc.devRef .tc main_arg4)) (V (Proc.devRef .tc main_arg5)) 0 slices_S8x1024x3584_S1x1024x3584_0_0_0 slices_S8x3584x1024_S1x3584x1024_0_0_0 0#32))
     (term (Value.res_main_v1 V) (Value.res_main_v4 V) (Value.res_main_v10 V) (V (Proc.devRef .tc main_arg3)) (V (Proc.devRef .tc main_arg4)) (V (Proc.devRef .tc main_arg5)) 1 slices_S8x1024x3584_S1x1024x3584_1_0_0 slices_S8x3584x1024_S1x3584x1024_1_0_0 1#32))
     (term (Value.res_main_v1 V) (Value.res_main_v4 V) (Value.res_main_v10 V) (V (Proc.devRef .tc main_arg3)) (V (Proc.devRef .tc main_arg4)) (V (Proc.devRef .tc main_arg5)) 2 slices_S8x1024x3584_S1x1024x3584_2_0_0 slices_S8x3584x1024_S1x3584x1024_2_0_0 2#32))
     (term (Value.res_main_v1 V) (Value.res_main_v4 V) (Value.res_main_v10 V) (V (Proc.devRef .tc main_arg3)) (V (Proc.devRef .tc main_arg4)) (V (Proc.devRef .tc main_arg5)) 3 slices_S8x1024x3584_S1x1024x3584_3_0_0 slices_S8x3584x1024_S1x3584x1024_3_0_0 3#32))
     (term (Value.res_main_v1 V) (Value.res_main_v4 V) (Value.res_main_v10 V) (V (Proc.devRef .tc main_arg3)) (V (Proc.devRef .tc main_arg4)) (V (Proc.devRef .tc main_arg5)) 4 slices_S8x1024x3584_S1x1024x3584_4_0_0 slices_S8x3584x1024_S1x3584x1024_4_0_0 4#32))
     (term (Value.res_main_v1 V) (Value.res_main_v4 V) (Value.res_main_v10 V) (V (Proc.devRef .tc main_arg3)) (V (Proc.devRef .tc main_arg4)) (V (Proc.devRef .tc main_arg5)) 5 slices_S8x1024x3584_S1x1024x3584_5_0_0 slices_S8x3584x1024_S1x3584x1024_5_0_0 5#32))
     (term (Value.res_main_v1 V) (Value.res_main_v4 V) (Value.res_main_v10 V) (V (Proc.devRef .tc main_arg3)) (V (Proc.devRef .tc main_arg4)) (V (Proc.devRef .tc main_arg5)) 6 slices_S8x1024x3584_S1x1024x3584_6_0_0 slices_S8x3584x1024_S1x3584x1024_6_0_0 6#32))
     (term (Value.res_main_v1 V) (Value.res_main_v4 V) (Value.res_main_v10 V) (V (Proc.devRef .tc main_arg3)) (V (Proc.devRef .tc main_arg4)) (V (Proc.devRef .tc main_arg5)) 7 slices_S8x1024x3584_S1x1024x3584_7_0_0 slices_S8x3584x1024_S1x3584x1024_7_0_0 7#32) := rfl

theorem masked {te : BitVec 32} {b : BitVec 1} (n : BitVec 32) (y : EReal) (h : te ≠ n) : Scalar.select (Scalar.andi b (Scalar.cmpi .eq te n)) y 0 = 0 := by
  have e : Scalar.cmpi .eq te n = 0#1 := by
    show BitVec.ofBool (te == n) = 0#1
    rw [beq_eq_false_iff_ne.2 h]; rfl
  rw [e]
  have : Scalar.andi b 0#1 = 0#1 := by revert b; decide
  rw [this]; rfl

theorem kept {te : BitVec 32} {b : BitVec 1} (n : BitVec 32) (y : EReal) (h : te = n) : Scalar.select (Scalar.andi b (Scalar.cmpi .eq te n)) y 0 = Scalar.select b y 0 := by
  have e : Scalar.cmpi .eq te n = 1#1 := by
    show BitVec.ofBool (te == n) = 1#1
    rw [beq_iff_eq.2 h]; rfl
  rw [e]
  have : Scalar.andi b 1#1 = b := by revert b; decide
  rw [this]

/-- Row `r`, entry `c` of the sum over the experts: the row's own expert's, if the row's tile is in use. -/
theorem sum_apply (V : Valuation τ sig (Elt Ideal)) (x : FVec Ideal S81920x512 .bf16) (t : IVec S40 32) (n : IVec S1 32) (g u : FVec Ideal S8x1024x3584 .f32) (d : FVec Ideal S8x3584x1024 .f32)
    (hx : V (Proc.devRef .tc main_arg0) = x) (ht : V (Proc.devRef .tc main_arg1) = t) (hn : V (Proc.devRef .tc main_arg2) = n)
    (hg : V (Proc.devRef .tc main_arg3) = g) (hu : V (Proc.devRef .tc main_arg4) = u) (hd : V (Proc.devRef .tc main_arg5) = d)
    (r : Fin 40960) (c : Fin 1024) (he : (t (ix1 ⟨r.val / 1024, by omega⟩)).toNat < 8) :
    Value.res_main_v139 V (ix2 r c)
      = Scalar.select (Scalar.cmpi .slt (BitVec.ofNat 32 (r.val / 1024)) (n (ix1 0)))
          (∑ k : Fin 3584, Cert.Pairs.unit x g u d ⟨(t (ix1 ⟨r.val / 1024, by omega⟩)).toNat, he⟩ r c k) 0 := by
  have h1 : ∀ q : Fin 1024, Value.res_main_v1 V (ix2 r q) = rowAt x r q := fun q => by
    rw [← hx]; exact rows_apply _ r q
  have h4 : Value.res_main_v4 V (ix2 r 0) = t (ix1 ⟨r.val / 1024, by omega⟩) := by
    rw [← ht]; exact mask_apply _ r
  have h10 : Value.res_main_v10 V (ix2 r 0) = Scalar.cmpi .slt (BitVec.ofNat 32 (r.val / 1024)) (n (ix1 0)) := by
    rw [← hn]; exact used_apply _ r
  have tm := fun (e : ℕ) hg' hd' w (he' : e < 8) => term_apply (Value.res_main_v1 V) (Value.res_main_v4 V) (Value.res_main_v10 V) g u d e hg' hd' w he' r c
  simp only [h1, h4, h10] at tm
  rw [sum_eq V, hg, hu, hd]
  simp only [ValueIdx.addf_apply]
  rw [tm 0 _ _ _ (by decide), tm 1 _ _ _ (by decide), tm 2 _ _ _ (by decide), tm 3 _ _ _ (by decide), tm 4 _ _ _ (by decide), tm 5 _ _ _ (by decide),
    tm 6 _ _ _ (by decide), tm 7 _ _ _ (by decide)]
  generalize hb : Scalar.cmpi .slt (BitVec.ofNat 32 (r.val / 1024)) (n (ix1 0)) = b
  clear hb h10 tm
  generalize t (ix1 ⟨r.val / 1024, by omega⟩) = w at he ⊢
  have hz : broadcastInDim S40960x1024 ![] bcast_S_S40960x1024 (constant (F := Ideal) S_ .f32 0x00000000#32) (ix2 r c) = 0 := by pointwise
  rw [hz]
  have hw : w = BitVec.ofNat 32 w.toNat := by simp
  generalize hv : w.toNat = v at he hw ⊢
  clear hv
  subst hw
  unfold Cert.Pairs.unit
  interval_cases v <;>
    (rw [kept _ _ rfl]
     repeat rw [masked _ _ (by decide)]
     simp only [zero_add, add_zero])

end Cert.PairsRef

end
-- ==== Proof.PairsValue.lean ====
/- THE SECOND KERNEL'S RESULT IS THE SECOND REFERENCE'S, over the extended reals. Each of a tile's seven steps adds 512 of its expert's
   3584 inner columns to the accumulator; the reference sums all of them at once. -/
module

public import proofs.«01_k».proof.Proof.PairsPoint
public import proofs.«01_k».proof.Proof.PairsReference
public import proofs.«01_k».proof.Proof.Kernel2IdealRun

@[expose] public section

set_option maxRecDepth 16384
set_option Elab.async false

noncomputable section

namespace Cert.PairsValue

open Cert.Kernel2Ideal Cert.Kernel2Ideal.Gen Cert.Kernel2Ideal.Run Cert.Pairs
open Idealize.ShloMosaic
open Idealize.ShloMosaic.TcCoe

variable {m : (ℓ : Loc nD τ sig) → Buf (Elt Ideal) ℓ} (hE : Exist m)

/-! ## The blocks -/

/-- The kernel's arguments. -/
abbrev rowsK : Vec Ideal S81920x512 .bf16 := m ((core : Thread nD τ).loc main_arg0)
abbrev gateK : Vec Ideal S8x1024x3584 .f32 := m ((core : Thread nD τ).loc main_arg3)
abbrev upK : Vec Ideal S8x1024x3584 .f32 := m ((core : Thread nD τ).loc main_arg4)
abbrev downK : Vec Ideal S8x3584x1024 .f32 := m ((core : Thread nD τ).loc main_arg5)

/-- Tile `n`'s expert. -/
abbrev expertAt (x : S40.Idx → BitVec 32) (n : ℕ) (hn : n < 40) : BitVec 32 := x (ix1 ⟨n, hn⟩)

theorem point_val (n f : ℕ) (hn : n < 40) (hf : f < 7) : (pt hE n f).val = 7 * n + f :=
  Nat.mod_eq_of_lt (by omega)

theorem tabExpert_eq (n f : ℕ) (hn : n < 40) (hf : f < 7) :
    (tabs m).at 0 (Rect.unit (s := S40) ![(Scalar.indexCast (BitVec.ofNat 32 ((crd hE (pt hE n f)) 0).val)).toNat] S1.size
      (Cert.Kernel2Ideal.Gen.facts.k0_off1_inb (crd hE (pt hE n f)))) Cert.Kernel2Ideal.Gen.facts.numel1_S1 = expertAt (expertOf m) n hn := by
  show expertOf m _ = expertOf m _
  refine congrArg (expertOf m) (funext fun a => Fin.ext ?_)
  match a with
  | ⟨0, _⟩ =>
    show (BitVec.ofNat 32 ((crd hE (pt hE n f)) 0).val).toNat + 1 * 0 = n
    rw [tile_eq, point_val hE n f hn hf, BitVec.toNat_ofNat]
    omega

theorem step_word (n f : ℕ) (hn : n < 40) (hf : f < 7) : (BitVec.ofNat 32 ((crd hE (pt hE n f)) 1).val).toNat = f := by
  rw [Cert.Kernel2Ideal.Run.step_eq, point_val hE n f hn hf, BitVec.toNat_ofNat]; omega

theorem index_rows (n f : ℕ) (hn : n < 40) (hf : f < 7) : ((cfgA hE).win (0 : Fin 5)).index (pt hE n f) = ![n, 0] := by
  show ![(BitVec.ofNat 32 ((crd hE (pt hE n f)) 0).val).toNat, 0] = _
  rw [tile_eq, point_val hE n f hn hf, BitVec.toNat_ofNat]
  have : (7 * n + f) / 7 % 2 ^ 32 = n := by omega
  rw [this]

theorem index_gate (n f : ℕ) (hn : n < 40) (hf : f < 7) :
    ((cfgA hE).win (1 : Fin 5)).index (pt hE n f) = ![(expertAt (expertOf m) n hn).toNat, 0, f] := by
  have h : ((cfgA hE).win (1 : Fin 5)).index (pt hE n f)
      = ![((tabs m).at 0 (Rect.unit (s := S40) ![(Scalar.indexCast (BitVec.ofNat 32 ((crd hE (pt hE n f)) 0).val)).toNat] S1.size
          (Cert.Kernel2Ideal.Gen.facts.k0_off1_inb (crd hE (pt hE n f)))) Cert.Kernel2Ideal.Gen.facts.numel1_S1).toNat, 0,
        (BitVec.ofNat 32 ((crd hE (pt hE n f)) 1).val).toNat] := rfl
  rw [h, tabExpert_eq hE n f hn hf, step_word hE n f hn hf]

/-- The up weights' block lies where the gate weights' does. -/
theorem index_up (n f : ℕ) (hn : n < 40) (hf : f < 7) :
    ((cfgA hE).win (2 : Fin 5)).index (pt hE n f) = ![(expertAt (expertOf m) n hn).toNat, 0, f] := index_gate hE n f hn hf

theorem index_down (n f : ℕ) (hn : n < 40) (hf : f < 7) :
    ((cfgA hE).win (3 : Fin 5)).index (pt hE n f) = ![(expertAt (expertOf m) n hn).toNat, f, 0] := by
  have h : ((cfgA hE).win (3 : Fin 5)).index (pt hE n f)
      = ![((tabs m).at 0 (Rect.unit (s := S40) ![(Scalar.indexCast (BitVec.ofNat 32 ((crd hE (pt hE n f)) 0).val)).toNat] S1.size
          (Cert.Kernel2Ideal.Gen.facts.k0_off1_inb (crd hE (pt hE n f)))) Cert.Kernel2Ideal.Gen.facts.numel1_S1).toNat,
        (BitVec.ofNat 32 ((crd hE (pt hE n f)) 1).val).toNat, 0] := rfl
  rw [h, tabExpert_eq hE n f hn hf, step_word hE n f hn hf]

/-- The blocks' entries: the arrays' own, shifted. -/
theorem rows_block (n f : ℕ) (hn : n < 40) (hf : f < 7) (r : Fin 2048) (q : Fin 512) :
    iblk hE core (0 : Fin 5) (pt hE n f) (ix2 r q) = rowsK (m := m) (ix2 ⟨2048 * n + r.val, by omega⟩ q) := by
  have hi := index_rows hE n f hn hf
  unfold iblk
  rw [View.read_apply]
  refine congrArg (rowsK (m := m)) (funext fun a => Fin.ext ?_)
  match a with
  | ⟨0, _⟩ =>
    show ((cfgA hE).win (0 : Fin 5)).index (pt hE n f) 0 * 2048 + 1 * r.val = 2048 * n + r.val
    rw [hi]; show n * 2048 + 1 * r.val = _; omega
  | ⟨1, _⟩ =>
    show ((cfgA hE).win (0 : Fin 5)).index (pt hE n f) 1 * 512 + 1 * q.val = q.val
    rw [hi]; show 0 * 512 + 1 * q.val = _; omega

theorem gate_block (n f : ℕ) (hn : n < 40) (hf : f < 7) (he : (expertAt (expertOf m) n hn).toNat < 8) (q : Fin 1024) (k : Fin 512) :
    iblk hE core (1 : Fin 5) (pt hE n f) (ix3 0 q k) = gateK (m := m) (ix3 ⟨(expertAt (expertOf m) n hn).toNat, he⟩ q ⟨512 * f + k.val, by omega⟩) := by
  have hi := index_gate hE n f hn hf
  unfold iblk
  rw [View.read_apply]
  refine congrArg (gateK (m := m)) (funext fun a => Fin.ext ?_)
  match a with
  | ⟨0, _⟩ =>
    show ((cfgA hE).win (1 : Fin 5)).index (pt hE n f) 0 * 1 + 1 * 0 = (expertAt (expertOf m) n hn).toNat
    rw [hi]; show (expertAt (expertOf m) n hn).toNat * 1 + 1 * 0 = _; omega
  | ⟨1, _⟩ =>
    show ((cfgA hE).win (1 : Fin 5)).index (pt hE n f) 1 * 1024 + 1 * q.val = q.val
    rw [hi]; show 0 * 1024 + 1 * q.val = _; omega
  | ⟨2, _⟩ =>
    show ((cfgA hE).win (1 : Fin 5)).index (pt hE n f) 2 * 512 + 1 * k.val = 512 * f + k.val
    rw [hi]; show f * 512 + 1 * k.val = _; omega

theorem up_block (n f : ℕ) (hn : n < 40) (hf : f < 7) (he : (expertAt (expertOf m) n hn).toNat < 8) (q : Fin 1024) (k : Fin 512) :
    iblk hE core (2 : Fin 5) (pt hE n f) (ix3 0 q k) = upK (m := m) (ix3 ⟨(expertAt (expertOf m) n hn).toNat, he⟩ q ⟨512 * f + k.val, by omega⟩) := by
  have hi := index_up hE n f hn hf
  unfold iblk
  rw [View.read_apply]
  refine congrArg (upK (m := m)) (funext fun a => Fin.ext ?_)
  match a with
  | ⟨0, _⟩ =>
    show ((cfgA hE).win (2 : Fin 5)).index (pt hE n f) 0 * 1 + 1 * 0 = (expertAt (expertOf m) n hn).toNat
    rw [hi]; show (expertAt (expertOf m) n hn).toNat * 1 + 1 * 0 = _; omega
  | ⟨1, _⟩ =>
    show ((cfgA hE).win (2 : Fin 5)).index (pt hE n f) 1 * 1024 + 1 * q.val = q.val
    rw [hi]; show 0 * 1024 + 1 * q.val = _; omega
  | ⟨2, _⟩ =>
    show ((cfgA hE).win (2 : Fin 5)).index (pt hE n f) 2 * 512 + 1 * k.val = 512 * f + k.val
    rw [hi]; show f * 512 + 1 * k.val = _; omega

theorem down_block (n f : ℕ) (hn : n < 40) (hf : f < 7) (he : (expertAt (expertOf m) n hn).toNat < 8) (k : Fin 512) (c : Fin 1024) :
    iblk hE core (3 : Fin 5) (pt hE n f) (ix3 0 k c) = downK (m := m) (ix3 ⟨(expertAt (expertOf m) n hn).toNat, he⟩ ⟨512 * f + k.val, by omega⟩ c) := by
  have hi := index_down hE n f hn hf
  unfold iblk
  rw [View.read_apply]
  refine congrArg (downK (m := m)) (funext fun a => Fin.ext ?_)
  match a with
  | ⟨0, _⟩ =>
    show ((cfgA hE).win (3 : Fin 5)).index (pt hE n f) 0 * 1 + 1 * 0 = (expertAt (expertOf m) n hn).toNat
    rw [hi]; show (expertAt (expertOf m) n hn).toNat * 1 + 1 * 0 = _; omega
  | ⟨1, _⟩ =>
    show ((cfgA hE).win (3 : Fin 5)).index (pt hE n f) 1 * 512 + 1 * k.val = 512 * f + k.val
    rw [hi]; show f * 512 + 1 * k.val = _; omega
  | ⟨2, _⟩ =>
    show ((cfgA hE).win (3 : Fin 5)).index (pt hE n f) 2 * 1024 + 1 * c.val = c.val
    rw [hi]; show 0 * 1024 + 1 * c.val = _; omega

/-! ## The accumulator -/

/-- A tile's unpacked rows are the rows array's. -/
theorem rowsOf_apply (n : ℕ) (hn : n < 40) (r q : Fin 1024) : rowsOf hE core n (ix2 r q) = rowAt (rowsK (m := m)) ⟨1024 * n + r.val, by omega⟩ q := by
  unfold rowsOf
  rw [pay5_apply, rows_block hE n 0 hn (by decide)]
  unfold rowAt
  congr 2
  exact Fin.ext (by simp only []; omega)

/-- The term of inner column `k`, and zero past the last. -/
def termAt (n : ℕ) (hn : n < 40) (he : (expertAt (expertOf m) n hn).toNat < 8) (r c : Fin 1024) (k : ℕ) : EReal :=
  if h : k < 3584 then
    Cert.Pairs.unit (rowsK (m := m)) (gateK (m := m)) (upK (m := m)) (downK (m := m)) ⟨(expertAt (expertOf m) n hn).toNat, he⟩ ⟨1024 * n + r.val, by omega⟩ c ⟨k, h⟩
  else 0

theorem acc_apply (n : ℕ) (hn : n < 40) (he : (expertAt (expertOf m) n hn).toNat < 8) (r c : Fin 1024) (f : ℕ) (hf : f ≤ 7) :
    accOf hE core n f (ix2 r c) = ∑ k ∈ Finset.range (512 * f), termAt n hn he r c k := by
  induction f with
  | zero => exact pay4_apply (ix2 r c)
  | succ f ih =>
    have hf' : f < 7 := hf
    have e : accOf hE core n (f + 1) = step (rowsOf hE core n) (iblk hE core (1 : Fin 5) (pt hE n f)) (iblk hE core (2 : Fin 5) (pt hE n f))
      (iblk hE core (3 : Fin 5) (pt hE n f)) (accOf hE core n f) := rfl
    rw [e, step_apply, ih (by omega), Nat.mul_succ, Finset.sum_range_add, Finset.sum_range (n := 512)]
    refine congrArg _ (Finset.sum_congr rfl fun k _ => ?_)
    have hk : 512 * f + k.val < 3584 := by omega
    unfold termAt Cert.Pairs.unit
    rw [dif_pos hk, down_block hE n f hn hf' he]
    refine congrArg₂ (· * ·) (congrArg₂ glu ?_ ?_) rfl
    · exact Finset.sum_congr rfl fun q _ => by rw [rowsOf_apply hE n hn, gate_block hE n f hn hf' he]
    · exact Finset.sum_congr rfl fun q _ => by rw [rowsOf_apply hE n hn, up_block hE n f hn hf' he]

theorem acc_last (n : ℕ) (hn : n < 40) (he : (expertAt (expertOf m) n hn).toNat < 8) (r c : Fin 1024) :
    accOf hE core n 7 (ix2 r c) = ∑ k : Fin 3584,
      Cert.Pairs.unit (rowsK (m := m)) (gateK (m := m)) (upK (m := m)) (downK (m := m)) ⟨(expertAt (expertOf m) n hn).toNat, he⟩ ⟨1024 * n + r.val, by omega⟩ c k := by
  rw [acc_apply hE n hn he r c 7 le_rfl, Finset.sum_range]
  exact Finset.sum_congr rfl fun k _ => dif_pos k.isLt

/-! ## The result -/

theorem used_eq : used m = usedTab m (ix1 0) := by
  show usedTab m _ = usedTab m _
  exact congrArg _ (funext fun a => Fin.ext (by match a with | ⟨0, _⟩ => rfl))

/-- Entry `(r, c)` of what tile `n` leaves: an expert's output at the unpacked row, or zero. -/
theorem out_apply (n : ℕ) (hn : n < 40) (he : (expertAt (expertOf m) n hn).toNat < 8) (r : Fin 2048) (c : Fin 512) :
    outOf hE core n (ix2 r c) = Scalar.select (Scalar.cmpi .slt (BitVec.ofNat 32 n) (usedTab m (ix1 0)))
      (∑ k : Fin 3584, Cert.Pairs.unit (rowsK (m := m)) (gateK (m := m)) (upK (m := m)) (downK (m := m)) ⟨(expertAt (expertOf m) n hn).toNat, he⟩
        ⟨1024 * n + r.val / 2, by omega⟩ ⟨r.val % 2 * 512 + c.val, by omega⟩ k) 0 := by
  unfold outOf
  rw [← used_eq]
  by_cases h : InUse (used m) n
  · rw [if_pos h, pay2_apply, acc_last hE n hn he]
    exact (if_pos h).symm
  · rw [if_neg h, pay3_apply]
    exact (if_neg h).symm

/-- The reference's packed rows are its unpacked ones'. -/
theorem pack_apply (x : FVec Ideal Cert.Reference2Ideal.S40960x1024 .f32) (r : Fin 81920) (c : Fin 512) :
    truncf .bf16 (shapeCast Cert.Reference2Ideal.S81920x512 x Cert.Reference2Ideal.Gen.shapeCasts_S40960x1024_S81920x512) Cert.Reference2Ideal.Gen.bitsLt_bf16_f32 (ix2 r c)
      = x (ix2 ⟨r.val / 2, by omega⟩ ⟨r.val % 2 * 512 + c.val, by omega⟩) := by
  pointwise

theorem result_eq (V : Valuation Cert.Reference2Ideal.τ Cert.Reference2Ideal.sig (Elt Ideal))
    (h0 : V (Proc.devRef .tc Cert.Reference2Ideal.main_arg0) = rowsK (m := m)) (h1 : V (Proc.devRef .tc Cert.Reference2Ideal.main_arg1) = expertOf m)
    (h2 : V (Proc.devRef .tc Cert.Reference2Ideal.main_arg2) = usedTab m) (h3 : V (Proc.devRef .tc Cert.Reference2Ideal.main_arg3) = gateK (m := m))
    (h4 : V (Proc.devRef .tc Cert.Reference2Ideal.main_arg4) = upK (m := m)) (h5 : V (Proc.devRef .tc Cert.Reference2Ideal.main_arg5) = downK (m := m)) :
    truncf .bf16 (shapeCast Cert.Reference2Ideal.S81920x512 (Cert.Reference2Ideal.Value.res_main_v139 V) Cert.Reference2Ideal.Gen.shapeCasts_S40960x1024_S81920x512)
      Cert.Reference2Ideal.Gen.bitsLt_bf16_f32 = result hE core := by
  funext j
  idx_vars j
  have hn : j0.val / 2048 < 40 := by omega
  have he := hE (ix1 ⟨j0.val / 2048, hn⟩)
  have hb : (⟨j0.val / 2 / 1024, by omega⟩ : Fin 40) = ⟨j0.val / 2048, hn⟩ := Fin.ext (by simp only []; omega)
  have hr : result hE core (ix2 j0 j1) = outOf hE core (j0.val / 2048) (ix2 ⟨j0.val % 2048, Nat.mod_lt _ (by decide)⟩ j1) := by
    unfold result
    exact congrArg _ (funext fun a => by match a with | ⟨0, _⟩ => rfl | ⟨1, _⟩ => rfl)
  rw [hr, out_apply hE _ hn he, pack_apply, Cert.PairsRef.sum_apply V _ _ _ _ _ _ h0 h1 h2 h3 h4 h5 _ _ (by rw [hb]; exact he)]
  have hq : j0.val / 2 / 1024 = j0.val / 2048 := by omega
  have hw : (⟨1024 * (j0.val / 2048) + j0.val % 2048 / 2, by omega⟩ : Fin 40960) = ⟨j0.val / 2, by omega⟩ := Fin.ext (by simp only []; omega)
  have hc : (⟨j0.val % 2048 % 2 * 512 + j1.val, by omega⟩ : Fin 1024) = ⟨j0.val % 2 * 512 + j1.val, by omega⟩ := Fin.ext (by simp only []; omega)
  simp only [hq, hw, hc]

end Cert.PairsValue

end
-- ==== Proof.Dense.lean ====
/- ONE TOKEN OF THE OUT-PROJECTION AND THE DENSE FEED-FORWARD, over the extended reals: the functions that the third kernel computes by tiles of
   tokens and the third reference on all tokens at once. -/
module

public import proofs.«01_k».proof.Proof.Pairs

@[expose] public section

noncomputable section

namespace Cert.Dense

open Idealize.ShloMosaic
open Cert.Pairs (glu glu_eq)

/-- The logistic unit. -/
def silu (a : EReal) : EReal := Ideal.div a (1 + Ideal.exp (-a))

theorem silu_eq (a : EReal) : a * Ideal.div 1 (1 + Ideal.exp (-a)) = silu a := by
  have h := glu_eq a 1
  unfold glu at h
  rw [mul_one, mul_one] at h
  exact h

/-- The reciprocal root of a mean of squares, the count `d` and the constant under the root as they are printed. -/
def scale {n : ℕ} (d : BitVec 32) (a : Fin n → EReal) : EReal :=
  Ideal.rsqrt (Ideal.div (∑ k, a k * a k) (Ideal.ofBits .f32 d) + Ideal.ofBits .f32 0x358637BD#32)

/-- Column `j` of head `h`'s attention output, normalised. -/
def headNorm (o : Fin 512 → EReal) (gg : Fin 128 → EReal) (h : Fin 4) (j : Fin 128) : EReal :=
  o ⟨128 * h.val + j.val, by omega⟩ * scale 0x43000000#32 (fun k : Fin 128 => o ⟨128 * h.val + k.val, by omega⟩) * gg j

/-- The four heads side by side, gated. -/
def gated (o r : Fin 512 → EReal) (gg : Fin 128 → EReal) (j : Fin 512) : EReal :=
  headNorm o gg ⟨j.val / 128, by omega⟩ ⟨j.val % 128, by omega⟩ * silu (r j)

/-- The two attentions side by side: the gated one's 512 columns and the other's. -/
def mix (o r mla : Fin 512 → EReal) (gg : Fin 128 → EReal) (j : Fin 1024) : EReal :=
  if h : j.val < 512 then gated o r gg ⟨j.val, h⟩ else mla ⟨j.val - 512, by omega⟩

/-- The stream after the out-projection. -/
def mid (x : Fin 1024 → EReal) (y gate : Fin 1024 → EReal) (wo : Fin 1024 → Fin 1024 → EReal) (c : Fin 1024) : EReal :=
  x c + gate c * ∑ k, y k * wo k c

/-- The feed-forward's input. -/
def modNorm (x ln sh sc : Fin 1024 → EReal) (c : Fin 1024) : EReal :=
  x c * scale 0x44800000#32 x * ln c * (1 + sc c) + sh c

/-- What inner column `k` adds to entry `c` of the feed-forward's output. -/
def ffTerm (h : Fin 1024 → EReal) (wg wu : Fin 1024 → Fin 2816 → EReal) (wd : Fin 2816 → Fin 1024 → EReal) (c : Fin 1024) (k : Fin 2816) : EReal :=
  glu (∑ q, h q * wg q k) (∑ q, h q * wu q k) * wd k c

/-- The stream after the feed-forward. -/
def last (x h gate : Fin 1024 → EReal) (wg wu : Fin 1024 → Fin 2816 → EReal) (wd : Fin 2816 → Fin 1024 → EReal) (c : Fin 1024) : EReal :=
  x c + gate c * ∑ k, ffTerm h wg wu wd c k

/-- The token's stream after both. -/
def token (x : Fin 1024 → EReal) (o r mla : Fin 512 → EReal) (mo : Fin 6 → Fin 1024 → EReal) (gg : Fin 128 → EReal) (wo : Fin 1024 → Fin 1024 → EReal)
    (ln : Fin 1024 → EReal) (wg wu : Fin 1024 → Fin 2816 → EReal) (wd : Fin 2816 → Fin 1024 → EReal) : Fin 1024 → EReal :=
  last (mid x (mix o r mla gg) (mo 2) wo) (modNorm (mid x (mix o r mla gg) (mo 2) wo) ln (mo 3) (mo 4)) (mo 5) wg wu wd

/-- Token `i` of the whole arrays; a sequence is 8192 tokens, and the gates are the projected columns from 1024 on. -/
def tokenAt (x : (⟨2, ![16384, 1024]⟩ : Shape).Idx → EReal) (a b : (⟨2, ![16384, 512]⟩ : Shape).Idx → EReal) (p : (⟨2, ![16384, 2048]⟩ : Shape).Idx → EReal)
    (z : (⟨2, ![16384, 512]⟩ : Shape).Idx → EReal) (mo : (⟨3, ![8, 6, 1024]⟩ : Shape).Idx → EReal) (g : (⟨1, ![128]⟩ : Shape).Idx → EReal)
    (w : (⟨2, ![1024, 1024]⟩ : Shape).Idx → EReal) (l : (⟨1, ![1024]⟩ : Shape).Idx → EReal) (wg wu : (⟨2, ![1024, 2816]⟩ : Shape).Idx → EReal)
    (wd : (⟨2, ![2816, 1024]⟩ : Shape).Idx → EReal) (i : Fin 16384) : Fin 1024 → EReal :=
  token (fun k => x (ix2 i k)) (fun k => a (ix2 i k) + b (ix2 i k)) (fun k => p (ix2 i ⟨1024 + k.val, by omega⟩)) (fun k => z (ix2 i k))
    (fun k q => mo (ix3 ⟨i.val / 8192, by omega⟩ k q)) (fun k => g (ix1 k)) (fun k q => w (ix2 k q)) (fun k => l (ix1 k))
    (fun q k => wg (ix2 q k)) (fun q k => wu (ix2 q k)) (fun k q => wd (ix2 k q))

/-- 2816 terms by groups of 1024, 1024 and 768. -/
theorem sum_groups (f : Fin 2816 → EReal) :
    ∑ k, f k = ∑ k : Fin 1024, f ⟨k.val, by omega⟩ + ∑ k : Fin 1024, f ⟨1024 + k.val, by omega⟩ + ∑ k : Fin 768, f ⟨2048 + k.val, by omega⟩ := by
  rw [Fin.sum_univ_two_halves 2048 768 rfl, Fin.sum_univ_two_halves 1024 1024 rfl]

end Cert.Dense

end
-- ==== Proof.DensePoint.lean ====
/- THE THIRD KERNEL'S PAYLOADS AT AN INDEX, over the extended reals. -/
module

public import proofs.«01_k».proof.Proof.Gen.Kernel3Ideal.Frame
public import proofs.«01_k».proof.Proof.Dense

@[expose] public section

set_option maxRecDepth 16384
set_option Elab.async false

noncomputable section

namespace Cert.Dense

open Cert.Kernel3Ideal Cert.Kernel3Ideal.Gen
open Idealize.ShloMosaic

theorem pay4_apply (a b : Vec Ideal S512x512 .bf16) (g : Vec Ideal S1x128 .f32) (r : Fin 512) (j : Fin 128) :
    k0_pay4 (F := Ideal) a b g (ix2 r j) = headNorm (fun k => a (ix2 r k) + b (ix2 r k)) (fun k => g (ix2 0 k)) 0 j := by
  pointwise [k0_pay4, k0_pay2, k0_pay3, headNorm, scale]

theorem pay5_apply (a b : Vec Ideal S512x512 .bf16) (g : Vec Ideal S1x128 .f32) (r : Fin 512) (j : Fin 128) :
    k0_pay5 (F := Ideal) a b g (ix2 r j) = headNorm (fun k => a (ix2 r k) + b (ix2 r k)) (fun k => g (ix2 0 k)) 1 j := by
  pointwise [k0_pay5, k0_pay2, k0_pay3, headNorm, scale]

/-- The third head's columns, normalised. -/
def third (v35 : FVec Ideal S512x128 .f32) (v40 : FVec Ideal S512x1 .f32) (v8 : FVec Ideal S1x128 .f32) : FVec Ideal S512x128 .f32 :=
  mulf (mulf v35 (broadcastTo S512x128 (rsqrt (addf v40 (broadcast S512x1 (Scalar.ofBits .f32 0x358637BD#32)))) broadcasts_S512x1_S512x128))
    (broadcastTo S512x128 v8 broadcasts_S1x128_S512x128)

/-- The fourth head's. -/
def fourth (v6 : FVec Ideal S512x512 .f32) (v8 : FVec Ideal S1x128 .f32) : FVec Ideal S512x128 .f32 :=
  have v48 := extractStridedSlice S512x128 ![0, 384] v6 slices_S512x512_o0_384_S512x128
  mulf (mulf v48 (broadcastTo S512x128 (rsqrt (addf (divf (shapeCast S512x1
      (multiReduction .add [1] S512 (mulf v48 v48) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 v8 broadcasts_S1x128_S512x128)

/-- The four heads' columns side by side, times the gates. -/
def gatedTile (h0 h1 h2 h3 : FVec Ideal S512x128 .f32) (p : Vec Ideal S512x512 .bf16) : FVec Ideal S512x512 .bf16 :=
  have v63 : FVec Ideal S512x512 .f32 := extf .f32 p bitsLt_bf16_f32
  truncf .bf16 (mulf (concatenate S512x512 1 [⟨S512x128, h0⟩, ⟨S512x128, h1⟩, ⟨S512x128, h2⟩, ⟨S512x128, h3⟩]
      concatenates_S512x128_S512x128_S512x128_S512x128_S512x512_d1)
    (divf v63 (addf (broadcast S512x512 (Scalar.ofBits .f32 0x3F800000#32))
      (exp (subf (broadcast S512x512 (Scalar.ofBits .f32 0x00000000#32)) v63))))) bitsLt_bf16_f32

/-- The out-projection of a tile, times its gate. -/
def projTile (v1 : FVec Ideal S6x1024 .f32) (y z : FVec Ideal S512x512 .bf16) (w w' : FVec Ideal S512x1024 .bf16) : FVec Ideal S512x1024 .f32 :=
  mulf (broadcastTo S512x1024 (extractStridedSlice S1x1024 ![2, 0] v1 slices_S6x1024_o2_0_S1x1024) broadcasts_S1x1024_S512x1024)
    (addf (matmul dot_S512x512_S512x1024_S512x1024_1_0_0_1_n_n none y (shapeCast S512x1024 w shapeCasts_S512x1024_S512x1024) (constant S512x1024 .f32 0x00000000#32))
      (matmul dot_S512x512_S512x1024_S512x1024_1_0_0_1_n_n none z (shapeCast S512x1024 w' shapeCasts_S512x1024_S512x1024) (constant S512x1024 .f32 0x00000000#32)))

theorem pay8_eq (v1 : FVec Ideal S6x1024 .f32) (v6 : FVec Ideal S512x512 .f32) (v8 : FVec Ideal S1x128 .f32) (v21 v34 v35 : FVec Ideal S512x128 .f32)
    (v40 : FVec Ideal S512x1 .f32) (p : Vec Ideal S512x512 .bf16) (w : Vec Ideal S512x1024 .bf16) (z : Vec Ideal S512x512 .bf16) (w' : Vec Ideal S512x1024 .bf16) :
    k0_pay8 (F := Ideal) v1 v6 v8 v21 v34 v35 v40 (Scalar.ofBits .f32 0x358637BD#32) p w z w'
      = projTile v1 (gatedTile v21 v34 (third v35 v40 v8) (fourth v6 v8) p) z w w' := rfl

theorem third_apply (a b : Vec Ideal S512x512 .bf16) (g : Vec Ideal S1x128 .f32) (r : Fin 512) (j : Fin 128) :
    third (k0_pay6 a b) (k0_pay7 a b) (k0_pay3 g) (ix2 r j) = headNorm (fun k => a (ix2 r k) + b (ix2 r k)) (fun k => g (ix2 0 k)) 2 j := by
  pointwise [third, k0_pay6, k0_pay7, k0_pay2, k0_pay3, headNorm, scale]

theorem fourth_apply (a b : Vec Ideal S512x512 .bf16) (g : Vec Ideal S1x128 .f32) (r : Fin 512) (j : Fin 128) :
    fourth (k0_pay2 a b) (k0_pay3 g) (ix2 r j) = headNorm (fun k => a (ix2 r k) + b (ix2 r k)) (fun k => g (ix2 0 k)) 3 j := by
  pointwise [fourth, k0_pay2, k0_pay3, headNorm, scale]

theorem gatedTile_apply (h0 h1 h2 h3 : FVec Ideal S512x128 .f32) (p : Vec Ideal S512x512 .bf16) (H : Fin 4 → Fin 128 → EReal) (r : Fin 512)
    (e0 : ∀ j, h0 (ix2 r j) = H 0 j) (e1 : ∀ j, h1 (ix2 r j) = H 1 j) (e2 : ∀ j, h2 (ix2 r j) = H 2 j) (e3 : ∀ j, h3 (ix2 r j) = H 3 j) (j : Fin 512) :
    gatedTile h0 h1 h2 h3 p (ix2 r j) = H ⟨j.val / 128, by omega⟩ ⟨j.val % 128, by omega⟩ * silu (p (ix2 r j)) := by
  pointwise [gatedTile, silu, e0, e1, e2, e3]
  have hz : (0 - p (ix2 r j) : EReal) = -p (ix2 r j) := by simp only [sub_eq_add_neg, zero_add]
  rw [hz]
  refine congrArg (· * _) ?_
  split_ifs <;> (refine congrArg₂ H (Fin.ext ?_) (Fin.ext ?_) <;> simp only [Fin.val_zero, Fin.val_one, Fin.val_two] <;> omega)

theorem projTile_apply (v1 : FVec Ideal S6x1024 .f32) (y z : FVec Ideal S512x512 .bf16) (w w' : FVec Ideal S512x1024 .bf16) (r : Fin 512) (c : Fin 1024) :
    projTile v1 y z w w' (ix2 r c)
      = v1 (ix2 2 c) * (∑ k : Fin 512, y (ix2 r k) * w (ix2 k c) + ∑ k : Fin 512, z (ix2 r k) * w' (ix2 k c)) := by
  pointwise [projTile]

theorem pay10_apply (v : FVec Ideal S6x1024 .f32) (x y : Vec Ideal S512x1024 .f32) (l : Vec Ideal S1x1024 .f32) (r : Fin 512) (c : Fin 1024) :
    k0_pay10 (F := Ideal) v x y l (ix2 r c) = modNorm (fun k => x (ix2 r k) + y (ix2 r k)) (fun k => l (ix2 0 k)) (fun k => v (ix2 3 k)) (fun k => v (ix2 4 k)) c := by
  pointwise [k0_pay10, k0_pay9, modNorm, scale]

theorem pay11_apply (v : FVec Ideal S6x1024 .f32) (x y : Vec Ideal S512x1024 .f32) (l : Vec Ideal S1x1024 .f32) (g u d : Vec Ideal S1024x1024 .bf16)
    (r : Fin 512) (c : Fin 1024) :
    k0_pay11 (F := Ideal) v x y l g u d (ix2 r c)
      = ∑ k : Fin 1024, Cert.Pairs.glu (∑ q : Fin 1024, k0_pay10 (F := Ideal) v x y l (ix2 r q) * g (ix2 q k))
          (∑ q : Fin 1024, k0_pay10 (F := Ideal) v x y l (ix2 r q) * u (ix2 q k)) * d (ix2 k c) := by
  pointwise [k0_pay11, Cert.Pairs.glu]
  simp only [sub_eq_add_neg, zero_add]

theorem pay12_apply (v : FVec Ideal S6x1024 .f32) (x : FVec Ideal S512x1024 .f32) (h : FVec Ideal S512x1024 .bf16) (a : FVec Ideal S512x1024 .f32)
    (g u d : Vec Ideal S1024x1024 .bf16) (g' u' : Vec Ideal S1024x768 .bf16) (d' : Vec Ideal S768x1024 .bf16) (r : Fin 512) (c : Fin 1024) :
    k0_pay12 (F := Ideal) v x h a g u d g' u' d' (ix2 r c)
      = x (ix2 r c) + v (ix2 5 c) * (a (ix2 r c)
        + ∑ k : Fin 1024, Cert.Pairs.glu (∑ q : Fin 1024, h (ix2 r q) * g (ix2 q k)) (∑ q : Fin 1024, h (ix2 r q) * u (ix2 q k)) * d (ix2 k c)
        + ∑ k : Fin 768, Cert.Pairs.glu (∑ q : Fin 1024, h (ix2 r q) * g' (ix2 q k)) (∑ q : Fin 1024, h (ix2 r q) * u' (ix2 q k)) * d' (ix2 k c)) := by
  pointwise [k0_pay12, Cert.Pairs.glu]
  simp only [sub_eq_add_neg, zero_add]

end Cert.Dense

end
-- ==== Proof.DenseTile.lean ====
/- WHAT THE THIRD KERNEL LEAVES OF A TILE, over the extended reals: each row is the token's. -/
module

public import proofs.«01_k».proof.Proof.DensePoint

@[expose] public section

set_option maxRecDepth 16384
set_option Elab.async false

noncomputable section

namespace Cert.Dense

open Cert.Kernel3Ideal Cert.Kernel3Ideal.Gen
open Idealize.ShloMosaic

theorem zeros2 : (![0, 0] : Fin 2 → Nat) = fun _ => 0 := funext fun a => by fin_cases a <;> rfl
theorem zeros3 : (![0, 0, 0] : Fin 3 → Nat) = fun _ => 0 := funext fun a => by fin_cases a <;> rfl

/-- An entry of a rectangle of a matrix. -/
theorem ld_rect {e : EltTy} {a b a' b' i j : ℕ} (X : (⟨2, ![a, b]⟩ : Shape).Idx → Elt Ideal e)
    (inb : ∀ s : Fin 2, (![i, j] : Fin 2 → ℕ) s + (⟨2, ![a', b']⟩ : Shape).size s ≤ (⟨2, ![a, b]⟩ : Shape).size s)
    (r : Fin a') (c : Fin b') (hr : i + r.val < a) (hc : j + c.val < b) :
    View.ld X (Rect.unit (s := ⟨2, ![a, b]⟩) ![i, j] (⟨2, ![a', b']⟩ : Shape).size inb) (ix2 r c) = X (ix2 ⟨i + r.val, hr⟩ ⟨j + c.val, hc⟩) :=
  congrArg X (funext fun s => Fin.ext (by
    match s with
    | ⟨0, _⟩ => exact congrArg (i + ·) (Nat.one_mul _)
    | ⟨1, _⟩ => exact congrArg (j + ·) (Nat.one_mul _)))

theorem pay1_apply (x : Vec Ideal S1x6x1024 .f32) (k : Fin 6) (c : Fin 1024) : k0_pay1 (F := Ideal) x (ix2 k c) = x (ix3 0 k c) := by
  pointwise [k0_pay1]

section
variable (x0 : Vec Ideal S512x1024 .f32) (x1 x2 x3 x4 : Vec Ideal S512x512 .bf16) (x5 : Vec Ideal S1x6x1024 .f32) (x6 : Vec Ideal S1x128 .f32)
  (x7 : Vec Ideal S1024x1024 .bf16) (x8 : Vec Ideal S1x1024 .f32) (x9 x10 : Vec Ideal S1024x2816 .bf16) (x11 : Vec Ideal S2816x1024 .bf16)

theorem pay13_apply (k : Fin 6) (c : Fin 1024) : k0_pay13 (F := Ideal) x0 x1 x2 x3 x4 x5 x6 x7 x8 x9 x10 x11 (ix2 k c) = x5 (ix3 0 k c) := by
  unfold k0_pay13
  rw [pay1_apply, View.ld_unit_zero zeros3]

/-- The row's mixed attentions. -/
abbrev mixRow (r : Fin 512) : Fin 1024 → EReal :=
  mix (fun k => x1 (ix2 r k) + x2 (ix2 r k)) (fun k => x3 (ix2 r k)) (fun k => x4 (ix2 r k)) (fun k => x6 (ix2 0 k))

theorem pay14_apply (r : Fin 512) (c : Fin 1024) : k0_pay14 (F := Ideal) x0 x1 x2 x3 x4 x5 x6 x7 x8 x9 x10 x11 (ix2 r c)
    = x5 (ix3 0 2 c) * ∑ k, mixRow x1 x2 x3 x4 x6 r k * x7 (ix2 k c) := by
  unfold k0_pay14
  rw [pay8_eq, projTile_apply, pay13_apply, Fin.sum_univ_two_halves 512 512 rfl]
  rw [View.ld_unit_zero zeros2, View.ld_unit_zero zeros2, View.ld_unit_zero zeros2, View.ld_unit_zero zeros2, View.ld_unit_zero zeros2]
  refine congrArg (x5 (ix3 0 2 c) * ·) (congrArg₂ (· + ·) (Finset.sum_congr rfl fun k _ => ?_) (Finset.sum_congr rfl fun k _ => ?_))
  · refine congrArg₂ (· * ·) ?_ ((ld_rect x7 _ k c (by omega) (by omega)).trans ?_)
    · rw [gatedTile_apply _ _ _ _ x3 (headNorm (fun k => x1 (ix2 r k) + x2 (ix2 r k)) (fun k => x6 (ix2 0 k))) r
        (pay4_apply x1 x2 x6 r) (pay5_apply x1 x2 x6 r) (third_apply x1 x2 x6 r) (fourth_apply x1 x2 x6 r)]
      unfold mixRow mix gated
      rw [dif_pos k.isLt]
    · congr 2 <;> exact Fin.ext (Nat.zero_add _)
  · refine congrArg₂ (· * ·) ?_ ((ld_rect x7 _ k c (by omega) (by omega)).trans ?_)
    · unfold mixRow mix
      rw [dif_neg (by simp only []; omega)]
      congr 2; exact Fin.ext (by simp only []; omega)
    · congr 2; exact Fin.ext (Nat.zero_add _)

/-- The row's stream after the out-projection. -/
abbrev midRow (r : Fin 512) : Fin 1024 → EReal :=
  mid (fun k => x0 (ix2 r k)) (mixRow x1 x2 x3 x4 x6 r) (fun k => x5 (ix3 0 2 k)) (fun k j => x7 (ix2 k j))

theorem tile_apply (r : Fin 512) (c : Fin 1024) : out0_12 (F := Ideal) x0 x1 x2 x3 x4 x5 x6 x7 x8 x9 x10 x11 (ix2 r c)
    = token (fun k => x0 (ix2 r k)) (fun k => x1 (ix2 r k) + x2 (ix2 r k)) (fun k => x3 (ix2 r k)) (fun k => x4 (ix2 r k)) (fun k j => x5 (ix3 0 k j))
      (fun k => x6 (ix2 0 k)) (fun k j => x7 (ix2 k j)) (fun k => x8 (ix2 0 k)) (fun q k => x9 (ix2 q k)) (fun q k => x10 (ix2 q k)) (fun k j => x11 (ix2 k j)) c := by
  have hm : ∀ k, x0 (ix2 r k) + k0_pay14 (F := Ideal) x0 x1 x2 x3 x4 x5 x6 x7 x8 x9 x10 x11 (ix2 r k) = midRow x0 x1 x2 x3 x4 x5 x6 x7 r k :=
    fun k => congrArg _ (pay14_apply x0 x1 x2 x3 x4 x5 x6 x7 x8 x9 x10 x11 r k)
  have hh : ∀ k, k0_pay10 (F := Ideal) (k0_pay13 x0 x1 x2 x3 x4 x5 x6 x7 x8 x9 x10 x11) x0 (k0_pay14 x0 x1 x2 x3 x4 x5 x6 x7 x8 x9 x10 x11) x8 (ix2 r k)
      = modNorm (midRow x0 x1 x2 x3 x4 x5 x6 x7 r) (fun k => x8 (ix2 0 k)) (fun k => x5 (ix3 0 3 k)) (fun k => x5 (ix3 0 4 k)) k := fun k => by
    rw [pay10_apply]
    simp only [hm, pay13_apply]
  have h9 : k0_pay9 (F := Ideal) x0 (k0_pay14 x0 x1 x2 x3 x4 x5 x6 x7 x8 x9 x10 x11) (ix2 r c) = midRow x0 x1 x2 x3 x4 x5 x6 x7 r c := hm c
  unfold out0_12
  rw [View.canon_unit_zero zeros2, View.ld_unit_zero zeros2, View.ld_unit_zero zeros2, pay12_apply, pay11_apply, h9, pay13_apply]
  simp only [hh]
  unfold token last
  rw [sum_groups]
  refine congrArg (midRow x0 x1 x2 x3 x4 x5 x6 x7 r c + x5 (ix3 0 5 c) * ·) ?_
  unfold ffTerm
  refine congrArg₂ (· + ·) (congrArg₂ (· + ·) ?_ ?_) ?_
  · refine Finset.sum_congr rfl fun k _ => ?_
    have ec : (⟨0 + k.val, by omega⟩ : Fin 2816) = ⟨k.val, by omega⟩ := Fin.ext (Nat.zero_add _)
    refine congrArg₂ (· * ·) (congrArg₂ Cert.Pairs.glu ?_ ?_) ?_
    · exact Finset.sum_congr rfl fun q _ => congrArg _ ((ld_rect x9 _ q k (by omega) (by omega)).trans (by rw [ec]; congr 2; exact Fin.ext (Nat.zero_add _)))
    · exact Finset.sum_congr rfl fun q _ => congrArg _ ((ld_rect x10 _ q k (by omega) (by omega)).trans (by rw [ec]; congr 2; exact Fin.ext (Nat.zero_add _)))
    · exact (ld_rect x11 _ k c (by omega) (by omega)).trans (by rw [ec]; congr 2; exact Fin.ext (Nat.zero_add _))
  · refine Finset.sum_congr rfl fun k _ => ?_
    refine congrArg₂ (· * ·) (congrArg₂ Cert.Pairs.glu ?_ ?_) ?_
    · exact Finset.sum_congr rfl fun q _ => congrArg _ ((ld_rect x9 _ q k (by omega) (by omega)).trans (by congr 2; exact Fin.ext (Nat.zero_add _)))
    · exact Finset.sum_congr rfl fun q _ => congrArg _ ((ld_rect x10 _ q k (by omega) (by omega)).trans (by congr 2; exact Fin.ext (Nat.zero_add _)))
    · exact (ld_rect x11 _ k c (by omega) (by omega)).trans (by congr 2; exact Fin.ext (Nat.zero_add _))
  · refine Finset.sum_congr rfl fun k _ => ?_
    refine congrArg₂ (· * ·) (congrArg₂ Cert.Pairs.glu ?_ ?_) ?_
    · exact Finset.sum_congr rfl fun q _ => congrArg _ ((ld_rect x9 _ q k (by omega) (by omega)).trans (by congr 2; exact Fin.ext (Nat.zero_add _)))
    · exact Finset.sum_congr rfl fun q _ => congrArg _ ((ld_rect x10 _ q k (by omega) (by omega)).trans (by congr 2; exact Fin.ext (Nat.zero_add _)))
    · exact (ld_rect x11 _ k c (by omega) (by omega)).trans (by congr 2; exact Fin.ext (Nat.zero_add _))

end

end Cert.Dense

end
-- ==== Proof.DenseValue.lean ====
/- THE THIRD KERNEL'S RESULT AT AN INDEX, over the extended reals: tile `t` holds the rows of its 512 tokens. -/
module

public import proofs.«01_k».proof.Proof.Gen.Kernel3Ideal.Value
public import proofs.«01_k».proof.Proof.DenseTile

@[expose] public section

set_option maxRecDepth 16384
set_option Elab.async false

noncomputable section

namespace Cert.DenseValue

open Cert.Kernel3Ideal Cert.Kernel3Ideal.Gen
open Idealize.ShloMosaic
open Idealize.ShloMosaic.TcCoe
open Cert.Dense

variable (m : (ℓ : Loc nD τ sig) → Buf (Elt Ideal) ℓ) (c : Dev nD)

/-! ## The arrays that the host prepares -/

theorem V_v0 : V m c main_v0 = shapeCast S1x128 (m ((c : Thread nD τ).loc main_arg6)) shapeCasts_S128_S1x128 := by
  show StableHlo.after hostOps0 _ _ = _
  simp only [hostOps0]
  after_results_simp <;> rfl

theorem V_v2 : V m c main_v2 = shapeCast S1x1024 (m ((c : Thread nD τ).loc main_arg8)) shapeCasts_S1024_S1x1024 := by
  show StableHlo.after hostOps0 _ _ = _
  simp only [hostOps0]
  after_results_simp <;> rfl

theorem V_v1 : V m c main_v1 = (truncf .bf16 (φ := .f32) (m ((c : Thread nD τ).loc main_arg7)) bitsLt_bf16_f32 : FVec Ideal S1024x1024 .bf16) := by
  show StableHlo.after hostOps0 _ _ = _
  simp only [hostOps0]
  after_results_simp <;> rfl

theorem V_v3 : V m c main_v3 = (truncf .bf16 (φ := .f32) (m ((c : Thread nD τ).loc main_arg9)) bitsLt_bf16_f32 : FVec Ideal S1024x2816 .bf16) := by
  show StableHlo.after hostOps0 _ _ = _
  simp only [hostOps0]
  after_results_simp <;> rfl

theorem V_v4 : V m c main_v4 = (truncf .bf16 (φ := .f32) (m ((c : Thread nD τ).loc main_arg10)) bitsLt_bf16_f32 : FVec Ideal S1024x2816 .bf16) := by
  show StableHlo.after hostOps0 _ _ = _
  simp only [hostOps0]
  after_results_simp <;> rfl

theorem V_v5 : V m c main_v5 = (truncf .bf16 (φ := .f32) (m ((c : Thread nD τ).loc main_arg11)) bitsLt_bf16_f32 : FVec Ideal S2816x1024 .bf16) := by
  show StableHlo.after hostOps0 _ _ = _
  simp only [hostOps0]
  after_results_simp <;> rfl

/-! ## The blocks' places -/

theorem place0 : ∀ t : Fin cfg0.N, win0_0.index t = ![t.val, 0] := (by decide +kernel : ∀ t : Fin grid0.N, win0_0.index t = ![t.val, 0])
theorem place1 : ∀ t : Fin cfg0.N, win0_1.index t = ![t.val, 0] := (by decide +kernel : ∀ t : Fin grid0.N, win0_1.index t = ![t.val, 0])
theorem place2 : ∀ t : Fin cfg0.N, win0_2.index t = ![t.val, 0] := (by decide +kernel : ∀ t : Fin grid0.N, win0_2.index t = ![t.val, 0])
theorem place3 : ∀ t : Fin cfg0.N, win0_3.index t = ![t.val, 2] := (by decide +kernel : ∀ t : Fin grid0.N, win0_3.index t = ![t.val, 2])
theorem place4 : ∀ t : Fin cfg0.N, win0_4.index t = ![t.val, 0] := (by decide +kernel : ∀ t : Fin grid0.N, win0_4.index t = ![t.val, 0])
theorem place5 : ∀ t : Fin cfg0.N, win0_5.index t = ![t.val / 16, 0, 0] := (by decide +kernel : ∀ t : Fin grid0.N, win0_5.index t = ![t.val / 16, 0, 0])
theorem place6 : ∀ t : Fin cfg0.N, win0_6.index t = ![0, 0] := (by decide +kernel : ∀ t : Fin grid0.N, win0_6.index t = ![0, 0])
theorem place7 : ∀ t : Fin cfg0.N, win0_7.index t = ![0, 0] := (by decide +kernel : ∀ t : Fin grid0.N, win0_7.index t = ![0, 0])
theorem place8 : ∀ t : Fin cfg0.N, win0_8.index t = ![0, 0] := (by decide +kernel : ∀ t : Fin grid0.N, win0_8.index t = ![0, 0])
theorem place9 : ∀ t : Fin cfg0.N, win0_9.index t = ![0, 0] := (by decide +kernel : ∀ t : Fin grid0.N, win0_9.index t = ![0, 0])
theorem place10 : ∀ t : Fin cfg0.N, win0_10.index t = ![0, 0] := (by decide +kernel : ∀ t : Fin grid0.N, win0_10.index t = ![0, 0])
theorem place11 : ∀ t : Fin cfg0.N, win0_11.index t = ![0, 0] := (by decide +kernel : ∀ t : Fin grid0.N, win0_11.index t = ![0, 0])
theorem place12 : ∀ t : Fin cfg0.N, win0_12.index t = ![t.val, 0] := (by decide +kernel : ∀ t : Fin grid0.N, win0_12.index t = ![t.val, 0])

/-! ## The blocks' entries: the arguments' own, shifted -/

theorem block0 (t : Fin cfg0.N) (r : Fin 512) (q : Fin 1024) (h : 512 * t.val + r.val < 16384) :
    iblk m c 0 t (ix2 r q) = (m ((c : Thread nD τ).loc main_arg0) : FVec Ideal S16384x1024 .f32) (ix2 ⟨512 * t.val + r.val, h⟩ q) := by
  have hi := place0 t
  rw [← V_main_arg0 m c]
  unfold iblk
  rw [View.read_apply]
  refine congrArg (V m c main_arg0) (funext fun a => Fin.ext ?_)
  match a with
  | ⟨0, _⟩ =>
    show win0_0.index t 0 * 512 + 1 * r.val = 512 * t.val + r.val
    rw [hi]; show t.val * 512 + 1 * r.val = _; omega
  | ⟨1, _⟩ =>
    show win0_0.index t 1 * 1024 + 1 * q.val = q.val
    rw [hi]; show 0 * 1024 + 1 * q.val = _; omega

theorem block1 (t : Fin cfg0.N) (r : Fin 512) (q : Fin 512) (h : 512 * t.val + r.val < 16384) :
    iblk m c 1 t (ix2 r q) = (m ((c : Thread nD τ).loc main_arg1) : FVec Ideal S16384x512 .bf16) (ix2 ⟨512 * t.val + r.val, h⟩ q) := by
  have hi := place1 t
  rw [← V_main_arg1 m c]
  unfold iblk
  rw [View.read_apply]
  refine congrArg (V m c main_arg1) (funext fun a => Fin.ext ?_)
  match a with
  | ⟨0, _⟩ =>
    show win0_1.index t 0 * 512 + 1 * r.val = 512 * t.val + r.val
    rw [hi]; show t.val * 512 + 1 * r.val = _; omega
  | ⟨1, _⟩ =>
    show win0_1.index t 1 * 512 + 1 * q.val = q.val
    rw [hi]; show 0 * 512 + 1 * q.val = _; omega

theorem block2 (t : Fin cfg0.N) (r : Fin 512) (q : Fin 512) (h : 512 * t.val + r.val < 16384) :
    iblk m c 2 t (ix2 r q) = (m ((c : Thread nD τ).loc main_arg2) : FVec Ideal S16384x512 .bf16) (ix2 ⟨512 * t.val + r.val, h⟩ q) := by
  have hi := place2 t
  rw [← V_main_arg2 m c]
  unfold iblk
  rw [View.read_apply]
  refine congrArg (V m c main_arg2) (funext fun a => Fin.ext ?_)
  match a with
  | ⟨0, _⟩ =>
    show win0_2.index t 0 * 512 + 1 * r.val = 512 * t.val + r.val
    rw [hi]; show t.val * 512 + 1 * r.val = _; omega
  | ⟨1, _⟩ =>
    show win0_2.index t 1 * 512 + 1 * q.val = q.val
    rw [hi]; show 0 * 512 + 1 * q.val = _; omega

theorem block3 (t : Fin cfg0.N) (r : Fin 512) (q : Fin 512) (h : 512 * t.val + r.val < 16384) :
    iblk m c 3 t (ix2 r q) = (m ((c : Thread nD τ).loc main_arg3) : FVec Ideal S16384x2048 .bf16) (ix2 ⟨512 * t.val + r.val, h⟩ ⟨1024 + q.val, by omega⟩) := by
  have hi := place3 t
  rw [← V_main_arg3 m c]
  unfold iblk
  rw [View.read_apply]
  refine congrArg (V m c main_arg3) (funext fun a => Fin.ext ?_)
  match a with
  | ⟨0, _⟩ =>
    show win0_3.index t 0 * 512 + 1 * r.val = 512 * t.val + r.val
    rw [hi]; show t.val * 512 + 1 * r.val = _; omega
  | ⟨1, _⟩ =>
    show win0_3.index t 1 * 512 + 1 * q.val = 1024 + q.val
    rw [hi]; show 2 * 512 + 1 * q.val = _; omega

theorem block4 (t : Fin cfg0.N) (r : Fin 512) (q : Fin 512) (h : 512 * t.val + r.val < 16384) :
    iblk m c 4 t (ix2 r q) = (m ((c : Thread nD τ).loc main_arg4) : FVec Ideal S16384x512 .bf16) (ix2 ⟨512 * t.val + r.val, h⟩ q) := by
  have hi := place4 t
  rw [← V_main_arg4 m c]
  unfold iblk
  rw [View.read_apply]
  refine congrArg (V m c main_arg4) (funext fun a => Fin.ext ?_)
  match a with
  | ⟨0, _⟩ =>
    show win0_4.index t 0 * 512 + 1 * r.val = 512 * t.val + r.val
    rw [hi]; show t.val * 512 + 1 * r.val = _; omega
  | ⟨1, _⟩ =>
    show win0_4.index t 1 * 512 + 1 * q.val = q.val
    rw [hi]; show 0 * 512 + 1 * q.val = _; omega

theorem block5 (t : Fin cfg0.N) (k : Fin 6) (q : Fin 1024) (h : t.val / 16 < 8) :
    iblk m c 5 t (ix3 0 k q) = (m ((c : Thread nD τ).loc main_arg5) : FVec Ideal S8x6x1024 .f32) (ix3 ⟨t.val / 16, h⟩ k q) := by
  have hi := place5 t
  rw [← V_main_arg5 m c]
  unfold iblk
  rw [View.read_apply]
  refine congrArg (V m c main_arg5) (funext fun a => Fin.ext ?_)
  match a with
  | ⟨0, _⟩ =>
    show win0_5.index t 0 * 1 + 1 * 0 = t.val / 16
    rw [hi]; show t.val / 16 * 1 + 1 * 0 = _; omega
  | ⟨1, _⟩ =>
    show win0_5.index t 1 * 6 + 1 * k.val = k.val
    rw [hi]; show 0 * 6 + 1 * k.val = _; omega
  | ⟨2, _⟩ =>
    show win0_5.index t 2 * 1024 + 1 * q.val = q.val
    rw [hi]; show 0 * 1024 + 1 * q.val = _; omega

theorem whole6 (t : Fin cfg0.N) : (iblk m c 6 t : (⟨2, ![1, 128]⟩ : Shape).Idx → EReal) = V m c main_v0 := by
  have hi := place6 t
  unfold iblk
  funext j
  rw [View.read_apply]
  refine congrArg (V m c main_v0) (funext fun a => Fin.ext ?_)
  match a with
  | ⟨0, _⟩ =>
    show win0_6.index t 0 * 1 + 1 * (j 0).val = (j 0).val
    rw [hi]; show 0 * 1 + 1 * (j 0).val = _; omega
  | ⟨1, _⟩ =>
    show win0_6.index t 1 * 128 + 1 * (j 1).val = (j 1).val
    rw [hi]; show 0 * 128 + 1 * (j 1).val = _; omega

theorem whole7 (t : Fin cfg0.N) : (iblk m c 7 t : (⟨2, ![1024, 1024]⟩ : Shape).Idx → EReal) = V m c main_v1 := by
  have hi := place7 t
  unfold iblk
  funext j
  rw [View.read_apply]
  refine congrArg (V m c main_v1) (funext fun a => Fin.ext ?_)
  match a with
  | ⟨0, _⟩ =>
    show win0_7.index t 0 * 1024 + 1 * (j 0).val = (j 0).val
    rw [hi]; show 0 * 1024 + 1 * (j 0).val = _; omega
  | ⟨1, _⟩ =>
    show win0_7.index t 1 * 1024 + 1 * (j 1).val = (j 1).val
    rw [hi]; show 0 * 1024 + 1 * (j 1).val = _; omega

theorem whole8 (t : Fin cfg0.N) : (iblk m c 8 t : (⟨2, ![1, 1024]⟩ : Shape).Idx → EReal) = V m c main_v2 := by
  have hi := place8 t
  unfold iblk
  funext j
  rw [View.read_apply]
  refine congrArg (V m c main_v2) (funext fun a => Fin.ext ?_)
  match a with
  | ⟨0, _⟩ =>
    show win0_8.index t 0 * 1 + 1 * (j 0).val = (j 0).val
    rw [hi]; show 0 * 1 + 1 * (j 0).val = _; omega
  | ⟨1, _⟩ =>
    show win0_8.index t 1 * 1024 + 1 * (j 1).val = (j 1).val
    rw [hi]; show 0 * 1024 + 1 * (j 1).val = _; omega

theorem whole9 (t : Fin cfg0.N) : (iblk m c 9 t : (⟨2, ![1024, 2816]⟩ : Shape).Idx → EReal) = V m c main_v3 := by
  have hi := place9 t
  unfold iblk
  funext j
  rw [View.read_apply]
  refine congrArg (V m c main_v3) (funext fun a => Fin.ext ?_)
  match a with
  | ⟨0, _⟩ =>
    show win0_9.index t 0 * 1024 + 1 * (j 0).val = (j 0).val
    rw [hi]; show 0 * 1024 + 1 * (j 0).val = _; omega
  | ⟨1, _⟩ =>
    show win0_9.index t 1 * 2816 + 1 * (j 1).val = (j 1).val
    rw [hi]; show 0 * 2816 + 1 * (j 1).val = _; omega

theorem whole10 (t : Fin cfg0.N) : (iblk m c 10 t : (⟨2, ![1024, 2816]⟩ : Shape).Idx → EReal) = V m c main_v4 := by
  have hi := place10 t
  unfold iblk
  funext j
  rw [View.read_apply]
  refine congrArg (V m c main_v4) (funext fun a => Fin.ext ?_)
  match a with
  | ⟨0, _⟩ =>
    show win0_10.index t 0 * 1024 + 1 * (j 0).val = (j 0).val
    rw [hi]; show 0 * 1024 + 1 * (j 0).val = _; omega
  | ⟨1, _⟩ =>
    show win0_10.index t 1 * 2816 + 1 * (j 1).val = (j 1).val
    rw [hi]; show 0 * 2816 + 1 * (j 1).val = _; omega

theorem whole11 (t : Fin cfg0.N) : (iblk m c 11 t : (⟨2, ![2816, 1024]⟩ : Shape).Idx → EReal) = V m c main_v5 := by
  have hi := place11 t
  unfold iblk
  funext j
  rw [View.read_apply]
  refine congrArg (V m c main_v5) (funext fun a => Fin.ext ?_)
  match a with
  | ⟨0, _⟩ =>
    show win0_11.index t 0 * 2816 + 1 * (j 0).val = (j 0).val
    rw [hi]; show 0 * 2816 + 1 * (j 0).val = _; omega
  | ⟨1, _⟩ =>
    show win0_11.index t 1 * 1024 + 1 * (j 1).val = (j 1).val
    rw [hi]; show 0 * 1024 + 1 * (j 1).val = _; omega

theorem block6 (t : Fin cfg0.N) (k : Fin 128) :
    iblk m c 6 t (ix2 0 k) = (m ((c : Thread nD τ).loc main_arg6) : FVec Ideal S128 .f32) (ix1 k) := by
  refine (congrFun (whole6 m c t) (ix2 0 k)).trans ((congrFun (V_v0 m c) (ix2 0 k)).trans ?_)
  pointwise

theorem block8 (t : Fin cfg0.N) (k : Fin 1024) :
    iblk m c 8 t (ix2 0 k) = (m ((c : Thread nD τ).loc main_arg8) : FVec Ideal S1024 .f32) (ix1 k) := by
  refine (congrFun (whole8 m c t) (ix2 0 k)).trans ((congrFun (V_v2 m c) (ix2 0 k)).trans ?_)
  pointwise

theorem block7 (t : Fin cfg0.N) (k : Fin 1024) (q : Fin 1024) :
    iblk m c 7 t (ix2 k q) = (m ((c : Thread nD τ).loc main_arg7) : FVec Ideal S1024x1024 .f32) (ix2 k q) :=
  (congrFun (whole7 m c t) (ix2 k q)).trans (congrFun (V_v1 m c) (ix2 k q))

theorem block9 (t : Fin cfg0.N) (k : Fin 1024) (q : Fin 2816) :
    iblk m c 9 t (ix2 k q) = (m ((c : Thread nD τ).loc main_arg9) : FVec Ideal S1024x2816 .f32) (ix2 k q) :=
  (congrFun (whole9 m c t) (ix2 k q)).trans (congrFun (V_v3 m c) (ix2 k q))

theorem block10 (t : Fin cfg0.N) (k : Fin 1024) (q : Fin 2816) :
    iblk m c 10 t (ix2 k q) = (m ((c : Thread nD τ).loc main_arg10) : FVec Ideal S1024x2816 .f32) (ix2 k q) :=
  (congrFun (whole10 m c t) (ix2 k q)).trans (congrFun (V_v4 m c) (ix2 k q))

theorem block11 (t : Fin cfg0.N) (k : Fin 2816) (q : Fin 1024) :
    iblk m c 11 t (ix2 k q) = (m ((c : Thread nD τ).loc main_arg11) : FVec Ideal S2816x1024 .f32) (ix2 k q) :=
  (congrFun (whole11 m c t) (ix2 k q)).trans (congrFun (V_v5 m c) (ix2 k q))

/-! ## The result -/

/-- What the kernel's arguments make of token `i`. -/
def tokenOf (i : Fin 16384) (j : Fin 1024) : EReal :=
  tokenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i j

/-- Row `r` of what tile `t` leaves. -/
theorem tile_eq (t : Fin cfg0.N) (r : Fin 512) (j : Fin 1024) (h : 512 * t.val + r.val < 16384) :
    out0_12 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix2 r j) = tokenOf m c ⟨512 * t.val + r.val, h⟩ j := by
  have h5 : ∀ k q, iblk m c 5 t (ix3 0 k q) = (m ((c : Thread nD τ).loc main_arg5) : FVec Ideal S8x6x1024 .f32) (ix3 ⟨(512 * t.val + r.val) / 8192, by omega⟩ k q) := fun k q => by
    rw [block5 m c t k q (by omega)]
    congr 2; exact Fin.ext (by simp only []; omega)
  refine (tile_apply (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) r j).trans ?_
  unfold tokenOf tokenAt
  have e0 := fun k => block0 m c t r k h
  have e1 := fun k => block1 m c t r k h
  have e2 := fun k => block2 m c t r k h
  have e3 := fun k => block3 m c t r k h
  have e4 := fun k => block4 m c t r k h
  have e6 := block6 m c t
  have e7 := block7 m c t
  have e8 := block8 m c t
  have e9 := block9 m c t
  have e10 := block10 m c t
  have e11 := block11 m c t
  simp only [e0, e1, e2, e3, e4, h5, e6, e7, e8, e9, e10, e11] <;> rfl

theorem array_apply (i : Fin 16384) (j : Fin 1024) : (dats m 0 c).arrAt 12 cfg0.N (ix2 i j) = tokenOf m c i j := by
  have ht : i.val / 512 < cfg0.N := by have : cfg0.N = 32 := N_0; omega
  have hb := Cert.Kernel3Ideal.Value.blocks12 m c ⟨i.val / 512, ht⟩ (flush0_12 _)
  rw [Cert.Kernel3Ideal.Value.flushed12] at hb
  have hr := congrFun hb (ix2 (⟨i.val % 512, Nat.mod_lt _ (by decide)⟩ : Fin 512) j)
  rw [View.read_apply] at hr
  have hp : ((cfg0.win 12).blk ⟨i.val / 512, ht⟩).view.emb (ix2 (⟨i.val % 512, Nat.mod_lt _ (by decide)⟩ : Fin 512) j) = ix2 i j := funext fun a => Fin.ext (by
    have hi := place12 ⟨i.val / 512, ht⟩
    match a with
    | ⟨0, _⟩ =>
      show win0_12.index ⟨i.val / 512, ht⟩ 0 * 512 + 1 * (i.val % 512) = i.val
      rw [hi]; show i.val / 512 * 512 + 1 * (i.val % 512) = _; omega
    | ⟨1, _⟩ =>
      show win0_12.index ⟨i.val / 512, ht⟩ 1 * 1024 + 1 * j.val = j.val
      rw [hi]; show 0 * 1024 + 1 * j.val = _; omega)
  rw [hp] at hr
  refine hr.trans ((tile_eq m c ⟨i.val / 512, ht⟩ ⟨i.val % 512, Nat.mod_lt _ (by decide)⟩ j (by simp only []; omega)).trans ?_)
  exact congrArg (tokenOf m c · j) (Fin.ext (by simp only []; omega))

end Cert.DenseValue

end
-- ==== Proof.DenseReference.lean ====
/- THE THIRD REFERENCE'S RESULT AT AN INDEX, over the extended reals: each row is the token's. -/
module

public import proofs.«01_k».proof.Proof.Gen.Reference3Ideal.Run
public import proofs.«01_k».proof.Proof.Dense

@[expose] public section

set_option maxRecDepth 16384
set_option Elab.async false

noncomputable section

namespace Cert.DenseRef

open Cert.Reference3Ideal Cert.Reference3Ideal.Gen
open Idealize.ShloMosaic
open Idealize.ShloMosaic.StableHlo
open Cert.Dense

/-- One of the six modulations, at every token. -/
def mods (a : FVec Ideal S8x6x1024 .f32) (k : ℕ) (h : S8x6x1024.Slices ![0, k, 0] S8x1x1024) : FVec Ideal S16384x1024 .f32 :=
  shapeCast _ (broadcastInDim S2x8192x1024 ![0, 1, 2] bcast_S2x1x1024_S2x8192x1024_0_1_2 (broadcastInDim S2x1x1024 ![0, 2] bcast_S2x1024_S2x1x1024_0_2
    (extractStridedSlice S2x1024 ![0, 0] (shapeCast _ (extractStridedSlice S8x1x1024 ![0, k, 0] a h) shapeCasts_S8x1x1024_S8x1024) slices_S8x1024_S2x1024_0_0)))
    shapeCasts_S2x8192x1024_S16384x1024

/-- The gated attention's output by heads. -/
def heads (a b : FVec Ideal S16384x512 .bf16) : FVec Ideal S16384x4x128 .f32 :=
  shapeCast _ (addf (extf .f32 a bitsLt_bf16_f32) (extf .f32 b bitsLt_bf16_f32)) shapeCasts_S16384x512_S16384x4x128

def gate (p : FVec Ideal S16384x2048 .bf16) : FVec Ideal S16384x512 .f32 :=
  extf .f32 (extractStridedSlice S16384x512 ![0, 1024] p slices_S16384x2048_S16384x512_0_1024) bitsLt_bf16_f32

/-- The heads normalised, side by side. -/
def normed (o : FVec Ideal S16384x4x128 .f32) (g : FVec Ideal S128 .f32) : FVec Ideal S16384x512 .f32 :=
  shapeCast _ (mulf (mulf o (broadcastInDim S16384x4x128 ![0, 1, 2] bcast_S16384x4x1_S16384x4x128_0_1_2 (Host.rsqrt (addf (Host.divf
    (broadcastInDim S16384x4x1 ![0, 1] bcast_S16384x4_S16384x4x1_0_1 (Host.reduceAdd (mulf o o) (constant S_ .f32 0x00000000#32) reducesTo_S16384x4x128_S16384x4_d2 h_S_))
    (broadcastInDim S16384x4x1 ![] bcast_S_S16384x4x1 (constant S_ .f32 0x43000000#32))) (broadcastInDim S16384x4x1 ![] bcast_S_S16384x4x1 (constant S_ .f32 0x358637BD#32))))))
    (broadcastInDim S16384x4x128 ![0, 1, 2] bcast_S1x1x128_S16384x4x128_0_1_2 (broadcastInDim S1x1x128 ![2] bcast_S128_S1x1x128_2 g))) shapeCasts_S16384x4x128_S16384x512

/-- The two attentions side by side. -/
def mixed (n r : FVec Ideal S16384x512 .f32) (z : FVec Ideal S16384x512 .bf16) : FVec Ideal S16384x1024 .f32 :=
  concatenate S16384x1024 1 [⟨S16384x512, (mulf n (mulf r (Host.divf (broadcastInDim S16384x512 ![] bcast_S_S16384x512 (constant S_ .f32 0x3F800000#32))
    (addf (broadcastInDim S16384x512 ![] bcast_S_S16384x512 (constant S_ .f32 0x3F800000#32)) (Host.exp (Host.negf r))))))⟩, ⟨S16384x512, (extf .f32 z bitsLt_bf16_f32)⟩]
    concatenates_S16384x512_S16384x512_S16384x1024_d1

/-- The stream after the out-projection. -/
def stream (x g y : FVec Ideal S16384x1024 .f32) (w : FVec Ideal S1024x1024 .f32) : FVec Ideal S16384x1024 .f32 :=
  addf x (mulf g (Host.dotGeneral dot_S16384x1024_S1024x1024_S16384x1024_1_0_0_1_n_n none y w))

/-- The feed-forward's input. -/
def input (x sh sc : FVec Ideal S16384x1024 .f32) (l : FVec Ideal S1024 .f32) : FVec Ideal S16384x1024 .f32 :=
  addf (mulf (mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 l)))
    (addf (broadcastInDim S16384x1024 ![] bcast_S_S16384x1024 (constant S_ .f32 0x3F800000#32)) sc)) sh

/-- The stream after the feed-forward. -/
def final (x h g : FVec Ideal S16384x1024 .f32) (wg wu : FVec Ideal S1024x2816 .f32) (wd : FVec Ideal S2816x1024 .f32) : FVec Ideal S16384x1024 .f32 :=
  have p := Host.dotGeneral dot_S16384x1024_S1024x2816_S16384x2816_1_0_0_1_n_n none h wg
  have one := broadcastInDim S16384x2816 ![] bcast_S_S16384x2816 (constant (F := Ideal) S_ .f32 0x3F800000#32)
  addf x (mulf g (Host.dotGeneral dot_S16384x2816_S2816x1024_S16384x1024_1_0_0_1_n_n none
    (mulf (mulf p (Host.divf one (addf one (Host.exp (Host.negf p))))) (Host.dotGeneral dot_S16384x1024_S1024x2816_S16384x2816_1_0_0_1_n_n none h wu)) wd))

section
variable (m : (ℓ : Loc nD τ sig) → Buf (Elt Ideal) ℓ) (c : Dev nD)

theorem result_eq : Cert.Reference3Ideal.Value.res_main_v74 m c =
    have x := stream (m ((c.tc : Thread nD τ).loc main_arg0)) (mods (m ((c.tc : Thread nD τ).loc main_arg5)) 2 slices_S8x6x1024_S8x1x1024_0_2_0)
      (mixed (normed (heads (m ((c.tc : Thread nD τ).loc main_arg1)) (m ((c.tc : Thread nD τ).loc main_arg2))) (m ((c.tc : Thread nD τ).loc main_arg6)))
        (gate (m ((c.tc : Thread nD τ).loc main_arg3))) (m ((c.tc : Thread nD τ).loc main_arg4))) (m ((c.tc : Thread nD τ).loc main_arg7))
    final x (input x (mods (m ((c.tc : Thread nD τ).loc main_arg5)) 3 slices_S8x6x1024_S8x1x1024_0_3_0) (mods (m ((c.tc : Thread nD τ).loc main_arg5)) 4 slices_S8x6x1024_S8x1x1024_0_4_0)
        (m ((c.tc : Thread nD τ).loc main_arg8))) (mods (m ((c.tc : Thread nD τ).loc main_arg5)) 5 slices_S8x6x1024_S8x1x1024_0_5_0)
      (m ((c.tc : Thread nD τ).loc main_arg9)) (m ((c.tc : Thread nD τ).loc main_arg10)) (m ((c.tc : Thread nD τ).loc main_arg11)) := rfl
end

theorem mods_apply (a : FVec Ideal S8x6x1024 .f32) (k : ℕ) (h : S8x6x1024.Slices ![0, k, 0] S8x1x1024) (hk : k < 6) (i : Fin 16384) (j : Fin 1024) :
    mods a k h (ix2 i j) = a (ix3 ⟨i.val / 8192, by omega⟩ ⟨k, hk⟩ j) := by
  pointwise [mods]

theorem heads_apply (a b : FVec Ideal S16384x512 .bf16) (i : Fin 16384) (h : Fin 4) (j : Fin 128) :
    heads a b (ix3 i h j) = a (ix2 i ⟨128 * h.val + j.val, by omega⟩) + b (ix2 i ⟨128 * h.val + j.val, by omega⟩) := by
  pointwise [heads]
  have e : h.val * 128 = 128 * h.val := Nat.mul_comm _ _
  simp only [e]

theorem normed_apply (o : FVec Ideal S16384x4x128 .f32) (g : FVec Ideal S128 .f32) (i : Fin 16384) (j : Fin 512) :
    normed o g (ix2 i j) = o (ix3 i ⟨j.val / 128, by omega⟩ ⟨j.val % 128, by omega⟩)
      * scale 0x43000000#32 (fun k : Fin 128 => o (ix3 i ⟨j.val / 128, by omega⟩ k)) * g (ix1 ⟨j.val % 128, by omega⟩) := by
  pointwise [normed, scale]

theorem mixed_apply (n r : FVec Ideal S16384x512 .f32) (z : FVec Ideal S16384x512 .bf16) (i : Fin 16384) (j : Fin 1024) :
    mixed n r z (ix2 i j) = if h : j.val < 512 then n (ix2 i ⟨j.val, h⟩) * silu (r (ix2 i ⟨j.val, h⟩)) else z (ix2 i ⟨j.val - 512, by omega⟩) := by
  pointwise [mixed, ← silu_eq]

theorem stream_apply (x g y : FVec Ideal S16384x1024 .f32) (w : FVec Ideal S1024x1024 .f32) (i : Fin 16384) (j : Fin 1024) :
    stream x g y w (ix2 i j) = mid (fun k => x (ix2 i k)) (fun k => y (ix2 i k)) (fun k => g (ix2 i k)) (fun k l => w (ix2 k l)) j := by
  pointwise [stream, mid]

theorem input_apply (x sh sc : FVec Ideal S16384x1024 .f32) (l : FVec Ideal S1024 .f32) (i : Fin 16384) (j : Fin 1024) :
    input x sh sc l (ix2 i j) = modNorm (fun k => x (ix2 i k)) (fun k => l (ix1 k)) (fun k => sh (ix2 i k)) (fun k => sc (ix2 i k)) j := by
  pointwise [input, modNorm, scale]

theorem final_apply (x h g : FVec Ideal S16384x1024 .f32) (wg wu : FVec Ideal S1024x2816 .f32) (wd : FVec Ideal S2816x1024 .f32) (i : Fin 16384) (j : Fin 1024) :
    final x h g wg wu wd (ix2 i j) = last (fun k => x (ix2 i k)) (fun k => h (ix2 i k)) (fun k => g (ix2 i k)) (fun k l => wg (ix2 k l)) (fun k l => wu (ix2 k l))
      (fun k l => wd (ix2 k l)) j := by
  pointwise [final, last, ffTerm, ← Cert.Pairs.glu_eq]

section
variable (m : (ℓ : Loc nD τ sig) → Buf (Elt Ideal) ℓ) (c : Dev nD)
  (x : FVec Ideal S16384x1024 .f32) (a b : FVec Ideal S16384x512 .bf16) (p : FVec Ideal S16384x2048 .bf16) (z : FVec Ideal S16384x512 .bf16) (mo : FVec Ideal S8x6x1024 .f32)
  (g : FVec Ideal S128 .f32) (w : FVec Ideal S1024x1024 .f32) (l : FVec Ideal S1024 .f32) (wg wu : FVec Ideal S1024x2816 .f32) (wd : FVec Ideal S2816x1024 .f32)

/-- Row `i` of the reference's result: the token's. -/
theorem result_apply (h0 : m ((c.tc : Thread nD τ).loc main_arg0) = x) (h1 : m ((c.tc : Thread nD τ).loc main_arg1) = a) (h2 : m ((c.tc : Thread nD τ).loc main_arg2) = b)
    (h3 : m ((c.tc : Thread nD τ).loc main_arg3) = p) (h4 : m ((c.tc : Thread nD τ).loc main_arg4) = z) (h5 : m ((c.tc : Thread nD τ).loc main_arg5) = mo)
    (h6 : m ((c.tc : Thread nD τ).loc main_arg6) = g) (h7 : m ((c.tc : Thread nD τ).loc main_arg7) = w) (h8 : m ((c.tc : Thread nD τ).loc main_arg8) = l)
    (h9 : m ((c.tc : Thread nD τ).loc main_arg9) = wg) (h10 : m ((c.tc : Thread nD τ).loc main_arg10) = wu) (h11 : m ((c.tc : Thread nD τ).loc main_arg11) = wd)
    (i : Fin 16384) (j : Fin 1024) :
    Cert.Reference3Ideal.Value.res_main_v74 m c (ix2 i j)
      = tokenAt x a b p z mo g w l wg wu wd i j := by
  have hr := result_eq m c
  rw [h0, h1, h2, h3, h4, h5, h6, h7, h8, h9, h10, h11] at hr
  have hg : ∀ k : Fin 512, gate p (ix2 i k) = p (ix2 i ⟨1024 + k.val, by omega⟩) := fun k => by pointwise [gate]
  have hn : ∀ k : Fin 512, normed (heads a b) g (ix2 i k)
      = headNorm (fun k => a (ix2 i k) + b (ix2 i k)) (fun k => g (ix1 k)) ⟨k.val / 128, by omega⟩ ⟨k.val % 128, by omega⟩ := fun k => by
    rw [normed_apply]
    simp only [heads_apply]
    rfl
  have hx : ∀ k : Fin 1024, mixed (normed (heads a b) g) (gate p) z (ix2 i k)
      = mix (fun k => a (ix2 i k) + b (ix2 i k)) (fun k => p (ix2 i ⟨1024 + k.val, by omega⟩)) (fun k => z (ix2 i k)) (fun k => g (ix1 k)) k := fun k => by
    rw [mixed_apply]
    simp only [hn, hg]
    rfl
  rw [hr, final_apply]
  simp only [input_apply, stream_apply, mods_apply mo 2 _ (by decide), mods_apply mo 3 _ (by decide), mods_apply mo 4 _ (by decide), mods_apply mo 5 _ (by decide), hx]
  rfl

end

end Cert.DenseRef

end
-- ==== Proof.Combine.lean ====
/- ONE TOKEN OF THE LAST WEIGHTED SUM AND THE LAST NORM, over the extended reals: the function that the fourth kernel computes by tiles of tokens
   and the fourth reference on all tokens at once. -/
module

public import proofs.«01_k».proof.Proof.Dense

@[expose] public section

noncomputable section

namespace Cert.Combine

open Idealize.ShloMosaic
open Cert.Dense (scale)

/-- The stream after the token's two experts. -/
def summed (x y z : Fin 1024 → EReal) (w v : EReal) (gate : Fin 1024 → EReal) (c : Fin 1024) : EReal :=
  x c + gate c * (w * y c + v * z c)

/-- A row normalised. -/
def normed (x ln : Fin 1024 → EReal) (c : Fin 1024) : EReal := x c * scale 0x44800000#32 x * ln c

/-- Token `i` of the whole arrays. Its two experts' rows are rows `i` and `16384 + i` of 1024, each of them two rows of 512; the two weights are
    columns 2 and 3 of the routing. -/
def rowAt (x : (⟨2, ![16384, 1024]⟩ : Shape).Idx → EReal) (y : (⟨2, ![65536, 512]⟩ : Shape).Idx → EReal) (ro : (⟨2, ![16384, 128]⟩ : Shape).Idx → EReal)
    (mo : (⟨3, ![8, 6, 1024]⟩ : Shape).Idx → EReal) (l : (⟨1, ![1024]⟩ : Shape).Idx → EReal) (i : Fin 16384) : Fin 1024 → EReal :=
  normed (summed (fun k => x (ix2 i k)) (fun k => y (ix2 ⟨2 * i.val + k.val / 512, by omega⟩ ⟨k.val % 512, by omega⟩))
    (fun k => y (ix2 ⟨32768 + 2 * i.val + k.val / 512, by omega⟩ ⟨k.val % 512, by omega⟩)) (ro (ix2 i 2)) (ro (ix2 i 3))
    (fun k => mo (ix3 ⟨i.val / 8192, by omega⟩ 5 k))) (fun k => l (ix1 k))

end Cert.Combine

end
-- ==== Proof.CombineTile.lean ====
/- WHAT THE FOURTH KERNEL LEAVES OF A TILE, over the extended reals: each row is the token's. -/
module

public import proofs.«01_k».proof.Proof.Gen.Kernel4Ideal.Frame
public import proofs.«01_k».proof.Proof.Combine

@[expose] public section

set_option maxRecDepth 16384
set_option Elab.async false

noncomputable section

namespace Cert.Combine

open Cert.Kernel4Ideal Cert.Kernel4Ideal.Gen
open Idealize.ShloMosaic

theorem zeros2 : (![0, 0] : Fin 2 → Nat) = fun _ => 0 := funext fun a => by fin_cases a <;> rfl
theorem zeros3 : (![0, 0, 0] : Fin 3 → Nat) = fun _ => 0 := funext fun a => by fin_cases a <;> rfl

/-- The bf16 halves of the words, side by side. -/
def halves (y : Vec Ideal S2048x512 .bf16) : FVec Ideal S1024x1024 .f32 :=
  concatenate S1024x1024 1 [⟨S1024x512, extf (F := Ideal) (φ := .bf16) .f32 (rowsOfParity 0 S1024x512 y bitcasts_S2048x512_w16_S1024x512_w32)⟩,
      ⟨S1024x512, extf (F := Ideal) (φ := .bf16) .f32 (rowsOfParity 1 S1024x512 y bitcasts_S2048x512_w16_S1024x512_w32)⟩]
    concatenates_S1024x512_S1024x512_S1024x1024_d1

theorem halves_apply (y : Vec Ideal S2048x512 .bf16) (r q : Fin 1024) :
    halves y (ix2 r q) = y (ix2 ⟨2 * r.val + q.val / 512, by omega⟩ ⟨q.val % 512, by omega⟩) := by
  pointwise [halves]
  split
  · rename_i h
    congr 2 <;> exact Fin.ext (by simp only []; omega)
  · rename_i h
    congr 2 <;> exact Fin.ext (by simp only []; omega)

/-- The weighted sum of two rows, added to the stream. -/
def sumTile (v : Vec Ideal S1024x128 .f32) (y z : FVec Ideal S1024x1024 .f32) (x : Vec Ideal S1024x1024 .f32) (mo : Vec Ideal S1x6x1024 .f32) :
    FVec Ideal S1024x1024 .f32 :=
  addf (F := Ideal) (φ := .f32) x (mulf (broadcastTo S1024x1024 (extractStridedSlice S1x1024 ![5, 0] (shapeCast S6x1024 mo shapeCasts_S1x6x1024_S6x1024) slices_S6x1024_o5_0_S1x1024)
      broadcasts_S1x1024_S1024x1024)
    (addf (mulf (broadcastTo S1024x1024 (extractStridedSlice S1024x1 ![0, 2] v slices_S1024x128_o0_2_S1024x1) broadcasts_S1024x1_S1024x1024) y)
      (mulf (broadcastTo S1024x1024 (extractStridedSlice S1024x1 ![0, 3] v slices_S1024x128_o0_3_S1024x1) broadcasts_S1024x1_S1024x1024) z)))

theorem pay2_eq (v : Vec Ideal S1024x128 .f32) (y z : Vec Ideal S2048x512 .bf16) (x : Vec Ideal S1024x1024 .f32) (mo : Vec Ideal S1x6x1024 .f32) :
    k0_pay2 (F := Ideal) v y z x mo = sumTile v (halves y) (halves z) x mo := rfl

theorem sumTile_apply (v : Vec Ideal S1024x128 .f32) (y z : FVec Ideal S1024x1024 .f32) (x : Vec Ideal S1024x1024 .f32) (mo : Vec Ideal S1x6x1024 .f32)
    (r c : Fin 1024) : sumTile v y z x mo (ix2 r c)
      = summed (fun k => x (ix2 r k)) (fun k => y (ix2 r k)) (fun k => z (ix2 r k)) (v (ix2 r 2)) (v (ix2 r 3)) (fun k => mo (ix3 0 5 k)) c := by
  pointwise [sumTile, summed]

/-- The rows of a tile normalised. -/
def normTile (x : FVec Ideal S1024x1024 .f32) (l : Vec Ideal S1x1024 .f32) : FVec Ideal S1024x1024 .f32 :=
  k0_pay1 x (k0_pay3 l) (divf (shapeCast S1024x1 (multiReduction .add [1] S1024 (mulf x x) 0x00000000#32 reduces_S1024x1024_S1024 (.inl rfl) rfl)
    shapeCasts_S1024_S1024x1) (broadcast S1024x1 (Scalar.ofBits .f32 0x44800000#32))) k0_pay5

theorem normTile_apply (x : FVec Ideal S1024x1024 .f32) (l : Vec Ideal S1x1024 .f32) (r c : Fin 1024) :
    normTile x l (ix2 r c) = normed (fun k => x (ix2 r k)) (fun k => l (ix2 0 k)) c := by
  pointwise [normTile, k0_pay1, k0_pay3, k0_pay5, normed, Cert.Dense.scale]

theorem tile_apply (x : Vec Ideal S1024x1024 .f32) (y z : Vec Ideal S2048x512 .bf16) (v : Vec Ideal S1024x128 .f32) (mo : Vec Ideal S1x6x1024 .f32)
    (l : Vec Ideal S1x1024 .f32) (r c : Fin 1024) : out0_6 (F := Ideal) x y z v mo l (ix2 r c)
      = normed (summed (fun k => x (ix2 r k)) (fun k => y (ix2 ⟨2 * r.val + k.val / 512, by omega⟩ ⟨k.val % 512, by omega⟩))
        (fun k => z (ix2 ⟨2 * r.val + k.val / 512, by omega⟩ ⟨k.val % 512, by omega⟩)) (v (ix2 r 2)) (v (ix2 r 3)) (fun k => mo (ix3 0 5 k)))
        (fun k => l (ix2 0 k)) c := by
  unfold out0_6
  rw [View.canon_unit_zero zeros2, View.ld_unit_zero zeros2, View.ld_unit_zero zeros2, View.ld_unit_zero zeros2, View.ld_unit_zero zeros2,
    View.ld_unit_zero zeros3, View.ld_unit_zero zeros2]
  refine (normTile_apply (sumTile v (halves y) (halves z) x mo) l r c).trans ?_
  simp only [sumTile_apply, halves_apply]

end Cert.Combine

end
-- ==== Proof.CombineValue.lean ====
/- THE FOURTH KERNEL'S RESULT AT AN INDEX, over the extended reals: tile `t` holds the rows of its 1024 tokens. -/
module

public import proofs.«01_k».proof.Proof.Gen.Kernel4Ideal.Value
public import proofs.«01_k».proof.Proof.CombineTile

@[expose] public section

set_option maxRecDepth 16384
set_option Elab.async false

noncomputable section

namespace Cert.CombineValue

open Cert.Kernel4Ideal Cert.Kernel4Ideal.Gen
open Idealize.ShloMosaic
open Idealize.ShloMosaic.TcCoe
open Cert.Combine

variable (m : (ℓ : Loc nD τ sig) → Buf (Elt Ideal) ℓ) (c : Dev nD)

/-- The last norm's gains, as the host prepares them. -/
theorem V_v0 : V m c main_v0 = shapeCast S1x1024 (m ((c : Thread nD τ).loc main_arg4)) shapeCasts_S1024_S1x1024 := by
  show StableHlo.after hostOps0 _ _ = _
  simp only [hostOps0]
  after_results_simp <;> rfl

/-! ## The blocks' places -/

theorem place0 : ∀ t : Fin cfg0.N, win0_0.index t = ![t.val, 0] := (by decide +kernel : ∀ t : Fin grid0.N, win0_0.index t = ![t.val, 0])
theorem place1 : ∀ t : Fin cfg0.N, win0_1.index t = ![t.val, 0] := (by decide +kernel : ∀ t : Fin grid0.N, win0_1.index t = ![t.val, 0])
theorem place2 : ∀ t : Fin cfg0.N, win0_2.index t = ![t.val + 16, 0] := (by decide +kernel : ∀ t : Fin grid0.N, win0_2.index t = ![t.val + 16, 0])
theorem place3 : ∀ t : Fin cfg0.N, win0_3.index t = ![t.val, 0] := (by decide +kernel : ∀ t : Fin grid0.N, win0_3.index t = ![t.val, 0])
theorem place4 : ∀ t : Fin cfg0.N, win0_4.index t = ![t.val / 8, 0, 0] := (by decide +kernel : ∀ t : Fin grid0.N, win0_4.index t = ![t.val / 8, 0, 0])
theorem place5 : ∀ t : Fin cfg0.N, win0_5.index t = ![0, 0] := (by decide +kernel : ∀ t : Fin grid0.N, win0_5.index t = ![0, 0])
theorem place6 : ∀ t : Fin cfg0.N, win0_6.index t = ![t.val, 0] := (by decide +kernel : ∀ t : Fin grid0.N, win0_6.index t = ![t.val, 0])

/-! ## The blocks' entries: the arguments' own, shifted -/

theorem block0 (t : Fin cfg0.N) (r : Fin 1024) (q : Fin 1024) (h : 1024 * t.val + r.val < 16384) :
    iblk m c 0 t (ix2 r q) = (m ((c : Thread nD τ).loc main_arg0) : FVec Ideal S16384x1024 .f32) (ix2 ⟨1024 * t.val + r.val, h⟩ q) := by
  have hi := place0 t
  rw [← V_main_arg0 m c]
  unfold iblk
  rw [View.read_apply]
  refine congrArg (V m c main_arg0) (funext fun a => Fin.ext ?_)
  match a with
  | ⟨0, _⟩ =>
    show win0_0.index t 0 * 1024 + 1 * r.val = 1024 * t.val + r.val
    rw [hi]; show t.val * 1024 + 1 * r.val = _; omega
  | ⟨1, _⟩ =>
    show win0_0.index t 1 * 1024 + 1 * q.val = q.val
    rw [hi]; show 0 * 1024 + 1 * q.val = _; omega

theorem block1 (t : Fin cfg0.N) (r : Fin 2048) (q : Fin 512) (h : 2048 * t.val + r.val < 65536) :
    iblk m c 1 t (ix2 r q) = (m ((c : Thread nD τ).loc main_arg1) : FVec Ideal S65536x512 .bf16) (ix2 ⟨2048 * t.val + r.val, h⟩ q) := by
  have hi := place1 t
  rw [← V_main_arg1 m c]
  unfold iblk
  rw [View.read_apply]
  refine congrArg (V m c main_arg1) (funext fun a => Fin.ext ?_)
  match a with
  | ⟨0, _⟩ =>
    show win0_1.index t 0 * 2048 + 1 * r.val = 2048 * t.val + r.val
    rw [hi]; show t.val * 2048 + 1 * r.val = _; omega
  | ⟨1, _⟩ =>
    show win0_1.index t 1 * 512 + 1 * q.val = q.val
    rw [hi]; show 0 * 512 + 1 * q.val = _; omega

theorem block2 (t : Fin cfg0.N) (r : Fin 2048) (q : Fin 512) (h : 32768 + 2048 * t.val + r.val < 65536) :
    iblk m c 2 t (ix2 r q) = (m ((c : Thread nD τ).loc main_arg1) : FVec Ideal S65536x512 .bf16) (ix2 ⟨32768 + 2048 * t.val + r.val, h⟩ q) := by
  have hi := place2 t
  rw [← V_main_arg1 m c]
  unfold iblk
  rw [View.read_apply]
  refine congrArg (V m c main_arg1) (funext fun a => Fin.ext ?_)
  match a with
  | ⟨0, _⟩ =>
    show win0_2.index t 0 * 2048 + 1 * r.val = 32768 + 2048 * t.val + r.val
    rw [hi]; show (t.val + 16) * 2048 + 1 * r.val = _; omega
  | ⟨1, _⟩ =>
    show win0_2.index t 1 * 512 + 1 * q.val = q.val
    rw [hi]; show 0 * 512 + 1 * q.val = _; omega

theorem block3 (t : Fin cfg0.N) (r : Fin 1024) (q : Fin 128) (h : 1024 * t.val + r.val < 16384) :
    iblk m c 3 t (ix2 r q) = (m ((c : Thread nD τ).loc main_arg2) : FVec Ideal S16384x128 .f32) (ix2 ⟨1024 * t.val + r.val, h⟩ q) := by
  have hi := place3 t
  rw [← V_main_arg2 m c]
  unfold iblk
  rw [View.read_apply]
  refine congrArg (V m c main_arg2) (funext fun a => Fin.ext ?_)
  match a with
  | ⟨0, _⟩ =>
    show win0_3.index t 0 * 1024 + 1 * r.val = 1024 * t.val + r.val
    rw [hi]; show t.val * 1024 + 1 * r.val = _; omega
  | ⟨1, _⟩ =>
    show win0_3.index t 1 * 128 + 1 * q.val = q.val
    rw [hi]; show 0 * 128 + 1 * q.val = _; omega

theorem block4 (t : Fin cfg0.N) (k : Fin 6) (q : Fin 1024) (h : t.val / 8 < 8) :
    iblk m c 4 t (ix3 0 k q) = (m ((c : Thread nD τ).loc main_arg3) : FVec Ideal S8x6x1024 .f32) (ix3 ⟨t.val / 8, h⟩ k q) := by
  have hi := place4 t
  rw [← V_main_arg3 m c]
  unfold iblk
  rw [View.read_apply]
  refine congrArg (V m c main_arg3) (funext fun a => Fin.ext ?_)
  match a with
  | ⟨0, _⟩ =>
    show win0_4.index t 0 * 1 + 1 * 0 = t.val / 8
    rw [hi]; show t.val / 8 * 1 + 1 * 0 = _; omega
  | ⟨1, _⟩ =>
    show win0_4.index t 1 * 6 + 1 * k.val = k.val
    rw [hi]; show 0 * 6 + 1 * k.val = _; omega
  | ⟨2, _⟩ =>
    show win0_4.index t 2 * 1024 + 1 * q.val = q.val
    rw [hi]; show 0 * 1024 + 1 * q.val = _; omega

theorem whole5 (t : Fin cfg0.N) : (iblk m c 5 t : (⟨2, ![1, 1024]⟩ : Shape).Idx → EReal) = V m c main_v0 := by
  have hi := place5 t
  unfold iblk
  funext j
  rw [View.read_apply]
  refine congrArg (V m c main_v0) (funext fun a => Fin.ext ?_)
  match a with
  | ⟨0, _⟩ =>
    show win0_5.index t 0 * 1 + 1 * (j 0).val = (j 0).val
    rw [hi]; show 0 * 1 + 1 * (j 0).val = _; omega
  | ⟨1, _⟩ =>
    show win0_5.index t 1 * 1024 + 1 * (j 1).val = (j 1).val
    rw [hi]; show 0 * 1024 + 1 * (j 1).val = _; omega

theorem block5 (t : Fin cfg0.N) (k : Fin 1024) :
    iblk m c 5 t (ix2 0 k) = (m ((c : Thread nD τ).loc main_arg4) : FVec Ideal S1024 .f32) (ix1 k) := by
  refine (congrFun (whole5 m c t) (ix2 0 k)).trans ((congrFun (V_v0 m c) (ix2 0 k)).trans ?_)
  pointwise

/-! ## The result -/

/-- What the kernel's arguments make of token `i`. -/
def rowOf (i : Fin 16384) (j : Fin 1024) : EReal :=
  rowAt (m ((c : Thread nD τ).loc main_arg0)) (m ((c : Thread nD τ).loc main_arg1)) (m ((c : Thread nD τ).loc main_arg2)) (m ((c : Thread nD τ).loc main_arg3))
    (m ((c : Thread nD τ).loc main_arg4)) i j

/-- Row `r` of what tile `t` leaves. -/
theorem tile_eq (t : Fin cfg0.N) (r j : Fin 1024) (h : 1024 * t.val + r.val < 16384) :
    out0_6 (F := Ideal) (iblk m c 0 t) (iblk m c 1 t) (iblk m c 2 t) (iblk m c 3 t) (iblk m c 4 t) (iblk m c 5 t) (ix2 r j)
      = rowOf m c ⟨1024 * t.val + r.val, h⟩ j := by
  refine (tile_apply (iblk m c 0 t) (iblk m c 1 t) (iblk m c 2 t) (iblk m c 3 t) (iblk m c 4 t) (iblk m c 5 t) r j).trans ?_
  unfold rowOf rowAt
  have e0 := fun k => block0 m c t r k h
  have e1 : ∀ k : Fin 1024, iblk m c 1 t (ix2 (⟨2 * r.val + k.val / 512, by omega⟩ : Fin 2048) (⟨k.val % 512, by omega⟩ : Fin 512))
      = (m ((c : Thread nD τ).loc main_arg1) : FVec Ideal S65536x512 .bf16) (ix2 ⟨2 * (1024 * t.val + r.val) + k.val / 512, by omega⟩ ⟨k.val % 512, by omega⟩) := fun k => by
    rw [block1 m c t _ _ (by simp only []; omega)]
    congr 2; exact Fin.ext (by simp only []; omega)
  have e2 : ∀ k : Fin 1024, iblk m c 2 t (ix2 (⟨2 * r.val + k.val / 512, by omega⟩ : Fin 2048) (⟨k.val % 512, by omega⟩ : Fin 512))
      = (m ((c : Thread nD τ).loc main_arg1) : FVec Ideal S65536x512 .bf16) (ix2 ⟨32768 + 2 * (1024 * t.val + r.val) + k.val / 512, by omega⟩ ⟨k.val % 512, by omega⟩) := fun k => by
    rw [block2 m c t _ _ (by simp only []; omega)]
    congr 2; exact Fin.ext (by simp only []; omega)
  have e3 := fun k => block3 m c t r k h
  have e4 : ∀ k q, iblk m c 4 t (ix3 0 k q) = (m ((c : Thread nD τ).loc main_arg3) : FVec Ideal S8x6x1024 .f32) (ix3 ⟨(1024 * t.val + r.val) / 8192, by omega⟩ k q) := fun k q => by
    rw [block4 m c t k q (by omega)]
    congr 2; exact Fin.ext (by simp only []; omega)
  have e5 := block5 m c t
  simp only [e0, e1, e2, e3, e4, e5] <;> rfl

theorem array_apply (i : Fin 16384) (j : Fin 1024) : (dats m 0 c).arrAt 6 cfg0.N (ix2 i j) = rowOf m c i j := by
  have ht : i.val / 1024 < cfg0.N := by have : cfg0.N = 16 := N_0; omega
  have hb := Cert.Kernel4Ideal.Value.blocks6 m c ⟨i.val / 1024, ht⟩ (flush0_6 _)
  rw [Cert.Kernel4Ideal.Value.flushed6] at hb
  have hr := congrFun hb (ix2 (⟨i.val % 1024, Nat.mod_lt _ (by decide)⟩ : Fin 1024) j)
  rw [View.read_apply] at hr
  have hp : ((cfg0.win 6).blk ⟨i.val / 1024, ht⟩).view.emb (ix2 (⟨i.val % 1024, Nat.mod_lt _ (by decide)⟩ : Fin 1024) j) = ix2 i j := funext fun a => Fin.ext (by
    have hi := place6 ⟨i.val / 1024, ht⟩
    match a with
    | ⟨0, _⟩ =>
      show win0_6.index ⟨i.val / 1024, ht⟩ 0 * 1024 + 1 * (i.val % 1024) = i.val
      rw [hi]; show i.val / 1024 * 1024 + 1 * (i.val % 1024) = _; omega
    | ⟨1, _⟩ =>
      show win0_6.index ⟨i.val / 1024, ht⟩ 1 * 1024 + 1 * j.val = j.val
      rw [hi]; show 0 * 1024 + 1 * j.val = _; omega)
  rw [hp] at hr
  refine hr.trans ((tile_eq m c ⟨i.val / 1024, ht⟩ ⟨i.val % 1024, Nat.mod_lt _ (by decide)⟩ j (by simp only []; omega)).trans ?_)
  exact congrArg (rowOf m c · j) (Fin.ext (by simp only []; omega))

end Cert.CombineValue

end
-- ==== Proof.CombineReference.lean ====
/- THE FOURTH REFERENCE'S RESULT AT AN INDEX, over the extended reals: each row is the token's. -/
module

public import proofs.«01_k».proof.Proof.Gen.Reference4Ideal.Run
public import proofs.«01_k».proof.Proof.Combine

@[expose] public section

set_option maxRecDepth 16384
set_option Elab.async false

noncomputable section

namespace Cert.CombineRef

open Cert.Reference4Ideal Cert.Reference4Ideal.Gen
open Idealize.ShloMosaic
open Idealize.ShloMosaic.StableHlo
open Cert.Combine

/-- The gate at every token. -/
def gate (a : FVec Ideal S8x6x1024 .f32) : FVec Ideal S16384x1024 .f32 :=
  shapeCast _ (broadcastInDim S2x8192x1024 ![0, 1, 2] bcast_S2x1x1024_S2x8192x1024_0_1_2 (broadcastInDim S2x1x1024 ![0, 2] bcast_S2x1024_S2x1x1024_0_2
    (shapeCast _ (extractStridedSlice S2x1x1024 ![0, 5, 0] a slices_S8x6x1024_S2x1x1024_0_5_0) shapeCasts_S2x1x1024_S2x1024)))
    shapeCasts_S2x8192x1024_S16384x1024

/-- The two experts' rows of every token. -/
def firstRows (a : FVec Ideal S65536x512 .bf16) : FVec Ideal S16384x1024 .f32 :=
  shapeCast _ (extractStridedSlice S1x16384x1024 ![0, 0, 0] (shapeCast _ (extf .f32 a bitsLt_bf16_f32) shapeCasts_S65536x512_S2x16384x1024)
    slices_S2x16384x1024_S1x16384x1024_0_0_0) shapeCasts_S1x16384x1024_S16384x1024

def secondRows (a : FVec Ideal S65536x512 .bf16) : FVec Ideal S16384x1024 .f32 :=
  shapeCast _ (extractStridedSlice S1x16384x1024 ![1, 0, 0] (shapeCast _ (extf .f32 a bitsLt_bf16_f32) shapeCasts_S65536x512_S2x16384x1024)
    slices_S2x16384x1024_S1x16384x1024_1_0_0) shapeCasts_S1x16384x1024_S16384x1024

/-- The weighted sum, added to the stream. -/
def total (x g y z : FVec Ideal S16384x1024 .f32) (ro : FVec Ideal S16384x128 .f32) : FVec Ideal S16384x1024 .f32 :=
  addf x (mulf g (addf (mulf (broadcastInDim S16384x1024 ![0, 1] bcast_S16384x1_S16384x1024_0_1 (extractStridedSlice S16384x1 ![0, 2] ro slices_S16384x128_S16384x1_0_2)) y)
    (mulf (broadcastInDim S16384x1024 ![0, 1] bcast_S16384x1_S16384x1024_0_1 (extractStridedSlice S16384x1 ![0, 3] ro slices_S16384x128_S16384x1_0_3)) z)))

/-- Every row normalised. -/
def rows (x : FVec Ideal S16384x1024 .f32) (l : FVec Ideal S1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 l))

theorem gate_apply (a : FVec Ideal S8x6x1024 .f32) (i : Fin 16384) (j : Fin 1024) : gate a (ix2 i j) = a (ix3 ⟨i.val / 8192, by omega⟩ 5 j) := by
  pointwise [gate]

/-- The rows in two stacks of 16384. -/
def stacked (a : FVec Ideal S65536x512 .bf16) : FVec Ideal S2x16384x1024 .f32 :=
  shapeCast _ (extf .f32 a bitsLt_bf16_f32) shapeCasts_S65536x512_S2x16384x1024

theorem stacked_apply (a : FVec Ideal S65536x512 .bf16) (h : Fin 2) (i : Fin 16384) (j : Fin 1024) :
    stacked a (ix3 h i j) = a (ix2 ⟨32768 * h.val + 2 * i.val + j.val / 512, by omega⟩ ⟨j.val % 512, by omega⟩) := by
  pointwise [stacked]
  congr 2; exact Fin.ext (by simp only []; omega)

theorem first_apply (s : FVec Ideal S2x16384x1024 .f32) (i : Fin 16384) (j : Fin 1024) :
    shapeCast S16384x1024 (extractStridedSlice S1x16384x1024 ![0, 0, 0] s slices_S2x16384x1024_S1x16384x1024_0_0_0) shapeCasts_S1x16384x1024_S16384x1024 (ix2 i j)
      = s (ix3 0 i j) := by
  pointwise

theorem second_apply (s : FVec Ideal S2x16384x1024 .f32) (i : Fin 16384) (j : Fin 1024) :
    shapeCast S16384x1024 (extractStridedSlice S1x16384x1024 ![1, 0, 0] s slices_S2x16384x1024_S1x16384x1024_1_0_0) shapeCasts_S1x16384x1024_S16384x1024 (ix2 i j)
      = s (ix3 1 i j) := by
  pointwise

theorem firstRows_apply (a : FVec Ideal S65536x512 .bf16) (i : Fin 16384) (j : Fin 1024) :
    firstRows a (ix2 i j) = a (ix2 ⟨2 * i.val + j.val / 512, by omega⟩ ⟨j.val % 512, by omega⟩) := by
  refine (first_apply (stacked a) i j).trans ((stacked_apply a 0 i j).trans ?_)
  congr 2; exact Fin.ext (by simp only [Fin.val_zero]; omega)

theorem secondRows_apply (a : FVec Ideal S65536x512 .bf16) (i : Fin 16384) (j : Fin 1024) :
    secondRows a (ix2 i j) = a (ix2 ⟨32768 + 2 * i.val + j.val / 512, by omega⟩ ⟨j.val % 512, by omega⟩) := by
  refine (second_apply (stacked a) i j).trans ((stacked_apply a 1 i j).trans ?_)
  congr 2

theorem total_apply (x g y z : FVec Ideal S16384x1024 .f32) (ro : FVec Ideal S16384x128 .f32) (i : Fin 16384) (j : Fin 1024) :
    total x g y z ro (ix2 i j)
      = summed (fun k => x (ix2 i k)) (fun k => y (ix2 i k)) (fun k => z (ix2 i k)) (ro (ix2 i 2)) (ro (ix2 i 3)) (fun k => g (ix2 i k)) j := by
  pointwise [total, summed]

theorem rows_apply (x : FVec Ideal S16384x1024 .f32) (l : FVec Ideal S1024 .f32) (i : Fin 16384) (j : Fin 1024) :
    rows x l (ix2 i j) = normed (fun k => x (ix2 i k)) (fun k => l (ix1 k)) j := by
  pointwise [rows, normed, Cert.Dense.scale]

variable (m : (ℓ : Loc nD τ sig) → Buf (Elt Ideal) ℓ) (c : Dev nD)

theorem result_eq : Cert.Reference4Ideal.Value.res_out0 m c =
    rows (total (m ((c.tc : Thread nD τ).loc main_arg0)) (gate (m ((c.tc : Thread nD τ).loc main_arg3))) (firstRows (m ((c.tc : Thread nD τ).loc main_arg1)))
      (secondRows (m ((c.tc : Thread nD τ).loc main_arg1))) (m ((c.tc : Thread nD τ).loc main_arg2))) (m ((c.tc : Thread nD τ).loc main_arg4)) := rfl

/-- Row `i` of the reference's result: the token's. -/
theorem result_apply (x : FVec Ideal S16384x1024 .f32) (y : FVec Ideal S65536x512 .bf16) (ro : FVec Ideal S16384x128 .f32) (mo : FVec Ideal S8x6x1024 .f32)
    (l : FVec Ideal S1024 .f32) (h0 : m ((c.tc : Thread nD τ).loc main_arg0) = x) (h1 : m ((c.tc : Thread nD τ).loc main_arg1) = y)
    (h2 : m ((c.tc : Thread nD τ).loc main_arg2) = ro) (h3 : m ((c.tc : Thread nD τ).loc main_arg3) = mo) (h4 : m ((c.tc : Thread nD τ).loc main_arg4) = l)
    (i : Fin 16384) (j : Fin 1024) : Cert.Reference4Ideal.Value.res_out0 m c (ix2 i j) = rowAt x y ro mo l i j := by
  have hr := result_eq m c
  rw [h0, h1, h2, h3, h4] at hr
  refine (congrFun hr (ix2 i j)).trans ?_
  rw [rows_apply]
  simp only [total_apply, gate_apply, firstRows_apply, secondRows_apply]
  rfl

end Cert.CombineRef

end
-- ==== Proof.InProj.lean ====
/- ONE TOKEN OF THE IN-PROJECTION AND ONE BLOCK'S LARGEST GATES, over the extended reals: the functions that the fifth kernel computes by tiles of
   tokens and the fifth reference on all tokens at once. -/
module

public import proofs.«01_k».proof.Proof.Dense

@[expose] public section

noncomputable section

namespace Cert.InProj

open Idealize.ShloMosaic
open Cert.Dense (modNorm)

/-- A row times the weights. -/
def proj (h : Fin 1024 → EReal) (w : Fin 1024 → Fin 2048 → EReal) (c : Fin 2048) : EReal := ∑ k, h k * w k c

/-- A gate's argument, negated, from the last 128 columns of the row. -/
def neg (p : Fin 2048 → EReal) (wg : Fin 128 → Fin 256 → EReal) (b : Fin 256 → EReal) (j : Fin 256) : EReal :=
  -(∑ k : Fin 128, p ⟨1920 + k.val, by omega⟩ * wg k j + b j)

/-- What a maximum starts from, as it is printed. -/
def floor : EReal := Ideal.ofBits .f32 0xFF800000#32

/-- The largest of a block of 256 rows and 256 columns. -/
def largest (n : Fin 256 → Fin 256 → EReal) : EReal := (Finset.univ : Finset (Fin 256 × Fin 256)).fold max floor fun k => n k.1 k.2

/-- The largest column's largest. -/
theorem largest_eq (n : Fin 256 → Fin 256 → EReal) :
    (Finset.univ.fold max floor fun j => Finset.univ.fold max floor fun i => n i j) = largest n := by
  unfold largest
  refine le_antisymm ?_ ?_
  · rw [Finset.fold_max_le]
    refine ⟨(Finset.le_fold_max _).mpr (.inl le_rfl), fun j _ => ?_⟩
    rw [Finset.fold_max_le]
    exact ⟨(Finset.le_fold_max _).mpr (.inl le_rfl), fun i _ => (Finset.le_fold_max _).mpr (.inr ⟨(i, j), Finset.mem_univ _, le_rfl⟩)⟩
  · rw [Finset.fold_max_le]
    refine ⟨(Finset.le_fold_max _).mpr (.inl le_rfl), fun k _ => ?_⟩
    exact (Finset.le_fold_max _).mpr (.inr ⟨k.2, Finset.mem_univ _, (Finset.le_fold_max _).mpr (.inr ⟨k.1, Finset.mem_univ _, le_rfl⟩)⟩)

/-- Row `s` of a block's gates: the two directions' largest, then zeros. -/
def entry (a b : EReal) (s : Fin 8) : EReal := if s.val = 0 then a else if s.val = 1 then b else 0

/-- The weights with the gates' columns behind the others, and zero columns after them. -/
def wide (w : (⟨2, ![1024, 2016]⟩ : Shape).Idx → EReal) (k : Fin 1024) (c : Fin 2048) : EReal :=
  if h : c.val < 1024 then w (ix2 k ⟨c.val, by omega⟩)
  else if h : c.val < 1984 then w (ix2 k ⟨c.val + 32, by omega⟩)
  else if h : c.val < 2016 then w (ix2 k ⟨c.val - 960, by omega⟩) else 0

/-- Direction `z`'s second weights among 128 rows. -/
def tall (g : (⟨3, ![2, 16, 256]⟩ : Shape).Idx → EReal) (z : Fin 2) (k : Fin 128) (c : Fin 256) : EReal :=
  if h : 64 + 16 * z.val ≤ k.val ∧ k.val < 80 + 16 * z.val then g (ix3 z ⟨k.val - (64 + 16 * z.val), by omega⟩ c) else 0

/-- A row times the widened weights: the row's own products, moved, and zeros. -/
theorem proj_wide (h : Fin 1024 → EReal) (w : (⟨2, ![1024, 2016]⟩ : Shape).Idx → EReal) (c : Fin 2048) : proj h (wide w) c =
    if h' : c.val < 1024 then ∑ k, h k * w (ix2 k ⟨c.val, by omega⟩)
    else if h' : c.val < 1984 then ∑ k, h k * w (ix2 k ⟨c.val + 32, by omega⟩)
    else if h' : c.val < 2016 then ∑ k, h k * w (ix2 k ⟨c.val - 960, by omega⟩) else 0 := by
  unfold proj wide
  split_ifs
  · rfl
  · rfl
  · rfl
  · exact Finset.sum_eq_zero fun k _ => mul_zero _

/-- The gates' arguments need the sixteen rows alone. -/
theorem neg_tall (p : Fin 2048 → EReal) (g : (⟨3, ![2, 16, 256]⟩ : Shape).Idx → EReal) (z : Fin 2) (b : Fin 256 → EReal) (j : Fin 256) :
    neg p (tall g z) b j = -(∑ k : Fin 16, p ⟨1984 + 16 * z.val + k.val, by omega⟩ * g (ix3 z k j) + b j) := by
  unfold neg
  refine congrArg (fun s => -(s + b j)) (Eq.symm ?_)
  refine Finset.sum_of_injOn (fun k : Fin 16 => (⟨64 + 16 * z.val + k.val, by omega⟩ : Fin 128)) ?_ ?_ ?_ ?_
  · intro a _ a' _ e
    have := Fin.mk.inj e
    exact Fin.ext (by omega)
  · exact fun _ _ => Finset.mem_coe.mpr (Finset.mem_univ _)
  · intro k _ hk
    have : ¬(64 + 16 * z.val ≤ k.val ∧ k.val < 80 + 16 * z.val) := fun ⟨ha, hb⟩ =>
      hk ⟨⟨k.val - (64 + 16 * z.val), by omega⟩, Finset.mem_coe.mpr (Finset.mem_univ _), Fin.ext (by simp only []; omega)⟩
    unfold tall
    rw [dif_neg this, mul_zero]
  · intro k _
    unfold tall
    rw [dif_pos ⟨by simp only []; omega, by simp only []; omega⟩]
    refine congrArg₂ (· * ·) (congrArg p (Fin.ext (by simp only []; omega))) (congrArg (fun q => g (ix3 z q j)) (Fin.ext (by simp only []; omega)))

/-- Token `i` of the whole arrays. -/
def rowAt (x : (⟨2, ![16384, 1024]⟩ : Shape).Idx → EReal) (mo : (⟨3, ![8, 6, 1024]⟩ : Shape).Idx → EReal) (l : (⟨1, ![1024]⟩ : Shape).Idx → EReal)
    (w : (⟨2, ![1024, 2016]⟩ : Shape).Idx → EReal) (i : Fin 16384) : Fin 2048 → EReal :=
  proj (modNorm (fun k => x (ix2 i k)) (fun k => l (ix1 k)) (fun k => mo (ix3 ⟨i.val / 8192, by omega⟩ 0 k)) (fun k => mo (ix3 ⟨i.val / 8192, by omega⟩ 1 k)))
    (wide w)

/-- Direction `z`'s largest gate of the block of 256 tokens `q`, of the rows `p`. -/
def gateOf (p : Fin 16384 → Fin 2048 → EReal) (g : (⟨3, ![2, 16, 256]⟩ : Shape).Idx → EReal) (bg : (⟨2, ![2, 256]⟩ : Shape).Idx → EReal)
    (z : Fin 2) (q : Fin 64) : EReal :=
  largest fun r j => neg (p ⟨256 * q.val + r.val, by omega⟩) (tall g z) (fun c => bg (ix2 z c)) j

end Cert.InProj

end
-- ==== Proof.InProjTile.lean ====
/- WHAT THE FIFTH KERNEL LEAVES OF A TILE, over the extended reals: each row is the token's, and each row of gates its block's. -/
module

public import proofs.«01_k».proof.Proof.Gen.Kernel5Ideal.Frame
public import proofs.«01_k».proof.Proof.InProj

@[expose] public section

set_option maxRecDepth 16384
set_option Elab.async false

noncomputable section

namespace Cert.InProj

open Cert.Kernel5Ideal Cert.Kernel5Ideal.Gen
open Idealize.ShloMosaic
open Cert.Dense (modNorm scale)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The rows of half a tile, normed and modulated. -/
def normTile (mo : Vec Ideal S1x6x1024 .f32) (x : Vec Ideal S512x1024 .f32) (l : Vec Ideal S1x1024 .f32) : FVec Ideal S512x1024 .f32 :=
  addf (F := Ideal) (φ := .f32) (mulf (k0_pay10 x l) (broadcastTo S512x1024 (addf (F := Ideal) (φ := .f32) k0_pay12 (k0_pay11 (k0_pay2 mo))) broadcasts_S1x1024_S512x1024))
    (broadcastTo S512x1024 (extractStridedSlice S1x1024 ![0, 0] (k0_pay2 mo) slices_S6x1024_o0_0_S1x1024) broadcasts_S1x1024_S512x1024)

theorem normTile_apply (mo : Vec Ideal S1x6x1024 .f32) (x : Vec Ideal S512x1024 .f32) (l : Vec Ideal S1x1024 .f32) (r : Fin 512) (c : Fin 1024) :
    normTile mo x l (ix2 r c) = modNorm (fun k => x (ix2 r k)) (fun k => l (ix2 0 k)) (fun k => mo (ix3 0 0 k)) (fun k => mo (ix3 0 1 k)) c := by
  pointwise [normTile, k0_pay10, k0_pay2, k0_pay11, k0_pay12, modNorm, scale]

/-- Rows times the weights. -/
def projTile (h : FVec Ideal S512x1024 .f32) (w : Vec Ideal S1024x2048 .bf16) : FVec Ideal S512x2048 .bf16 :=
  truncf .bf16 (matmul (F := Ideal) (φ₁ := .bf16) (φ₂ := .bf16) dot_S512x1024_S1024x2048_S512x2048_1_0_0_1_n_n none (truncf (F := Ideal) (φ := .f32) .bf16 h bitsLt_bf16_f32)
    (shapeCast S1024x2048 w shapeCasts_S1024x2048_S1024x2048) (constant S512x2048 .f32 0x00000000#32)) bitsLt_bf16_f32

theorem pay3_eq (mo : Vec Ideal S1x6x1024 .f32) (x : Vec Ideal S512x1024 .f32) (l : Vec Ideal S1x1024 .f32) (w : Vec Ideal S1024x2048 .bf16) :
    k0_pay3 (F := Ideal) mo x l w = projTile (normTile mo x l) w := rfl

theorem pay13_eq (mo : Vec Ideal S1x6x1024 .f32) (x : Vec Ideal S512x1024 .f32) (l : Vec Ideal S1x1024 .f32) (w : Vec Ideal S1024x2048 .bf16) :
    k0_pay13 (F := Ideal) (k0_pay2 mo) (k0_pay10 x l) (k0_pay11 (k0_pay2 mo)) k0_pay12 w = projTile (normTile mo x l) w := rfl

theorem projTile_apply (h : FVec Ideal S512x1024 .f32) (w : Vec Ideal S1024x2048 .bf16) (r : Fin 512) (c : Fin 2048) :
    projTile h w (ix2 r c) = proj (fun k => h (ix2 r k)) (fun k q => w (ix2 k q)) c := by
  pointwise [projTile, proj]

/-- The gates' arguments, negated. -/
def negTile (p : FVec Ideal S512x2048 .bf16) (w : Vec Ideal S1x128x256 .bf16) (b : Vec Ideal S1x1x256 .f32) : FVec Ideal S512x256 .f32 :=
  k0_pay7 (extractStridedSlice S512x128 ![0, 1920] p slices_S512x2048_o0_1920_S512x128) w b

theorem negTile_apply (p : FVec Ideal S512x2048 .bf16) (w : Vec Ideal S1x128x256 .bf16) (b : Vec Ideal S1x1x256 .f32) (r : Fin 512) (j : Fin 256) :
    negTile p w b (ix2 r j) = neg (fun k => p (ix2 r k)) (fun k c => w (ix3 0 k c)) (fun c => b (ix3 0 0 c)) j := by
  pointwise [negTile, k0_pay7, neg]
  exact zero_sub _

/-- The largest of a block. -/
def worst (b : FVec Ideal S256x256 .f32) : FVec Ideal S1x1 .f32 :=
  shapeCast S1x1 (multiReduction .maximumf [1] S1 (shapeCast S1x256 (multiReduction .maximumf [0] S256 b 0xFF800000#32 reduces_S256x256_S256 (.inl rfl) rfl)
    shapeCasts_S256_S1x256) 0xFF800000#32 reduces_S1x256_S1 (.inl rfl) rfl) shapeCasts_S1_S1x1

theorem worst_apply (b : FVec Ideal S256x256 .f32) : worst b (ix2 0 0) = largest fun i j => b (ix2 i j) := by
  rw [← largest_eq]
  pointwise [worst, floor]

/-- The two directions' in rows 0 and 1. -/
def gates (u v : FVec Ideal S1x1 .f32) : FVec Ideal S1x8x128 .f32 :=
  shapeCast S1x8x128 (select (cmpi .eq (iota .tc S8x128 32 [0] iota_S8x128_d0_w32) (broadcast S8x128 0#32))
    (broadcastTo S8x128 (shapeCast S1x1 u shapeCasts_S1x1_S1x1) broadcasts_S1x1_S8x128)
    (select (cmpi .eq (iota .tc S8x128 32 [0] iota_S8x128_d0_w32) (broadcast S8x128 1#32))
      (broadcastTo S8x128 (shapeCast S1x1 v shapeCasts_S1x1_S1x1) broadcasts_S1x1_S8x128) (broadcast S8x128 (Scalar.ofBits (F := Ideal) .f32 0x00000000#32)))) shapeCasts_S8x128_S1x8x128

theorem gates_apply (u v : FVec Ideal S1x1 .f32) (s : Fin 8) (k : Fin 128) :
    gates u v (ix3 0 s k) = entry (u (ix2 0 0)) (v (ix2 0 0)) s := by
  pointwise [gates, entry]
  fin_cases s <;> rfl

/-! ## The payloads of the second output -/

def first (n : FVec Ideal S512x256 .f32) : FVec Ideal S256x256 .f32 := extractStridedSlice S256x256 ![0, 0] n slices_S512x256_o0_0_S256x256
def second (n : FVec Ideal S512x256 .f32) : FVec Ideal S256x256 .f32 := extractStridedSlice S256x256 ![256, 0] n slices_S512x256_o256_0_S256x256

theorem first_apply (n : FVec Ideal S512x256 .f32) (i j : Fin 256) : first n (ix2 i j) = n (ix2 ⟨i.val, by omega⟩ j) := by pointwise [first]
theorem second_apply (n : FVec Ideal S512x256 .f32) (i j : Fin 256) : second n (ix2 i j) = n (ix2 ⟨256 + i.val, by omega⟩ j) := by pointwise [second]

section
variable (mo : Vec Ideal S1x6x1024 .f32) (x : Vec Ideal S512x1024 .f32) (l : Vec Ideal S1x1024 .f32) (w : Vec Ideal S1024x2048 .bf16)
  (w0 w1 : Vec Ideal S1x128x256 .bf16) (b0 b1 : Vec Ideal S1x1x256 .f32)

theorem pay8_eq : k0_pay8 (F := Ideal) (iota .tc S8x128 32 [0] iota_S8x128_d0_w32) (k0_pay4 mo x l w) (k0_pay5 mo x l w w0) b0 w1 b1
    = gates (worst (first (negTile (projTile (normTile mo x l) w) w0 b0))) (worst (first (negTile (projTile (normTile mo x l) w) w1 b1))) := rfl

theorem pay9_eq : k0_pay9 (F := Ideal) (iota .tc S8x128 32 [0] iota_S8x128_d0_w32) (k0_pay6 (k0_pay5 mo x l w w0) b0) (k0_pay7 (k0_pay4 mo x l w) w1 b1)
    = gates (worst (second (negTile (projTile (normTile mo x l) w) w0 b0))) (worst (second (negTile (projTile (normTile mo x l) w) w1 b1))) := rfl

theorem pay18_eq : k0_pay18 (F := Ideal) (iota .tc S8x128 32 [0] iota_S8x128_d0_w32)
      (k0_pay16 (k0_pay2 mo) (k0_pay10 x l) (k0_pay11 (k0_pay2 mo)) k0_pay12 w w1 b1) (k0_pay17 (k0_pay2 mo) (k0_pay10 x l) (k0_pay11 (k0_pay2 mo)) k0_pay12 w w0 b0)
    = gates (worst (first (negTile (projTile (normTile mo x l) w) w0 b0))) (worst (first (negTile (projTile (normTile mo x l) w) w1 b1))) := rfl

theorem pay19_eq : k0_pay1 (F := Ideal) (k0_pay19 (iota .tc S8x128 32 [0] iota_S8x128_d0_w32)
      (k0_pay15 (k0_pay2 mo) (k0_pay10 x l) (k0_pay11 (k0_pay2 mo)) k0_pay12 w w0 b0) (k0_pay16 (k0_pay2 mo) (k0_pay10 x l) (k0_pay11 (k0_pay2 mo)) k0_pay12 w w1 b1))
    = gates (worst (second (negTile (projTile (normTile mo x l) w) w0 b0))) (worst (second (negTile (projTile (normTile mo x l) w) w1 b1))) := rfl

end

/-! ## The blocks' loads -/

section
variable (x : Vec Ideal S1024x1024 .f32) (mo : Vec Ideal S1x6x1024 .f32) (l : Vec Ideal S1x1024 .f32) (w : Vec Ideal S1024x2048 .bf16)
  (wg : Vec Ideal S2x128x256 .bf16) (bg : Vec Ideal S2x1x256 .f32)

/-- The tile's row `r`. -/
def tileRow (r : Fin 1024) : Fin 2048 → EReal :=
  proj (modNorm (fun k => x (ix2 r k)) (fun k => l (ix2 0 k)) (fun k => mo (ix3 0 0 k)) (fun k => mo (ix3 0 1 k))) (fun k q => w (ix2 k q))

/-- The tile's block `q` of gates, direction `z`. -/
def tileGate (z : Fin 2) (q : Fin 4) : EReal :=
  largest fun r j => neg (tileRow x mo l w ⟨256 * q.val + r.val, by omega⟩) (fun k c => wg (ix3 z k c)) (fun c => bg (ix3 z 0 c)) j

theorem half0 (r : Fin 512) (c : Fin 2048) :
    projTile (normTile (View.ld mo r0_0) (View.ld x r0_1) (View.ld l r0_2)) (View.ld w r0_3) (ix2 r c) = tileRow x mo l w ⟨r.val, by omega⟩ c := by
  rw [View.ld_unit_zero zeros3, View.ld_unit_zero zeros2, View.ld_unit_zero zeros2, projTile_apply]
  have e : ∀ k : Fin 1024, View.ld x r0_1 (ix2 r k) = x (ix2 ⟨r.val, by omega⟩ k) := fun k =>
    congrArg x (funext fun a => Fin.ext (by match a with
      | ⟨0, _⟩ => show 0 + 1 * r.val = r.val; omega
      | ⟨1, _⟩ => show 0 + 1 * k.val = k.val; omega))
  simp only [normTile_apply, e]
  rfl

theorem half1 (r : Fin 512) (c : Fin 2048) :
    projTile (normTile (View.ld mo r0_0) (View.ld x r0_11) (View.ld l r0_2)) (View.ld w r0_3) (ix2 r c) = tileRow x mo l w ⟨512 + r.val, by omega⟩ c := by
  rw [View.ld_unit_zero zeros3, View.ld_unit_zero zeros2, View.ld_unit_zero zeros2, projTile_apply]
  have e : ∀ k : Fin 1024, View.ld x r0_11 (ix2 r k) = x (ix2 ⟨512 + r.val, by omega⟩ k) := fun k =>
    congrArg x (funext fun a => Fin.ext (by match a with
      | ⟨0, _⟩ => show 512 + 1 * r.val = 512 + r.val; omega
      | ⟨1, _⟩ => show 0 + 1 * k.val = k.val; omega))
  simp only [normTile_apply, e]
  rfl

theorem wg0 (k : Fin 128) (c : Fin 256) : View.ld wg r0_5 (ix3 0 k c) = wg (ix3 0 k c) :=
  congrArg wg (funext fun a => Fin.ext (by match a with
      | ⟨0, _⟩ => rfl
      | ⟨1, _⟩ => show 0 + 1 * k.val = k.val; omega
      | ⟨2, _⟩ => show 0 + 1 * c.val = c.val; omega))
theorem wg1 (k : Fin 128) (c : Fin 256) : View.ld wg r0_7 (ix3 0 k c) = wg (ix3 1 k c) :=
  congrArg wg (funext fun a => Fin.ext (by match a with
      | ⟨0, _⟩ => rfl
      | ⟨1, _⟩ => show 0 + 1 * k.val = k.val; omega
      | ⟨2, _⟩ => show 0 + 1 * c.val = c.val; omega))
theorem bg0 (c : Fin 256) : View.ld bg r0_6 (ix3 0 0 c) = bg (ix3 0 0 c) :=
  congrArg bg (funext fun a => Fin.ext (by match a with
      | ⟨0, _⟩ => rfl
      | ⟨1, _⟩ => rfl
      | ⟨2, _⟩ => show 0 + 1 * c.val = c.val; omega))
theorem bg1 (c : Fin 256) : View.ld bg r0_8 (ix3 0 0 c) = bg (ix3 1 0 c) :=
  congrArg bg (funext fun a => Fin.ext (by match a with
      | ⟨0, _⟩ => rfl
      | ⟨1, _⟩ => rfl
      | ⟨2, _⟩ => show 0 + 1 * c.val = c.val; omega))

theorem rows_apply (r : Fin 1024) (c : Fin 2048) : out0_6 (F := Ideal) x mo l w wg bg (ix2 r c) = tileRow x mo l w r c := by
  unfold out0_6
  refine View.canon_apply_of_pieces (Val := Elt Ideal) (fun y : S1024x2048.Idx => tileRow x mo l w (y 0) (y 1)) _ ?_ (ix2 r c) (cover0_6 _ _ (ix2 r c))
  intro p hp y
  simp only [List.mem_cons, List.not_mem_nil, or_false] at hp
  rcases hp with rfl | rfl
  · obtain ⟨i, j, rfl⟩ : ∃ (i : Fin 512) (j : Fin 2048), y = ix2 i j := ⟨y 0, y 1, eq_ix2 y⟩
    refine (congrFun (pay13_eq _ _ _ _) (ix2 i j)).trans ((half1 x mo l w i j).trans ?_)
    congr 1 <;> exact Fin.ext (by show _ = _ + 1 * _; simp)
  · obtain ⟨i, j, rfl⟩ : ∃ (i : Fin 512) (j : Fin 2048), y = ix2 i j := ⟨y 0, y 1, eq_ix2 y⟩
    refine (congrFun (pay3_eq _ _ _ _) (ix2 i j)).trans ((half0 x mo l w i j).trans ?_)
    congr 1 <;> exact Fin.ext (by show _ = _ + 1 * _; simp)

/-- The largest of a block of rows `p`, when they are the tile's from row `256 * q`. -/
theorem worst_first (p : FVec Ideal S512x2048 .bf16) (o : ℕ) (q : Fin 4) (z : Fin 2) (hq : 256 * q.val = o) (ho : o + 512 ≤ 1024 + 256) (v : Vec Ideal S1x128x256 .bf16)
    (b : Vec Ideal S1x1x256 .f32) (hp : ∀ (r : Fin 256) c, p (ix2 ⟨r.val, by omega⟩ c) = tileRow x mo l w ⟨o + r.val, by omega⟩ c)
    (hv : ∀ k c, v (ix3 0 k c) = wg (ix3 z k c)) (hb : ∀ c, b (ix3 0 0 c) = bg (ix3 z 0 c)) :
    worst (first (negTile p v b)) (ix2 0 0) = tileGate x mo l w wg bg z q := by
  subst hq
  rw [worst_apply]
  simp only [first_apply, negTile_apply, hp, hv, hb]
  rfl

theorem worst_second (p : FVec Ideal S512x2048 .bf16) (o : ℕ) (q : Fin 4) (z : Fin 2) (hq : 256 * q.val = o) (ho : o + 256 ≤ 1024) (v : Vec Ideal S1x128x256 .bf16)
    (b : Vec Ideal S1x1x256 .f32) (hp : ∀ (r : Fin 256) c, p (ix2 ⟨256 + r.val, by omega⟩ c) = tileRow x mo l w ⟨o + r.val, by omega⟩ c)
    (hv : ∀ k c, v (ix3 0 k c) = wg (ix3 z k c)) (hb : ∀ c, b (ix3 0 0 c) = bg (ix3 z 0 c)) :
    worst (second (negTile p v b)) (ix2 0 0) = tileGate x mo l w wg bg z q := by
  subst hq
  rw [worst_apply]
  simp only [second_apply, negTile_apply, hp, hv, hb]
  rfl

theorem one_row (y : S1x8x128.Idx) : ∃ (s : Fin 8) (k : Fin 128), y = ix3 0 s k :=
  ⟨y 1, y 2, funext fun a => match a with
    | ⟨0, _⟩ => Subsingleton.elim (α := Fin 1) _ _
    | ⟨1, _⟩ => rfl
    | ⟨2, _⟩ => rfl⟩

theorem gates_at (q : Fin 4) (s : Fin 8) (k : Fin 128) : out0_7 (F := Ideal) x mo l w wg bg (ix3 q s k)
    = entry (tileGate x mo l w wg bg 0 q) (tileGate x mo l w wg bg 1 q) s := by
  unfold out0_7
  refine View.canon_apply_of_pieces (Val := Elt Ideal) (fun y : S4x8x128.Idx => entry (tileGate x mo l w wg bg 0 (y 0)) (tileGate x mo l w wg bg 1 (y 0)) (y 1)) _ ?_
    (ix3 q s k) (cover0_7 _ _ _ _ (ix3 q s k))
  intro p hp y
  simp only [List.mem_cons, List.not_mem_nil, or_false] at hp
  rcases hp with rfl | rfl | rfl | rfl
  · obtain ⟨i, j, rfl⟩ := one_row y
    refine (congrFun (pay19_eq _ _ _ _ _ _ _ _) (ix3 0 i j)).trans ((gates_apply _ _ i j).trans ?_)
    rw [worst_second x mo l w wg bg _ 768 3 0 rfl (by decide) _ _ (fun r c => (half1 x mo l w _ c).trans (congrArg (tileRow x mo l w · c) (Fin.ext (by simp only []; omega)))) (wg0 wg) (bg0 bg),
      worst_second x mo l w wg bg _ 768 3 1 rfl (by decide) _ _ (fun r c => (half1 x mo l w _ c).trans (congrArg (tileRow x mo l w · c) (Fin.ext (by simp only []; omega)))) (wg1 wg) (bg1 bg)]
    show entry _ _ _ = entry (tileGate x mo l w wg bg 0 (r0_14.emb (ix3 0 i j) 0)) (tileGate x mo l w wg bg 1 (r0_14.emb (ix3 0 i j) 0)) (r0_14.emb (ix3 0 i j) 1)
    rw [show r0_14.emb (ix3 0 i j) 0 = (3 : Fin 4) from rfl, show r0_14.emb (ix3 0 i j) 1 = i from Fin.ext (by show 0 + 1 * i.val = i.val; omega)]
  · obtain ⟨i, j, rfl⟩ := one_row y
    refine (congrFun (pay18_eq _ _ _ _ _ _ _ _) (ix3 0 i j)).trans ((gates_apply _ _ i j).trans ?_)
    rw [worst_first x mo l w wg bg _ 512 2 0 rfl (by decide) _ _ (fun r c => half1 x mo l w _ c) (wg0 wg) (bg0 bg),
      worst_first x mo l w wg bg _ 512 2 1 rfl (by decide) _ _ (fun r c => half1 x mo l w _ c) (wg1 wg) (bg1 bg)]
    show entry _ _ _ = entry (tileGate x mo l w wg bg 0 (r0_13.emb (ix3 0 i j) 0)) (tileGate x mo l w wg bg 1 (r0_13.emb (ix3 0 i j) 0)) (r0_13.emb (ix3 0 i j) 1)
    rw [show r0_13.emb (ix3 0 i j) 0 = (2 : Fin 4) from rfl, show r0_13.emb (ix3 0 i j) 1 = i from Fin.ext (by show 0 + 1 * i.val = i.val; omega)]
  · obtain ⟨i, j, rfl⟩ := one_row y
    refine (congrFun (pay9_eq _ _ _ _ _ _ _ _) (ix3 0 i j)).trans ((gates_apply _ _ i j).trans ?_)
    rw [worst_second x mo l w wg bg _ 256 1 0 rfl (by decide) _ _ (fun r c => half0 x mo l w _ c) (wg0 wg) (bg0 bg),
      worst_second x mo l w wg bg _ 256 1 1 rfl (by decide) _ _ (fun r c => half0 x mo l w _ c) (wg1 wg) (bg1 bg)]
    show entry _ _ _ = entry (tileGate x mo l w wg bg 0 (r0_10.emb (ix3 0 i j) 0)) (tileGate x mo l w wg bg 1 (r0_10.emb (ix3 0 i j) 0)) (r0_10.emb (ix3 0 i j) 1)
    rw [show r0_10.emb (ix3 0 i j) 0 = (1 : Fin 4) from rfl, show r0_10.emb (ix3 0 i j) 1 = i from Fin.ext (by show 0 + 1 * i.val = i.val; omega)]
  · obtain ⟨i, j, rfl⟩ := one_row y
    refine (congrFun (pay8_eq _ _ _ _ _ _ _ _) (ix3 0 i j)).trans ((gates_apply _ _ i j).trans ?_)
    rw [worst_first x mo l w wg bg _ 0 0 0 rfl (by decide) _ _ (fun r c => (half0 x mo l w _ c).trans (congrArg (tileRow x mo l w · c) (Fin.ext (by simp only []; omega)))) (wg0 wg) (bg0 bg),
      worst_first x mo l w wg bg _ 0 0 1 rfl (by decide) _ _ (fun r c => (half0 x mo l w _ c).trans (congrArg (tileRow x mo l w · c) (Fin.ext (by simp only []; omega)))) (wg1 wg) (bg1 bg)]
    show entry _ _ _ = entry (tileGate x mo l w wg bg 0 (r0_9.emb (ix3 0 i j) 0)) (tileGate x mo l w wg bg 1 (r0_9.emb (ix3 0 i j) 0)) (r0_9.emb (ix3 0 i j) 1)
    rw [show r0_9.emb (ix3 0 i j) 0 = (0 : Fin 4) from rfl, show r0_9.emb (ix3 0 i j) 1 = i from Fin.ext (by show 0 + 1 * i.val = i.val; omega)]

end

end Cert.InProj

end
-- ==== Proof.InProjWeights.lean ====
/- THE FIFTH KERNEL'S WEIGHTS AS ITS HOST PREPARES THEM, over the extended reals: the widened in-projection and the gates' second weights among zeros. -/
module

public import proofs.«01_k».proof.Proof.Gen.Kernel5Ideal
public import proofs.«01_k».proof.Proof.InProj
public import Idealize.ShloMosaic.Lib.Routing.OpsOne
public import Idealize.ShloMosaic.Lib.Routing.OpsSet

@[expose] public section

set_option maxRecDepth 16384
set_option Elab.async false

noncomputable section

namespace Cert.InProjWeights

open Cert.Kernel5Ideal Cert.Kernel5Ideal.Gen
open Idealize.ShloMosaic
open Idealize.ShloMosaic.StableHlo
open Cert.InProj

/-- The columns rearranged and padded. -/
def columns (w : FVec Ideal S1024x2016 .f32) : FVec Ideal S1024x2048 .f32 :=
  concatenate S1024x2048 1 [⟨S1024x256, extractStridedSlice S1024x256 ![0, 0] w slices_S1024x2016_S1024x256_0_0⟩,
    ⟨S1024x256, extractStridedSlice S1024x256 ![0, 256] w slices_S1024x2016_S1024x256_0_256⟩,
    ⟨S1024x512, extractStridedSlice S1024x512 ![0, 512] w slices_S1024x2016_S1024x512_0_512⟩,
    ⟨S1024x512, extractStridedSlice S1024x512 ![0, 1056] w slices_S1024x2016_S1024x512_0_1056⟩,
    ⟨S1024x256, extractStridedSlice S1024x256 ![0, 1568] w slices_S1024x2016_S1024x256_0_1568⟩,
    ⟨S1024x128, extractStridedSlice S1024x128 ![0, 1824] w slices_S1024x2016_S1024x128_0_1824⟩,
    ⟨S1024x64, extractStridedSlice S1024x64 ![0, 1952] w slices_S1024x2016_S1024x64_0_1952⟩,
    ⟨S1024x16, extractStridedSlice S1024x16 ![0, 1024] w slices_S1024x2016_S1024x16_0_1024⟩,
    ⟨S1024x16, extractStridedSlice S1024x16 ![0, 1040] w slices_S1024x2016_S1024x16_0_1040⟩,
    ⟨S1024x32, broadcastInDim S1024x32 ![] bcast_S_S1024x32 (constant (F := Ideal) S_ .f32 0x00000000#32)⟩]
    concatenates_S1024x256_S1024x256_S1024x512_S1024x512_S1024x256_S1024x128_S1024x64_S1024x16_S1024x16_S1024x32_S1024x2048_d1

set_option maxHeartbeats 4000000 in
theorem columns_apply (w : FVec Ideal S1024x2016 .f32) (k : Fin 1024) (c : Fin 2048) : columns w (ix2 k c) = wide w k c := by
  pointwise [columns, wide]
  split_ifs <;> (repeat' split) <;> first | rfl | omega | (refine congrArg (fun q => w (ix2 k q)) (Fin.ext ?_); first | omega | (simp only []; omega))

/-- Where an entry of the update lands. -/
theorem lands (idx : IVec S1 32) (o : Nat) (ho : (idx (ix1 0)).toInt = (o : Int)) (a : Fin 16) (b : Fin 256) (k : Fin 128) (q : Fin 256) :
    scatter_S128x256_S1_S16x256_01_n_0_0.resultIdx? (ix2 a b) idx = some (ix2 k q) ↔ o + a.val = k.val ∧ b = q := by
  have hw0 : scatter_S128x256_S1_S16x256_01_n_0_0.window (ix2 a b) 0 = a.val := rfl
  have hw1 : scatter_S128x256_S1_S16x256_01_n_0_0.window (ix2 a b) 1 = b.val := rfl
  have hs1 : scatter_S128x256_S1_S16x256_01_n_0_0.start (ix2 a b) idx 1 = 0 := rfl
  have hs0 : scatter_S128x256_S1_S16x256_01_n_0_0.start (ix2 a b) idx 0 = (o : Int) := by
    refine Eq.trans ?_ ho
    show (idx _).toInt = _
    refine congrArg (fun t => (idx t).toInt) (funext fun b' => ?_)
    match b' with
    | ⟨0, _⟩ => exact Subsingleton.elim (α := Fin 1) _ _
  refine (Routing.resultIdx?_ix2 scatter_S128x256_S1_S16x256_01_n_0_0 (ix2 a b) idx k q).trans ?_
  rw [hs0, hw0, hs1, hw1, Fin.ext_iff]
  omega

theorem placed_apply (x : FVec Ideal S128x256 .f32) (idx : IVec S1 32) (o : Nat) (ho : (idx (ix1 0)).toInt = (o : Int)) (u : FVec Ideal S16x256 .f32) (k : Fin 128) (q : Fin 256) :
    Host.scatter scatter_S128x256_S1_S16x256_01_n_0_0 (fun _ b => b) x idx u (ix2 k q)
      = if h : o ≤ k.val ∧ k.val < o + 16 then u (ix2 ⟨k.val - o, by omega⟩ q) else x (ix2 k q) := by
  have hl : ∀ j : S16x256.Idx, scatter_S128x256_S1_S16x256_01_n_0_0.resultIdx? j idx = some (ix2 k q) → o + (j 0).val = k.val ∧ j 1 = q := fun j hj =>
    (lands idx o ho (j 0) (j 1) k q).1 ((congrArg (fun t => scatter_S128x256_S1_S16x256_01_n_0_0.resultIdx? t idx) (eq_ix2 j).symm).trans hj)
  split_ifs with h
  · refine Routing.scatter_set_hit _ x idx u _ _ (fun j hj => ?_) (ix2 ⟨k.val - o, by omega⟩ q) ((lands idx o ho _ _ k q).2 ⟨by simp only []; omega, rfl⟩)
    obtain ⟨h0, h1⟩ := hl j hj
    refine (congrArg u (eq_ix2 j)).trans (congrArg₂ (fun s t => u (ix2 s t)) (Fin.ext (by simp only []; omega)) h1)
  · exact Routing.scatter_set_miss _ x idx u _ fun j hj => h (by
      have := (hl j hj).1
      have hb : (j 0).val < 16 := (j 0).isLt
      omega)

/-- Zeros. -/
def zeros : FVec Ideal S128x256 .f32 := broadcastInDim S128x256 ![] bcast_S_S128x256 (constant (F := Ideal) S_ .f32 0x00000000#32)

def second0 (g : FVec Ideal S2x16x256 .f32) : FVec Ideal S16x256 .f32 :=
  shapeCast _ (extractStridedSlice S1x16x256 ![0, 0, 0] g slices_S2x16x256_S1x16x256_0_0_0) shapeCasts_S1x16x256_S16x256
def second1 (g : FVec Ideal S2x16x256 .f32) : FVec Ideal S16x256 .f32 :=
  shapeCast _ (extractStridedSlice S1x16x256 ![1, 0, 0] g slices_S2x16x256_S1x16x256_1_0_0) shapeCasts_S1x16x256_S16x256

/-- The two directions' weights among zeros, one under the other. -/
def gates (g : FVec Ideal S2x16x256 .f32) : FVec Ideal S2x128x256 .f32 :=
  concatenate S2x128x256 0 [⟨S1x128x256, broadcastInDim S1x128x256 ![1, 2] bcast_S128x256_S1x128x256_1_2
      (Host.scatter scatter_S128x256_S1_S16x256_01_n_0_0 (fun _ b => b) zeros (broadcastInDim S1 ![] bcast_S_S1 (constantI S_ 32 64#32)) (second0 g))⟩,
    ⟨S1x128x256, broadcastInDim S1x128x256 ![1, 2] bcast_S128x256_S1x128x256_1_2
      (Host.scatter scatter_S128x256_S1_S16x256_01_n_0_0 (fun _ b => b) zeros (broadcastInDim S1 ![] bcast_S_S1 (constantI S_ 32 80#32)) (second1 g))⟩]
    concatenates_S1x128x256_S1x128x256_S2x128x256_d0

theorem zeros_apply (k : Fin 128) (c : Fin 256) : zeros (ix2 k c) = 0 := by pointwise [zeros]

theorem second0_apply (g : FVec Ideal S2x16x256 .f32) (k : Fin 16) (c : Fin 256) : second0 g (ix2 k c) = g (ix3 0 k c) := by pointwise [second0]
theorem second1_apply (g : FVec Ideal S2x16x256 .f32) (k : Fin 16) (c : Fin 256) : second1 g (ix2 k c) = g (ix3 1 k c) := by pointwise [second1]

/-- One array under the other. -/
theorem under_apply (a b : FVec Ideal S128x256 .f32) (z : Fin 2) (k : Fin 128) (c : Fin 256) :
    concatenate S2x128x256 0 [⟨S1x128x256, broadcastInDim S1x128x256 ![1, 2] bcast_S128x256_S1x128x256_1_2 a⟩,
      ⟨S1x128x256, broadcastInDim S1x128x256 ![1, 2] bcast_S128x256_S1x128x256_1_2 b⟩] concatenates_S1x128x256_S1x128x256_S2x128x256_d0 (ix3 z k c)
      = if z = 0 then a (ix2 k c) else b (ix2 k c) := by
  pointwise []
  fin_cases z <;> rfl

theorem gates_apply (g : FVec Ideal S2x16x256 .f32) (z : Fin 2) (k : Fin 128) (c : Fin 256) : gates g (ix3 z k c) = tall g z k c := by
  unfold gates
  rw [under_apply, placed_apply _ _ 64 rfl, placed_apply _ _ 80 rfl]
  simp only [zeros_apply, second0_apply, second1_apply]
  unfold tall
  fin_cases z <;> rfl

end Cert.InProjWeights

end
-- ==== Proof.InProjValue.lean ====
/- THE FIFTH KERNEL'S RESULTS AT AN INDEX, over the extended reals: tile `t` holds the rows of its 1024 tokens and the gates of its four blocks. -/
module

public import proofs.«01_k».proof.Proof.Gen.Kernel5Ideal.Value
public import proofs.«01_k».proof.Proof.InProjTile
public import proofs.«01_k».proof.Proof.InProjWeights

@[expose] public section

set_option maxRecDepth 16384
set_option Elab.async false

noncomputable section

namespace Cert.InProjValue

open Cert.Kernel5Ideal Cert.Kernel5Ideal.Gen
open Idealize.ShloMosaic
open Idealize.ShloMosaic.TcCoe
open Cert.InProj

variable (m : (ℓ : Loc nD τ sig) → Buf (Elt Ideal) ℓ) (c : Dev nD)

/-! ## The arguments as the host prepares them -/

theorem V_v0 : V m c main_v0 = shapeCast S1x1024 (m ((c : Thread nD τ).loc main_arg2)) shapeCasts_S1024_S1x1024 := by
  show StableHlo.after hostOps0 _ _ = _
  simp only [hostOps0]
  after_results_simp <;> rfl

theorem V_v12 : V m c main_v12 = truncf (F := Ideal) (φ := .f32) .bf16 (Cert.InProjWeights.columns (m ((c : Thread nD τ).loc main_arg3))) bitsLt_bf16_f32 := by
  show StableHlo.after hostOps0 _ _ = _
  simp only [hostOps0]
  after_results_simp <;> rfl

theorem V_v26 : V m c main_v26 = truncf (F := Ideal) (φ := .f32) .bf16 (Cert.InProjWeights.gates (m ((c : Thread nD τ).loc main_arg4))) bitsLt_bf16_f32 := by
  unfold Cert.InProjWeights.gates Cert.InProjWeights.zeros Cert.InProjWeights.second0 Cert.InProjWeights.second1
  show StableHlo.after hostOps0 _ _ = _
  simp only [hostOps0]
  after_results_simp
  refine congrArg (fun x => truncf (F := Ideal) (φ := .f32) .bf16 x bitsLt_bf16_f32) (congrArg₂ (fun a b : FVec Ideal S1x128x256 .f32 =>
    concatenate S2x128x256 0 [⟨S1x128x256, a⟩, ⟨S1x128x256, b⟩] concatenates_S1x128x256_S1x128x256_S2x128x256_d0) ?_ ?_)
  · after_results_simp
    rfl
  · after_results_simp
    rfl

theorem V_v27 : V m c main_v27 = shapeCast S2x1x256 (m ((c : Thread nD τ).loc main_arg5)) shapeCasts_S2x256_S2x1x256 := by
  show StableHlo.after hostOps0 _ _ = _
  simp only [hostOps0]
  after_results_simp <;> rfl

/-! ## The blocks' places -/

theorem place0 : ∀ t : Fin cfg0.N, win0_0.index t = ![t.val, 0] := (by decide +kernel : ∀ t : Fin grid0.N, win0_0.index t = ![t.val, 0])
theorem place1 : ∀ t : Fin cfg0.N, win0_1.index t = ![t.val / 8, 0, 0] := (by decide +kernel : ∀ t : Fin grid0.N, win0_1.index t = ![t.val / 8, 0, 0])
theorem place2 : ∀ t : Fin cfg0.N, win0_2.index t = ![0, 0] := (by decide +kernel : ∀ t : Fin grid0.N, win0_2.index t = ![0, 0])
theorem place3 : ∀ t : Fin cfg0.N, win0_3.index t = ![0, 0] := (by decide +kernel : ∀ t : Fin grid0.N, win0_3.index t = ![0, 0])
theorem place4 : ∀ t : Fin cfg0.N, win0_4.index t = ![0, 0, 0] := (by decide +kernel : ∀ t : Fin grid0.N, win0_4.index t = ![0, 0, 0])
theorem place5 : ∀ t : Fin cfg0.N, win0_5.index t = ![0, 0, 0] := (by decide +kernel : ∀ t : Fin grid0.N, win0_5.index t = ![0, 0, 0])
theorem place6 : ∀ t : Fin cfg0.N, win0_6.index t = ![t.val, 0] := (by decide +kernel : ∀ t : Fin grid0.N, win0_6.index t = ![t.val, 0])
theorem place7 : ∀ t : Fin cfg0.N, win0_7.index t = ![t.val, 0, 0] := (by decide +kernel : ∀ t : Fin grid0.N, win0_7.index t = ![t.val, 0, 0])

/-! ## The blocks' entries: the arguments' own, shifted -/

theorem block0 (t : Fin cfg0.N) (r : Fin 1024) (q : Fin 1024) (h : 1024 * t.val + r.val < 16384) :
    iblk m c 0 t (ix2 r q) = (m ((c : Thread nD τ).loc main_arg0) : FVec Ideal S16384x1024 .f32) (ix2 ⟨1024 * t.val + r.val, h⟩ q) := by
  have hi := place0 t
  rw [← V_main_arg0 m c]
  unfold iblk
  rw [View.read_apply]
  refine congrArg (V m c main_arg0) (funext fun a => Fin.ext ?_)
  match a with
  | ⟨0, _⟩ =>
    show win0_0.index t 0 * 1024 + 1 * r.val = 1024 * t.val + r.val
    rw [hi]; show t.val * 1024 + 1 * r.val = _; omega
  | ⟨1, _⟩ =>
    show win0_0.index t 1 * 1024 + 1 * q.val = q.val
    rw [hi]; show 0 * 1024 + 1 * q.val = _; omega

theorem block1 (t : Fin cfg0.N) (k : Fin 6) (q : Fin 1024) (h : t.val / 8 < 8) :
    iblk m c 1 t (ix3 0 k q) = (m ((c : Thread nD τ).loc main_arg1) : FVec Ideal S8x6x1024 .f32) (ix3 ⟨t.val / 8, h⟩ k q) := by
  have hi := place1 t
  rw [← V_main_arg1 m c]
  unfold iblk
  rw [View.read_apply]
  refine congrArg (V m c main_arg1) (funext fun a => Fin.ext ?_)
  match a with
  | ⟨0, _⟩ =>
    show win0_1.index t 0 * 1 + 1 * 0 = t.val / 8
    rw [hi]; show t.val / 8 * 1 + 1 * 0 = _; omega
  | ⟨1, _⟩ =>
    show win0_1.index t 1 * 6 + 1 * k.val = k.val
    rw [hi]; show 0 * 6 + 1 * k.val = _; omega
  | ⟨2, _⟩ =>
    show win0_1.index t 2 * 1024 + 1 * q.val = q.val
    rw [hi]; show 0 * 1024 + 1 * q.val = _; omega

theorem whole2 (t : Fin cfg0.N) : (iblk m c 2 t : (⟨2, ![1, 1024]⟩ : Shape).Idx → EReal) = V m c main_v0 := by
  have hi := place2 t
  unfold iblk
  funext j
  rw [View.read_apply]
  refine congrArg (V m c main_v0) (funext fun a => Fin.ext ?_)
  match a with
  | ⟨0, _⟩ =>
    show win0_2.index t 0 * 1 + 1 * (j 0).val = (j 0).val
    rw [hi]; show 0 * 1 + 1 * (j 0).val = _; omega
  | ⟨1, _⟩ =>
    show win0_2.index t 1 * 1024 + 1 * (j 1).val = (j 1).val
    rw [hi]; show 0 * 1024 + 1 * (j 1).val = _; omega

theorem whole3 (t : Fin cfg0.N) : (iblk m c 3 t : (⟨2, ![1024, 2048]⟩ : Shape).Idx → EReal) = V m c main_v12 := by
  have hi := place3 t
  unfold iblk
  funext j
  rw [View.read_apply]
  refine congrArg (V m c main_v12) (funext fun a => Fin.ext ?_)
  match a with
  | ⟨0, _⟩ =>
    show win0_3.index t 0 * 1024 + 1 * (j 0).val = (j 0).val
    rw [hi]; show 0 * 1024 + 1 * (j 0).val = _; omega
  | ⟨1, _⟩ =>
    show win0_3.index t 1 * 2048 + 1 * (j 1).val = (j 1).val
    rw [hi]; show 0 * 2048 + 1 * (j 1).val = _; omega

theorem whole4 (t : Fin cfg0.N) : (iblk m c 4 t : (⟨3, ![2, 128, 256]⟩ : Shape).Idx → EReal) = V m c main_v26 := by
  have hi := place4 t
  unfold iblk
  funext j
  rw [View.read_apply]
  refine congrArg (V m c main_v26) (funext fun a => Fin.ext ?_)
  match a with
  | ⟨0, _⟩ =>
    show win0_4.index t 0 * 2 + 1 * (j 0).val = (j 0).val
    rw [hi]; show 0 * 2 + 1 * (j 0).val = _; omega
  | ⟨1, _⟩ =>
    show win0_4.index t 1 * 128 + 1 * (j 1).val = (j 1).val
    rw [hi]; show 0 * 128 + 1 * (j 1).val = _; omega
  | ⟨2, _⟩ =>
    show win0_4.index t 2 * 256 + 1 * (j 2).val = (j 2).val
    rw [hi]; show 0 * 256 + 1 * (j 2).val = _; omega

theorem whole5 (t : Fin cfg0.N) : (iblk m c 5 t : (⟨3, ![2, 1, 256]⟩ : Shape).Idx → EReal) = V m c main_v27 := by
  have hi := place5 t
  unfold iblk
  funext j
  rw [View.read_apply]
  refine congrArg (V m c main_v27) (funext fun a => Fin.ext ?_)
  match a with
  | ⟨0, _⟩ =>
    show win0_5.index t 0 * 2 + 1 * (j 0).val = (j 0).val
    rw [hi]; show 0 * 2 + 1 * (j 0).val = _; omega
  | ⟨1, _⟩ =>
    show win0_5.index t 1 * 1 + 1 * (j 1).val = (j 1).val
    rw [hi]; show 0 * 1 + 1 * (j 1).val = _; omega
  | ⟨2, _⟩ =>
    show win0_5.index t 2 * 256 + 1 * (j 2).val = (j 2).val
    rw [hi]; show 0 * 256 + 1 * (j 2).val = _; omega

theorem block2 (t : Fin cfg0.N) (k : Fin 1024) :
    iblk m c 2 t (ix2 0 k) = (m ((c : Thread nD τ).loc main_arg2) : FVec Ideal S1024 .f32) (ix1 k) := by
  refine (congrFun (whole2 m c t) (ix2 0 k)).trans ((congrFun (V_v0 m c) (ix2 0 k)).trans ?_)
  pointwise

theorem block3 (t : Fin cfg0.N) (k : Fin 1024) (q : Fin 2048) : iblk m c 3 t (ix2 k q) = wide (m ((c : Thread nD τ).loc main_arg3)) k q :=
  (congrFun (whole3 m c t) (ix2 k q)).trans ((congrFun (V_v12 m c) (ix2 k q)).trans (Cert.InProjWeights.columns_apply _ k q))

theorem block4 (t : Fin cfg0.N) (z : Fin 2) (k : Fin 128) (q : Fin 256) : iblk m c 4 t (ix3 z k q) = tall (m ((c : Thread nD τ).loc main_arg4)) z k q :=
  (congrFun (whole4 m c t) (ix3 z k q)).trans ((congrFun (V_v26 m c) (ix3 z k q)).trans (Cert.InProjWeights.gates_apply _ z k q))

theorem block5 (t : Fin cfg0.N) (z : Fin 2) (k : Fin 256) :
    iblk m c 5 t (ix3 z 0 k) = (m ((c : Thread nD τ).loc main_arg5) : FVec Ideal S2x256 .f32) (ix2 z k) := by
  refine (congrFun (whole5 m c t) (ix3 z 0 k)).trans ((congrFun (V_v27 m c) (ix3 z 0 k)).trans ?_)
  pointwise

/-! ## The results -/

/-- What the kernel's arguments make of token `i`. -/
def rowOf (i : Fin 16384) (j : Fin 2048) : EReal :=
  rowAt (m ((c : Thread nD τ).loc main_arg0)) (m ((c : Thread nD τ).loc main_arg1)) (m ((c : Thread nD τ).loc main_arg2)) (m ((c : Thread nD τ).loc main_arg3)) i j

/-- What they make of block `q`'s gates. -/
def gateAt (z : Fin 2) (q : Fin 64) : EReal :=
  gateOf (rowOf m c) (m ((c : Thread nD τ).loc main_arg4)) (m ((c : Thread nD τ).loc main_arg5)) z q

/-- Row `r` of tile `t`. -/
theorem tileRow_eq (t : Fin cfg0.N) (r : Fin 1024) (h : 1024 * t.val + r.val < 16384) :
    tileRow (iblk m c 0 t) (iblk m c 1 t) (iblk m c 2 t) (iblk m c 3 t) r = rowOf m c ⟨1024 * t.val + r.val, h⟩ := by
  unfold tileRow
  have e0 := fun k => block0 m c t r k h
  have e1 : ∀ k q, iblk m c 1 t (ix3 0 k q) = (m ((c : Thread nD τ).loc main_arg1) : FVec Ideal S8x6x1024 .f32) (ix3 ⟨(1024 * t.val + r.val) / 8192, by omega⟩ k q) := fun k q => by
    rw [block1 m c t k q (by omega)]
    congr 2; exact Fin.ext (by simp only []; omega)
  have e2 := block2 m c t
  have e3 := block3 m c t
  simp only [e0, e1, e2, e3] <;> rfl

theorem tileGate_eq (t : Fin cfg0.N) (z : Fin 2) (q : Fin 4) (h : 4 * t.val + q.val < 64) :
    tileGate (iblk m c 0 t) (iblk m c 1 t) (iblk m c 2 t) (iblk m c 3 t) (iblk m c 4 t) (iblk m c 5 t) z q = gateAt m c z ⟨4 * t.val + q.val, h⟩ := by
  unfold tileGate gateAt gateOf
  have e : ∀ r : Fin 256, tileRow (iblk m c 0 t) (iblk m c 1 t) (iblk m c 2 t) (iblk m c 3 t) ⟨256 * q.val + r.val, by omega⟩
      = rowOf m c ⟨256 * (4 * t.val + q.val) + r.val, by omega⟩ := fun r =>
    (tileRow_eq m c t ⟨256 * q.val + r.val, by omega⟩ (by simp only []; omega)).trans (congrArg (rowOf m c) (Fin.ext (by simp only []; omega)))
  have e4 := block4 m c t
  have e5 := block5 m c t
  simp only [e, e4, e5] <;> rfl

theorem array_apply (i : Fin 16384) (j : Fin 2048) : (dats m 0 c).arrAt 6 cfg0.N (ix2 i j) = rowOf m c i j := by
  have ht : i.val / 1024 < cfg0.N := by have : cfg0.N = 16 := N_0; omega
  have hb := Cert.Kernel5Ideal.Value.blocks6 m c ⟨i.val / 1024, ht⟩ (flush0_6 _)
  rw [Cert.Kernel5Ideal.Value.flushed6] at hb
  have hr := congrFun hb (ix2 (⟨i.val % 1024, Nat.mod_lt _ (by decide)⟩ : Fin 1024) j)
  rw [View.read_apply] at hr
  have hp : ((cfg0.win 6).blk ⟨i.val / 1024, ht⟩).view.emb (ix2 (⟨i.val % 1024, Nat.mod_lt _ (by decide)⟩ : Fin 1024) j) = ix2 i j := funext fun a => Fin.ext (by
    have hi := place6 ⟨i.val / 1024, ht⟩
    match a with
    | ⟨0, _⟩ =>
      show win0_6.index ⟨i.val / 1024, ht⟩ 0 * 1024 + 1 * (i.val % 1024) = i.val
      rw [hi]; show i.val / 1024 * 1024 + 1 * (i.val % 1024) = _; omega
    | ⟨1, _⟩ =>
      show win0_6.index ⟨i.val / 1024, ht⟩ 1 * 2048 + 1 * j.val = j.val
      rw [hi]; show 0 * 2048 + 1 * j.val = _; omega)
  rw [hp] at hr
  refine hr.trans ((rows_apply _ _ _ _ _ _ _ _).trans ?_)
  rw [tileRow_eq m c ⟨i.val / 1024, ht⟩ ⟨i.val % 1024, Nat.mod_lt _ (by decide)⟩ (by simp only []; omega)]
  exact congrArg (rowOf m c · j) (Fin.ext (by simp only []; omega))

theorem gates_apply (q : Fin 64) (s : Fin 8) (k : Fin 128) :
    (dats m 0 c).arrAt 7 cfg0.N (ix3 q s k) = entry (gateAt m c 0 q) (gateAt m c 1 q) s := by
  have ht : q.val / 4 < cfg0.N := by have : cfg0.N = 16 := N_0; omega
  have hb := Cert.Kernel5Ideal.Value.blocks7 m c ⟨q.val / 4, ht⟩ (flush0_7 _)
  rw [Cert.Kernel5Ideal.Value.flushed7] at hb
  have hr := congrFun hb (ix3 (⟨q.val % 4, Nat.mod_lt _ (by decide)⟩ : Fin 4) s k)
  rw [View.read_apply] at hr
  have hp : ((cfg0.win 7).blk ⟨q.val / 4, ht⟩).view.emb (ix3 (⟨q.val % 4, Nat.mod_lt _ (by decide)⟩ : Fin 4) s k) = ix3 q s k := funext fun a => Fin.ext (by
    have hi := place7 ⟨q.val / 4, ht⟩
    match a with
    | ⟨0, _⟩ =>
      show win0_7.index ⟨q.val / 4, ht⟩ 0 * 4 + 1 * (q.val % 4) = q.val
      rw [hi]; show q.val / 4 * 4 + 1 * (q.val % 4) = _; omega
    | ⟨1, _⟩ =>
      show win0_7.index ⟨q.val / 4, ht⟩ 1 * 8 + 1 * s.val = s.val
      rw [hi]; show 0 * 8 + 1 * s.val = _; omega
    | ⟨2, _⟩ =>
      show win0_7.index ⟨q.val / 4, ht⟩ 2 * 128 + 1 * k.val = k.val
      rw [hi]; show 0 * 128 + 1 * k.val = _; omega)
  rw [hp] at hr
  refine hr.trans ((gates_at _ _ _ _ _ _ _ _ _).trans ?_)
  rw [tileGate_eq m c ⟨q.val / 4, ht⟩ 0 ⟨q.val % 4, Nat.mod_lt _ (by decide)⟩ (by simp only []; omega),
    tileGate_eq m c ⟨q.val / 4, ht⟩ 1 ⟨q.val % 4, Nat.mod_lt _ (by decide)⟩ (by simp only []; omega)]
  have e : (⟨4 * (q.val / 4) + q.val % 4, by omega⟩ : Fin 64) = q := Fin.ext (by simp only []; omega)
  exact congrArg (fun q => entry (gateAt m c 0 q) (gateAt m c 1 q) s) e

end Cert.InProjValue

end
-- ==== Proof.InProjReference.lean ====
/- THE FIFTH REFERENCE'S RESULTS AT AN INDEX, over the extended reals: each row is the token's, and each row of gates its block's. -/
module

public import proofs.«01_k».proof.Proof.Gen.Reference5Ideal.Run
public import proofs.«01_k».proof.Proof.InProj

@[expose] public section

set_option maxRecDepth 16384
set_option Elab.async false

noncomputable section

namespace Cert.InProjRef

open Cert.Reference5Ideal Cert.Reference5Ideal.Gen
open Idealize.ShloMosaic
open Idealize.ShloMosaic.StableHlo
open Cert.InProj
open Cert.Dense (modNorm scale)

/-- The shift at every token. -/
def shift (a : FVec Ideal S8x6x1024 .f32) : FVec Ideal S16384x1024 .f32 :=
  shapeCast _ (broadcastInDim S2x8192x1024 ![0, 1, 2] bcast_S2x1x1024_S2x8192x1024_0_1_2 (broadcastInDim S2x1x1024 ![0, 2] bcast_S2x1024_S2x1x1024_0_2
    (shapeCast _ (extractStridedSlice S2x1x1024 ![0, 0, 0] a slices_S8x6x1024_S2x1x1024_0_0_0) shapeCasts_S2x1x1024_S2x1024)))
    shapeCasts_S2x8192x1024_S16384x1024

/-- The factor at every token. -/
def factor (a : FVec Ideal S8x6x1024 .f32) : FVec Ideal S16384x1024 .f32 :=
  shapeCast _ (broadcastInDim S2x8192x1024 ![0, 1, 2] bcast_S2x1x1024_S2x8192x1024_0_1_2 (broadcastInDim S2x1x1024 ![0, 2] bcast_S2x1024_S2x1x1024_0_2
    (shapeCast _ (extractStridedSlice S2x1x1024 ![0, 1, 0] a slices_S8x6x1024_S2x1x1024_0_1_0) shapeCasts_S2x1x1024_S2x1024)))
    shapeCasts_S2x8192x1024_S16384x1024

/-- Every row normed and modulated. -/
def rows (x s f : FVec Ideal S16384x1024 .f32) (l : FVec Ideal S1024 .f32) : FVec Ideal S16384x1024 .f32 :=
  addf (mulf (mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 l)))
    (addf (broadcastInDim S16384x1024 ![] bcast_S_S16384x1024 (constant S_ .f32 0x3F800000#32)) f)) s

/-- Every row times the weights. -/
def proj (h : FVec Ideal S16384x1024 .f32) (w : FVec Ideal S1024x2016 .f32) : FVec Ideal S16384x2016 .f32 :=
  Host.dotGeneral dot_S16384x1024_S1024x2016_S16384x2016_1_0_0_1_n_n none h w

/-- A direction's sixteen columns. -/
def codes0 (y : FVec Ideal S16384x2016 .f32) : FVec Ideal S16384x16 .f32 := extractStridedSlice S16384x16 ![0, 1024] y slices_S16384x2016_S16384x16_0_1024
def codes1 (y : FVec Ideal S16384x2016 .f32) : FVec Ideal S16384x16 .f32 := extractStridedSlice S16384x16 ![0, 1040] y slices_S16384x2016_S16384x16_0_1040

/-- The columns as the call lays them. -/
def wideRows (y : FVec Ideal S16384x2016 .f32) : FVec Ideal S16384x2048 .f32 :=
  concatenate S16384x2048 1 [⟨S16384x1024, extractStridedSlice S16384x1024 ![0, 0] y slices_S16384x2016_S16384x1024_0_0⟩,
    ⟨S16384x960, extractStridedSlice S16384x960 ![0, 1056] y slices_S16384x2016_S16384x960_0_1056⟩, ⟨S16384x16, codes0 y⟩, ⟨S16384x16, codes1 y⟩,
    ⟨S16384x32, broadcastInDim S16384x32 ![] bcast_S_S16384x32 (constant (F := Ideal) S_ .f32 0x00000000#32)⟩]
    concatenates_S16384x1024_S16384x960_S16384x16_S16384x16_S16384x32_S16384x2048_d1

/-- The gates' arguments, negated, one direction's weights and bias. -/
def args (p : FVec Ideal S16384x16 .f32) (w : FVec Ideal S16x256 .f32) (b : FVec Ideal S256 .f32) : FVec Ideal S16384x256 .f32 :=
  Host.negf (addf (Host.dotGeneral dot_S16384x16_S16x256_S16384x256_1_0_0_1_n_n none p w)
    (broadcastInDim S16384x256 ![0, 1] bcast_S1x256_S16384x256_0_1 (broadcastInDim S1x256 ![1] bcast_S256_S1x256_1 b)))

/-- Their largest in each block of 256 rows. -/
def most (n : FVec Ideal S16384x256 .f32) : FVec Ideal S64 .f32 :=
  Host.reduce FloatOps.maximumf (shapeCast S64x256x256 n shapeCasts_S16384x256_S64x256x256) (constant S_ .f32 0xFF800000#32) reducesTo_S64x256x256_S64_d1_2 h_S_

def weights0 (a : FVec Ideal S2x16x256 .f32) : FVec Ideal S16x256 .f32 :=
  shapeCast _ (extractStridedSlice S1x16x256 ![0, 0, 0] a slices_S2x16x256_S1x16x256_0_0_0) shapeCasts_S1x16x256_S16x256
def weights1 (a : FVec Ideal S2x16x256 .f32) : FVec Ideal S16x256 .f32 :=
  shapeCast _ (extractStridedSlice S1x16x256 ![1, 0, 0] a slices_S2x16x256_S1x16x256_1_0_0) shapeCasts_S1x16x256_S16x256
def bias0 (a : FVec Ideal S2x256 .f32) : FVec Ideal S256 .f32 :=
  shapeCast _ (extractStridedSlice S1x256 ![0, 0] a slices_S2x256_S1x256_0_0) shapeCasts_S1x256_S256
def bias1 (a : FVec Ideal S2x256 .f32) : FVec Ideal S256 .f32 :=
  shapeCast _ (extractStridedSlice S1x256 ![1, 0] a slices_S2x256_S1x256_1_0) shapeCasts_S1x256_S256

/-- The two directions' in rows 0 and 1 of each block's eight, zeros in the others. -/
def laid (u v : FVec Ideal S64 .f32) : FVec Ideal S64x8x128 .f32 :=
  broadcastInDim S64x8x128 ![0, 1, 2] bcast_S64x8x1_S64x8x128_0_1_2 (broadcastInDim S64x8x1 ![0, 1] bcast_S64x8_S64x8x1_0_1
    (concatenate S64x8 1 [⟨S64x2, (concatenate S64x2 1 [⟨S64x1, broadcastInDim S64x1 ![0] bcast_S64_S64x1_0 u⟩, ⟨S64x1, broadcastInDim S64x1 ![0] bcast_S64_S64x1_0 v⟩]
        concatenates_S64x1_S64x1_S64x2_d1)⟩,
      ⟨S64x6, (broadcastInDim S64x6 ![] bcast_S_S64x6 (constant (F := Ideal) S_ .f32 0x00000000#32))⟩] concatenates_S64x2_S64x6_S64x8_d1))

theorem shift_apply (a : FVec Ideal S8x6x1024 .f32) (i : Fin 16384) (j : Fin 1024) : shift a (ix2 i j) = a (ix3 ⟨i.val / 8192, by omega⟩ 0 j) := by
  pointwise [shift]

theorem factor_apply (a : FVec Ideal S8x6x1024 .f32) (i : Fin 16384) (j : Fin 1024) : factor a (ix2 i j) = a (ix3 ⟨i.val / 8192, by omega⟩ 1 j) := by
  pointwise [factor]

theorem rows_apply (x s f : FVec Ideal S16384x1024 .f32) (l : FVec Ideal S1024 .f32) (i : Fin 16384) (j : Fin 1024) :
    rows x s f l (ix2 i j) = modNorm (fun k => x (ix2 i k)) (fun k => l (ix1 k)) (fun k => s (ix2 i k)) (fun k => f (ix2 i k)) j := by
  pointwise [rows, modNorm, scale]

theorem proj_apply (h : FVec Ideal S16384x1024 .f32) (w : FVec Ideal S1024x2016 .f32) (i : Fin 16384) (c : Fin 2016) :
    proj h w (ix2 i c) = ∑ k, h (ix2 i k) * w (ix2 k c) := by
  pointwise [proj]

theorem codes0_apply (y : FVec Ideal S16384x2016 .f32) (i : Fin 16384) (k : Fin 16) : codes0 y (ix2 i k) = y (ix2 i ⟨1024 + k.val, by omega⟩) := by
  pointwise [codes0]
theorem codes1_apply (y : FVec Ideal S16384x2016 .f32) (i : Fin 16384) (k : Fin 16) : codes1 y (ix2 i k) = y (ix2 i ⟨1040 + k.val, by omega⟩) := by
  pointwise [codes1]

theorem wideRows_apply (y : FVec Ideal S16384x2016 .f32) (i : Fin 16384) (c : Fin 2048) : wideRows y (ix2 i c) =
    if h : c.val < 1024 then y (ix2 i ⟨c.val, by omega⟩)
    else if h : c.val < 1984 then y (ix2 i ⟨c.val + 32, by omega⟩)
    else if h : c.val < 2016 then y (ix2 i ⟨c.val - 960, by omega⟩) else 0 := by
  pointwise [wideRows, codes0, codes1]
  split_ifs <;> (repeat' split) <;> first | rfl | omega | (refine congrArg (fun q => y (ix2 i q)) (Fin.ext ?_); first | omega | (simp only []; omega))

theorem args_apply (p : FVec Ideal S16384x16 .f32) (w : FVec Ideal S16x256 .f32) (b : FVec Ideal S256 .f32) (i : Fin 16384) (j : Fin 256) :
    args p w b (ix2 i j) = -(∑ k : Fin 16, p (ix2 i k) * w (ix2 k j) + b (ix1 j)) := by
  pointwise [args]

theorem weights0_apply (a : FVec Ideal S2x16x256 .f32) (k : Fin 16) (c : Fin 256) : weights0 a (ix2 k c) = a (ix3 0 k c) := by pointwise [weights0]
theorem weights1_apply (a : FVec Ideal S2x16x256 .f32) (k : Fin 16) (c : Fin 256) : weights1 a (ix2 k c) = a (ix3 1 k c) := by pointwise [weights1]
theorem bias0_apply (a : FVec Ideal S2x256 .f32) (c : Fin 256) : bias0 a (ix1 c) = a (ix2 0 c) := by pointwise [bias0]
theorem bias1_apply (a : FVec Ideal S2x256 .f32) (c : Fin 256) : bias1 a (ix1 c) = a (ix2 1 c) := by pointwise [bias1]

theorem most_apply (n : FVec Ideal S16384x256 .f32) (q : Fin 64) : most n (ix1 q) = largest fun r j => n (ix2 ⟨256 * q.val + r.val, by omega⟩ j) := by
  pointwise [most, largest, Cert.InProj.floor]
  congr 1
  funext x
  congr 2
  exact Fin.ext (by simp only []; omega)

theorem laid_apply (u v : FVec Ideal S64 .f32) (q : Fin 64) (s : Fin 8) (k : Fin 128) : laid u v (ix3 q s k) = entry (u (ix1 q)) (v (ix1 q)) s := by
  pointwise [laid, entry]
  fin_cases s <;> rfl

variable (m : (ℓ : Loc nD τ sig) → Buf (Elt Ideal) ℓ) (c : Dev nD)

/-- The in-projection of every token. -/
def projected (x : FVec Ideal S16384x1024 .f32) (mo : FVec Ideal S8x6x1024 .f32) (l : FVec Ideal S1024 .f32) (w : FVec Ideal S1024x2016 .f32) :
    FVec Ideal S16384x2016 .f32 := proj (rows x (shift mo) (factor mo) l) w

/-- A token's row, normed and modulated. -/
def rowNorm (x : FVec Ideal S16384x1024 .f32) (mo : FVec Ideal S8x6x1024 .f32) (l : FVec Ideal S1024 .f32) (i : Fin 16384) : Fin 1024 → EReal :=
  modNorm (fun k => x (ix2 i k)) (fun k => l (ix1 k)) (fun k => mo (ix3 ⟨i.val / 8192, by omega⟩ 0 k)) (fun k => mo (ix3 ⟨i.val / 8192, by omega⟩ 1 k))

theorem projected_apply (x : FVec Ideal S16384x1024 .f32) (mo : FVec Ideal S8x6x1024 .f32) (l : FVec Ideal S1024 .f32) (w : FVec Ideal S1024x2016 .f32)
    (i : Fin 16384) (j : Fin 2016) : projected x mo l w (ix2 i j) = ∑ k, rowNorm x mo l i k * w (ix2 k j) := by
  unfold projected
  rw [proj_apply]
  simp only [rows_apply, shift_apply, factor_apply]
  rfl

theorem wide_eq (x : FVec Ideal S16384x1024 .f32) (mo : FVec Ideal S8x6x1024 .f32) (l : FVec Ideal S1024 .f32) (w : FVec Ideal S1024x2016 .f32)
    (i : Fin 16384) (j : Fin 2048) : wideRows (projected x mo l w) (ix2 i j) = rowAt x mo l w i j := by
  rw [wideRows_apply]
  simp only [projected_apply]
  exact (proj_wide (rowNorm x mo l i) w j).symm

/-- Where a direction's codes stand in the row. -/
theorem code_eq (x : FVec Ideal S16384x1024 .f32) (mo : FVec Ideal S8x6x1024 .f32) (l : FVec Ideal S1024 .f32) (w : FVec Ideal S1024x2016 .f32)
    (i : Fin 16384) (z : Fin 2) (k : Fin 16) (q : Fin 2016) (hq : q.val = 1024 + 16 * z.val + k.val) :
    projected x mo l w (ix2 i q) = rowAt x mo l w i ⟨1984 + 16 * z.val + k.val, by omega⟩ := by
  rw [← wide_eq, wideRows_apply, dif_neg (by simp only []; omega), dif_neg (by simp only []; omega), dif_pos (by simp only []; omega)]
  exact congrArg (fun q => projected x mo l w (ix2 i q)) (Fin.ext (by simp only []; omega))

theorem rows_eq : Cert.Reference5Ideal.Value.res_out0 m c =
    truncf (F := Ideal) (φ := .f32) .bf16 (wideRows (projected (m ((c.tc : Thread nD τ).loc main_arg0)) (m ((c.tc : Thread nD τ).loc main_arg1))
      (m ((c.tc : Thread nD τ).loc main_arg2)) (m ((c.tc : Thread nD τ).loc main_arg3)))) bitsLt_bf16_f32 := rfl

theorem result_apply (x : FVec Ideal S16384x1024 .f32) (mo : FVec Ideal S8x6x1024 .f32) (l : FVec Ideal S1024 .f32) (w : FVec Ideal S1024x2016 .f32)
    (h0 : m ((c.tc : Thread nD τ).loc main_arg0) = x) (h1 : m ((c.tc : Thread nD τ).loc main_arg1) = mo)
    (h2 : m ((c.tc : Thread nD τ).loc main_arg2) = l) (h3 : m ((c.tc : Thread nD τ).loc main_arg3) = w) (i : Fin 16384) (j : Fin 2048) :
    Cert.Reference5Ideal.Value.res_out0 m c (ix2 i j) = rowAt x mo l w i j := by
  have hr := rows_eq m c
  rw [h0, h1, h2, h3] at hr
  exact (congrFun hr (ix2 i j)).trans (wide_eq x mo l w i j)

theorem gates_eq : Cert.Reference5Ideal.Value.res_out1 m c =
    laid (most (args (codes0 (projected (m ((c.tc : Thread nD τ).loc main_arg0)) (m ((c.tc : Thread nD τ).loc main_arg1)) (m ((c.tc : Thread nD τ).loc main_arg2))
        (m ((c.tc : Thread nD τ).loc main_arg3)))) (weights0 (m ((c.tc : Thread nD τ).loc main_arg4))) (bias0 (m ((c.tc : Thread nD τ).loc main_arg5)))))
      (most (args (codes1 (projected (m ((c.tc : Thread nD τ).loc main_arg0)) (m ((c.tc : Thread nD τ).loc main_arg1)) (m ((c.tc : Thread nD τ).loc main_arg2))
        (m ((c.tc : Thread nD τ).loc main_arg3)))) (weights1 (m ((c.tc : Thread nD τ).loc main_arg4))) (bias1 (m ((c.tc : Thread nD τ).loc main_arg5))))) := rfl

theorem gates_apply (x : FVec Ideal S16384x1024 .f32) (mo : FVec Ideal S8x6x1024 .f32) (l : FVec Ideal S1024 .f32) (w : FVec Ideal S1024x2016 .f32)
    (g : FVec Ideal S2x16x256 .f32) (bg : FVec Ideal S2x256 .f32) (h0 : m ((c.tc : Thread nD τ).loc main_arg0) = x) (h1 : m ((c.tc : Thread nD τ).loc main_arg1) = mo)
    (h2 : m ((c.tc : Thread nD τ).loc main_arg2) = l) (h3 : m ((c.tc : Thread nD τ).loc main_arg3) = w) (h4 : m ((c.tc : Thread nD τ).loc main_arg4) = g)
    (h5 : m ((c.tc : Thread nD τ).loc main_arg5) = bg) (q : Fin 64) (s : Fin 8) (k : Fin 128) : Cert.Reference5Ideal.Value.res_out1 m c (ix3 q s k)
      = entry (gateOf (rowAt x mo l w) g bg 0 q) (gateOf (rowAt x mo l w) g bg 1 q) s := by
  have hr := gates_eq m c
  rw [h0, h1, h2, h3, h4, h5] at hr
  refine (congrFun hr (ix3 q s k)).trans ?_
  have e0 : ∀ (i : Fin 16384) (k : Fin 16), projected x mo l w (ix2 i ⟨1024 + k.val, by omega⟩) = rowAt x mo l w i ⟨1984 + 16 * (0 : Fin 2).val + k.val, by omega⟩ :=
    fun i k => code_eq x mo l w i 0 k _ (by simp)
  have e1 : ∀ (i : Fin 16384) (k : Fin 16), projected x mo l w (ix2 i ⟨1040 + k.val, by omega⟩) = rowAt x mo l w i ⟨1984 + 16 * (1 : Fin 2).val + k.val, by omega⟩ :=
    fun i k => code_eq x mo l w i 1 k _ (by simp)
  rw [laid_apply, most_apply, most_apply]
  unfold gateOf
  simp only [neg_tall, args_apply, codes0_apply, codes1_apply, e0, e1, weights0_apply, weights1_apply, bias0_apply, bias1_apply]

end Cert.InProjRef

end
-- ==== Proof.lean ====
module

public import proofs.«01_k».proof.Defs
public import proofs.«01_k».proof.Proof.Gen.Kernel
public import proofs.«01_k».proof.Proof.Gen.Reference
public import proofs.«01_k».proof.Proof.Gen.Pre_experts_exist
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_experts_exist2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Experts
public import proofs.«01_k».proof.Proof.SameValue
public import proofs.«01_k».proof.Proof.Kernel2Run
public import proofs.«01_k».proof.Proof.Kernel2IdealRun
public import proofs.«01_k».proof.Proof.PairsValue
public import proofs.«01_k».proof.Proof.DenseValue
public import proofs.«01_k».proof.Proof.DenseReference
public import proofs.«01_k».proof.Proof.CombineValue
public import proofs.«01_k».proof.Proof.CombineReference
public import proofs.«01_k».proof.Proof.InProjValue
public import proofs.«01_k».proof.Proof.InProjReference
public import Idealize.ShloMosaic.Lib.Bf16Pair

@[expose] public section

noncomputable section

namespace Cert.Proof

open Idealize.ShloMosaic Idealize.ShloMosaic.TcCoe Idealize.SL.Sem

theorem existK (m : (ℓ : Loc Cert.Kernel.nD Cert.Kernel.τ Cert.Kernel.sig) → Buf (Elt Bits) ℓ) (h : Cert.Pre_Kernel m) :
    Cert.Kernel.Run.Exist m := fun i => Cert.Experts.exist _ _ _ _ _ _ (h 0) i

theorem existR (m : (ℓ : Loc Cert.Reference.nD Cert.Reference.τ Cert.Reference.sig) → Buf (Elt Bits) ℓ) (h : Cert.Pre_Reference m) :
    Cert.Reference.Run.Exist m := fun c i => Cert.Experts.exist _ _ _ _ _ _ (h c) i

theorem frame_kernel : Cert.quiescent_Kernel := fun m g h =>
  (θ_run _ _ _).mono (fun _ hr => ⟨fun c => (hr.1 c).2, hr.2⟩) (Cert.Kernel.Run.run (existK m h) g)

theorem frame_reference : Cert.quiescent_Reference := fun m g h =>
  (θ_run _ _ _).mono (fun _ hr => ⟨fun c => (hr.1 c).2, hr.2⟩) (Cert.Reference.Run.run (existR m h) g)

theorem bitexact : Cert.bitexact_Kernel_Reference := fun m g m' g' h ha =>
  have hE := existK m h
  have hE' : Cert.Reference.Run.Exist m' := fun c i => by
    obtain rfl : c = (0 : Dev Cert.Kernel.nD) := Subsingleton.elim _ _
    have e : Cert.Reference.Run.expertArr m' 0 = Cert.Kernel.Run.expertOf m := (ha 0).2.1
    rw [e]; exact hE i
  ⟨Cert.Kernel.Run.result hE,
    (θ_run _ _ _).mono (fun _ hr => hr.1) (Cert.Kernel.Run.run hE g),
    (θ_run _ _ _).mono (fun _ hr c => ⟨(hr.1 c).1.trans (Cert.Same.result_eq hE hE' c (ha c).1 (ha c).2.1 (ha c).2.2.1 (ha c).2.2.2.1 (ha c).2.2.2.2.1 (ha c).2.2.2.2.2), (hr.1 c).2⟩)
      (Cert.Reference.Run.run hE' g')⟩

/-! ## The kernel on rows of bf16 pairs -/

theorem existK2 (m : (ℓ : Loc Cert.Kernel2.nD Cert.Kernel2.τ Cert.Kernel2.sig) → Buf (Elt Bits) ℓ) (h : Cert.Pre_Kernel2 m) :
    Cert.Kernel2.Run.Exist m := fun i => Cert.Experts.exist2 _ _ _ _ _ _ (h 0) i

theorem existKI (m : (ℓ : Loc Cert.Kernel2Ideal.nD Cert.Kernel2Ideal.τ Cert.Kernel2Ideal.sig) → Buf (Elt Ideal) ℓ) (h : Cert.Pre_Kernel2Ideal m) :
    Cert.Kernel2Ideal.Run.Exist m := fun i => Cert.Experts.exist2 _ _ _ _ _ _ (h 0) i

theorem frame_kernel2 : Cert.quiescent_Kernel2 := fun m g h =>
  (θ_run _ _ _).mono (fun _ hr => ⟨fun c => (hr.1 c).2, hr.2⟩) (Cert.Kernel2.Run.run (existK2 m h) g)

theorem frame_kernel2Ideal : Cert.quiescent_Kernel2Ideal := fun m g h =>
  (θ_run _ _ _).mono (fun _ hr => ⟨fun c => (hr.1 c).2, hr.2⟩) (Cert.Kernel2Ideal.Run.run (existKI m h) g)

theorem preserves : Cert.preserves_Kernel2_Kernel2Ideal :=
  ⟨IdealRules.bf16_pair.statement Cert.Kernel2Ideal.S2048x512 Cert.Kernel2Ideal.S1024x512, IdealRules.bf16_pair.packStatement Cert.Kernel2Ideal.S1024x512⟩

theorem frame_reference2Ideal : Cert.quiescent_Reference2Ideal := fun m g _ =>
  (θ_run _ _ _).mono (fun r hr => ⟨fun c => (hr c).2, sem_eq_zero_of_no_sems (by decide) r.2⟩) (Cert.Reference2Ideal.Value.run m g)

theorem frame_reference2Ideal_pre : Cert.quiescent_Reference2Ideal_pre_experts_exist2 := fun m g _ => frame_reference2Ideal m g trivial

theorem algebraic : Cert.algebraic_Kernel2Ideal_Reference2Ideal := fun m g m' g' h ha =>
  have hE := existKI m h
  ⟨Cert.Kernel2Ideal.Run.result hE,
    (θ_run _ _ _).mono (fun _ hr => hr.1) (Cert.Kernel2Ideal.Run.run hE g),
    (θ_run _ _ _).mono (fun _ hr c => by
      obtain rfl : c = (0 : Dev Cert.Kernel2Ideal.nD) := Subsingleton.elim _ _
      exact ⟨(hr 0).1.trans (Cert.PairsValue.result_eq hE _ (ha 0).1 (ha 0).2.1 (ha 0).2.2.1 (ha 0).2.2.2.1 (ha 0).2.2.2.2.1 (ha 0).2.2.2.2.2), (hr 0).2⟩)
      (Cert.Reference2Ideal.Value.run m' g')⟩

/-! ## The out-projection and the dense feed-forward -/

theorem frame_kernel3 : Cert.quiescent_Kernel3 := fun m g _ => Cert.Kernel3.Gen.frame m g

theorem frame_kernel3Ideal : Cert.quiescent_Kernel3Ideal := fun m g _ => Cert.Kernel3Ideal.Gen.frame m g

theorem frame_reference3Ideal : Cert.quiescent_Reference3Ideal := fun m g _ =>
  (θ_run _ _ _).mono (fun r hr => ⟨fun c => (hr c).2, sem_eq_zero_of_no_sems (by decide) r.2⟩) (Cert.Reference3Ideal.Value.run m g)

theorem preserves3 : Cert.preserves_Kernel3_Kernel3Ideal := trivial

theorem algebraic3 : Cert.algebraic_Kernel3Ideal_Reference3Ideal := fun m g m' g' _ ha =>
  ⟨fun c => (Cert.Kernel3Ideal.Gen.dats m 0 c).arrAt 12 Cert.Kernel3Ideal.cfg0.N,
    Cert.Kernel3Ideal.Value.run_blocks m g,
    (θ_run _ _ _).mono (fun _ hr c => by
      refine ⟨(hr c).1.trans ?_, (hr c).2⟩
      funext j
      rw [eq_ix2 j]
      obtain ⟨h0, h1, h2, h3, h4, h5, h6, h7, h8, h9, h10, h11⟩ := ha c
      exact (Cert.DenseRef.result_apply m' c _ _ _ _ _ _ _ _ _ _ _ _ h0 h1 h2 h3 h4 h5 h6 h7 h8 h9 h10 h11 (j 0) (j 1)).trans
        (Cert.DenseValue.array_apply m c (j 0) (j 1)).symm)
      (Cert.Reference3Ideal.Value.run m' g')⟩

/-! ## The weighted sum and the last norm -/

theorem frame_kernel4 : Cert.quiescent_Kernel4 := fun m g _ => Cert.Kernel4.Gen.frame m g

theorem frame_kernel4Ideal : Cert.quiescent_Kernel4Ideal := fun m g _ => Cert.Kernel4Ideal.Gen.frame m g

theorem frame_reference4Ideal : Cert.quiescent_Reference4Ideal := fun m g _ =>
  (θ_run _ _ _).mono (fun r hr => ⟨fun c => (hr c).2, sem_eq_zero_of_no_sems (by decide) r.2⟩) (Cert.Reference4Ideal.Value.run m g)

theorem preserves4 : Cert.preserves_Kernel4_Kernel4Ideal :=
  IdealRules.bf16_pair.statement Cert.Kernel4Ideal.S2048x512 Cert.Kernel4Ideal.S1024x512

theorem algebraic4 : Cert.algebraic_Kernel4Ideal_Reference4Ideal := fun m g m' g' _ ha =>
  ⟨fun c => (Cert.Kernel4Ideal.Gen.dats m 0 c).arrAt 6 Cert.Kernel4Ideal.cfg0.N,
    Cert.Kernel4Ideal.Value.run_blocks m g,
    (θ_run _ _ _).mono (fun _ hr c => by
      refine ⟨(hr c).1.trans ?_, (hr c).2⟩
      funext j
      rw [eq_ix2 j]
      obtain ⟨h0, h1, h2, h3, h4⟩ := ha c
      exact (Cert.CombineRef.result_apply m' c _ _ _ _ _ h0 h1 h2 h3 h4 (j 0) (j 1)).trans (Cert.CombineValue.array_apply m c (j 0) (j 1)).symm)
      (Cert.Reference4Ideal.Value.run m' g')⟩

/-! ## The in-projection and its gates -/

theorem frame_kernel5 : Cert.quiescent_Kernel5 := fun m g _ => Cert.Kernel5.Gen.frame m g

theorem frame_kernel5Ideal : Cert.quiescent_Kernel5Ideal := fun m g _ => Cert.Kernel5Ideal.Gen.frame m g

theorem frame_reference5Ideal : Cert.quiescent_Reference5Ideal := fun m g _ =>
  (θ_run _ _ _).mono (fun r hr => ⟨fun c => (hr c).2.2, sem_eq_zero_of_no_sems (by decide) r.2⟩) (Cert.Reference5Ideal.Value.run m g)

theorem preserves5 : Cert.preserves_Kernel5_Kernel5Ideal := trivial

theorem algebraic5 : Cert.algebraic_Kernel5Ideal_Reference5Ideal := fun m g m' g' _ ha =>
  ⟨fun c => (Cert.Kernel5Ideal.Gen.dats m 0 c).arrAt 6 Cert.Kernel5Ideal.cfg0.N,
    fun c => (Cert.Kernel5Ideal.Gen.dats m 0 c).arrAt 7 Cert.Kernel5Ideal.cfg0.N,
    Cert.Kernel5Ideal.Value.run_blocks m g,
    (θ_run _ _ _).mono (fun _ hr c => by
      obtain ⟨h0, h1, h2, h3, h4, h5⟩ := ha c
      refine ⟨(hr c).1.trans ?_, (hr c).2.1.trans ?_, (hr c).2.2⟩
      · funext j
        rw [eq_ix2 j]
        exact (Cert.InProjRef.result_apply m' c _ _ _ _ h0 h1 h2 h3 (j 0) (j 1)).trans (Cert.InProjValue.array_apply m c (j 0) (j 1)).symm
      · funext j
        rw [eq_ix3 j]
        exact (Cert.InProjRef.gates_apply m' c _ _ _ _ _ _ h0 h1 h2 h3 h4 h5 (j 0) (j 1) (j 2)).trans (Cert.InProjValue.gates_apply m c (j 0) (j 1) (j 2)).symm)
      (Cert.Reference5Ideal.Value.run m' g')⟩

theorem claim : Cert.Claim :=
  ⟨Cert.Kernel.Gen.facts, Cert.Reference.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_experts_exist.Gen.facts, Cert.Pre_experts_exist2.Gen.facts,
    frame_kernel, frame_reference, frame_kernel2, frame_kernel2Ideal, frame_reference2Ideal, frame_reference2Ideal_pre,
    frame_kernel3, frame_kernel3Ideal, frame_reference3Ideal, frame_kernel4, frame_kernel4Ideal, frame_reference4Ideal,
    frame_kernel5, frame_kernel5Ideal, frame_reference5Ideal, bitexact, preserves, algebraic,
    preserves3, algebraic3, preserves4, algebraic4, preserves5, algebraic5⟩

end Cert.Proof

end
